-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "qscale" .f32 0x3E0293EE#32 (((Real.log 2)⁻¹ * (Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v46)) (v1 : (c : Dev Cert.Kernel11Ideal.nD) → Buf (Elt Ideal) ((c.tc : Thread Cert.Kernel11Ideal.nD Cert.Kernel11Ideal.τ).loc Cert.Kernel11Ideal.main_v49)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v46) = v0 c
          ∧ r.2.mem ((c.tc : Thread Cert.Kernel11Ideal.nD Cert.Kernel11Ideal.τ).loc Cert.Kernel11Ideal.main_v49) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v47) = v0 c
          ∧ r.2.mem ((c.tc : Thread Cert.Reference11Ideal.nD Cert.Reference11Ideal.τ).loc Cert.Reference11Ideal.main_v50) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S1x16384x11344 : Shape := ⟨3, ![1, 16384, 11344]⟩
abbrev S1x8x257 : Shape := ⟨3, ![1, 8, 257]⟩
abbrev S16384x11344 : Shape := ⟨2, ![16384, 11344]⟩
abbrev S16384x3072 : Shape := ⟨2, ![16384, 3072]⟩
abbrev S_ : Shape := ⟨0, ![]⟩

class Facts : Prop where
  shapeCasts_S1x16384x11344_S16384x11344 : S1x16384x11344.ShapeCasts S16384x11344
  slices_S16384x11344_S16384x3072_0_4176 : S16384x11344.Slices ![0, 4176] S16384x3072
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S1x8x257 : S_.BroadcastsInDim S1x8x257 (![] : Fin 0 → Fin S1x8x257.rank)
  reducesTo_S1x8x257_S_d0_1_2 : S1x8x257.ReducesTo [0, 1, 2] S_

variable [Facts]

def fn {F : FTy → Type} [FloatOps F] (main_arg0 : FVec F S1x16384x11344 .f32) (main_arg1 : FVec F S1x8x257 .f32) : IVec S_ 1 :=
  let main_v0 : FVec F S16384x11344 .f32 := shapeCast S16384x11344 main_arg0 shapeCasts_S1x16384x11344_S16384x11344
  let main_v1 : FVec F S16384x3072 .f32 := (extractStridedSlice S16384x3072 ![0, 4176] · slices_S16384x11344_S16384x3072_0_4176) main_v0
  let main_v2 : FVec F S16384x3072 .f32 := Host.absf main_v1
  let main_cst : FVec F S_ .f32 := constant S_ .f32 0x7F800000#32
  let main_v3 : FVec F S16384x3072 .f32 := broadcastInDim S16384x3072 ![] bcast_S_S16384x3072 main_cst
  let main_v4 : IVec S16384x3072 1 := cmpf .olt main_v2 main_v3
  let main_c : IVec S_ 1 := constantI S_ 1 1#1
  let main_v5 : IVec S_ 1 := (fun x v => Host.reduce IntOp.andi x v reducesTo_S16384x3072_S_d0_1 h_S_) main_v4 main_c
  let main_v6 : FVec F S1x8x257 .f32 := Host.absf main_arg1
  let main_cst_0 : FVec F S_ .f32 := constant S_ .f32 0x7F800000#32
  let main_v7 : FVec F S1x8x257 .f32 := broadcastInDim S1x8x257 ![] bcast_S_S1x8x257 main_cst_0
  let main_v8 : IVec S1x8x257 1 := cmpf .olt main_v6 main_v7
  let main_c_1 : IVec S_ 1 := constantI S_ 1 1#1
  let main_v9 : IVec S_ 1 := (fun x v => Host.reduce IntOp.andi x v reducesTo_S1x8x257_S_d0_1_2 h_S_) main_v8 main_c_1
  let main_v10 : IVec S_ 1 := andi main_v5 main_v9
  main_v10
-- ==== Kernel.lean ====
abbrev S1x16384x11344 : Shape := ⟨3, ![1, 16384, 11344]⟩
abbrev S1x8x257 : Shape := ⟨3, ![1, 8, 257]⟩
abbrev S1024 : Shape := ⟨1, ![1024]⟩
abbrev S16384x11344 : Shape := ⟨2, ![16384, 11344]⟩
abbrev S16384x1024 : Shape := ⟨2, ![16384, 1024]⟩
abbrev S16384x64 : Shape := ⟨2, ![16384, 64]⟩
abbrev S16384x16 : Shape := ⟨2, ![16384, 16]⟩
abbrev S16384x2048 : Shape := ⟨2, ![16384, 2048]⟩
abbrev S16384x7168 : Shape := ⟨2, ![16384, 7168]⟩
abbrev S1024x16384 : Shape := ⟨2, ![1024, 16384]⟩
abbrev S8x257 : Shape := ⟨2, ![8, 257]⟩
abbrev S_ : Shape := ⟨0, ![]⟩
abbrev S1024x1 : Shape := ⟨2, ![1024, 1]⟩
abbrev S8x1024 : Shape := ⟨2, ![8, 1024]⟩
abbrev S256x1024 : Shape := ⟨2, ![256, 1024]⟩
abbrev S1024x256 : Shape := ⟨2, ![1024, 256]⟩
abbrev S8x256x768 : Shape := ⟨3, ![8, 256, 768]⟩
abbrev S256x768 : Shape := ⟨2, ![256, 768]⟩
abbrev S1x1024 : Shape := ⟨2, ![1, 1024]⟩
abbrev S1x256x768 : Shape := ⟨3, ![1, 256, 768]⟩
abbrev S128x256 : Shape := ⟨2, ![128, 256]⟩
abbrev S128x768 : Shape := ⟨2, ![128, 768]⟩
abbrev S256x128 : Shape := ⟨2, ![256, 128]⟩
abbrev S768x128 : Shape := ⟨2, ![768, 128]⟩
abbrev S256 : Shape := ⟨1, ![256]⟩
abbrev S256x1 : Shape := ⟨2, ![256, 1]⟩

abbrev nBuf : Space → Nat
  | .hbm => 28
  | .vmem => 18
  | .smem => 0
  | _ => 0

abbrev bufTy : (tb : Table) → Fin (tcTables nBuf tb) → BufTy
  | .hbm, ⟨0, _⟩ => ⟨S1x16384x11344, .f32⟩
  | .hbm, ⟨1, _⟩ => ⟨S1x8x257, .f32⟩
  | .hbm, ⟨2, _⟩ => ⟨S1024, .i32⟩
  | .hbm, ⟨3, _⟩ => ⟨S1024, .i1⟩
  | .hbm, ⟨4, _⟩ => ⟨S16384x11344, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x64, .f32⟩
  | .hbm, ⟨10, _⟩ => ⟨S16384x16, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x2048, .f32⟩
  | .hbm, ⟨15, _⟩ => ⟨S16384x2048, .f32⟩
  | .hbm, ⟨16, _⟩ => ⟨S16384x7168, .f32⟩
  | .hbm, ⟨17, _⟩ => ⟨S16384x7168, .bf16⟩
  | .hbm, ⟨18, _⟩ => ⟨S16384x1024, .bf16⟩
  | .hbm, ⟨19, _⟩ => ⟨S1024x16384, .bf16⟩
  | .hbm, ⟨20, _⟩ => ⟨S8x257, .f32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S8x1024, .f32⟩
  | .hbm, ⟨27, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S8x1024, .f32⟩
  | .local _ .vmem, ⟨15, _⟩ => ⟨S256x1024, .bf16⟩
  | .local _ .vmem, ⟨16, _⟩ => ⟨S256x1024, .bf16⟩
  | .local _ .vmem, ⟨17, _⟩ => ⟨S8x256x768, .f32⟩
  | _, _ => ⟨S1x16384x11344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![c0_i32_1.toNat, v1.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c6_i32 : BitVec 32 := 6#32
  let c0_i32_0 : BitVec 32 := 0#32
  ![v1.toNat, c6_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let c0_i32_0 : BitVec 32 := 0#32
  ![v1.toNat, c6_i32.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c6_i32 : BitVec 32 := 6#32
  let c0_i32_1 : BitVec 32 := 0#32
  ![v1.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "qscale" => some (((Real.log 2)⁻¹ * (Real.sqrt 128)⁻¹ : ℝ) : EReal)
  | _ => none
-- ==== ReferenceIdeal.lean ====
abbrev S1x16384x11344 : Shape := ⟨3, ![1, 16384, 11344]⟩
abbrev S1x8x257 : Shape := ⟨3, ![1, 8, 257]⟩
abbrev S1x16384x1024 : Shape := ⟨3, ![1, 16384, 1024]⟩
abbrev S1x16384x8x128 : Shape := ⟨4, ![1, 16384, 8, 128]⟩
abbrev S_ : Shape := ⟨0, ![]⟩
abbrev S1x16896x8x128 : Shape := ⟨4, ![1, 16896, 8, 128]⟩
abbrev S1x264x64x8x128 : Shape := ⟨5, ![1, 264, 64, 8, 128]⟩
abbrev S256 : Shape := ⟨1, ![256]⟩
abbrev S256x1 : Shape := ⟨2, ![256, 1]⟩
abbrev S9 : Shape := ⟨1, ![9]⟩
abbrev S1x9 : Shape := ⟨2, ![1, 9]⟩
abbrev S256x9 : Shape := ⟨2, ![256, 9]⟩
abbrev S256x9x1 : Shape := ⟨3, ![256, 9, 1]⟩
abbrev S1x256x9x64x8x128 : Shape := ⟨6, ![1, 256, 9, 64, 8, 128]⟩
abbrev S1x256x576x8x128 : Shape := ⟨5, ![1, 256, 576, 8, 128]⟩
abbrev S1x256x64x8x128 : Shape := ⟨5, ![1, 256, 64, 8, 128]⟩
abbrev S1x256x8x64x576 : Shape := ⟨5, ![1, 256, 8, 64, 576]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S8x257 : Shape := ⟨2, ![8, 257]⟩
abbrev S64x576x1 : Shape := ⟨3, ![64, 576, 1]⟩
abbrev S8x64x576 : Shape := ⟨3, ![8, 64, 576]⟩
abbrev S256x576 : Shape := ⟨2, ![256, 576]⟩
abbrev S1x256x1x1x576 : Shape := ⟨5, ![1, 256, 1, 1, 576]⟩
abbrev S1x1x8x64x576 : Shape := ⟨5, ![1, 1, 8, 64, 576]⟩
abbrev S1x256x8x64 : Shape := ⟨4, ![1, 256, 8, 64]⟩
abbrev S1x256x8x64x1 : Shape := ⟨5, ![1, 256, 8, 64, 1]⟩
abbrev S1x256x8x128x64 : Shape := ⟨5, ![1, 256, 8, 128, 64]⟩
abbrev S16384x1024 : Shape := ⟨2, ![16384, 1024]⟩

abbrev nBuf : Space → Nat
  | .hbm => 137
  | .vmem => 0
  | .smem => 0
  | _ => 0

abbrev hbmTy0_0 (i : Nat) : BufTy := match i % 128 with
  | 0 => ⟨S1x16384x11344, .f32⟩
  | 1 => ⟨S1x8x257, .f32⟩
  | 2 => ⟨S1x16384x1024, .f32⟩
  | 3 => ⟨S1x16384x1024, .f32⟩
  | 4 => ⟨S1x16384x1024, .f32⟩
  | 5 => ⟨S1x16384x8x128, .f32⟩
  | 6 => ⟨S1x16384x8x128, .f32⟩
  | 7 => ⟨S1x16384x8x128, .f32⟩
  | 8 => ⟨S_, .i32⟩
  | 9 => ⟨S_, .f32⟩
  | 10 => ⟨S1x16896x8x128, .f32⟩
  | 11 => ⟨S1x264x64x8x128, .f32⟩
  | 12 => ⟨S_, .i32⟩
  | 13 => ⟨S_, .f32⟩
  | 14 => ⟨S1x16896x8x128, .f32⟩
  | 15 => ⟨S1x264x64x8x128, .f32⟩
  | 16 => ⟨S256, .i32⟩
  | 17 => ⟨S256x1, .i32⟩
  | 18 => ⟨S9, .i32⟩
  | 19 => ⟨S1x9, .i32⟩
  | 20 => ⟨S256x9, .i32⟩
  | 21 => ⟨S256x9, .i32⟩
  | 22 => ⟨S256x9, .i32⟩
  | 23 => ⟨S_, .i32⟩
  | 24 => ⟨S256x9, .i32⟩
  | 25 => ⟨S256x9, .i1⟩
  | 26 => ⟨S_, .i32⟩
  | 27 => ⟨S256x9, .i32⟩
  | 28 => ⟨S256x9, .i32⟩
  | 29 => ⟨S256x9, .i32⟩
  | 30 => ⟨S256x9x1, .i32⟩
  | 31 => ⟨S1x256x9x64x8x128, .f32⟩
  | 32 => ⟨S1x256x576x8x128, .f32⟩
  | 33 => ⟨S_, .i32⟩
  | 34 => ⟨S256x9, .i32⟩
  | 35 => ⟨S256x9, .i1⟩
  | 36 => ⟨S_, .i32⟩
  | 37 => ⟨S256x9, .i32⟩
  | 38 => ⟨S256x9, .i32⟩
  | 39 => ⟨S256x9, .i32⟩
  | 40 => ⟨S256x9x1, .i32⟩
  | 41 => ⟨S1x256x9x64x8x128, .f32⟩
  | 42 => ⟨S1x256x576x8x128, .f32⟩
  | 43 => ⟨S1x256x64x8x128, .f32⟩
  | 44 => ⟨S1x256x8x64x576, .f32⟩
  | 45 => ⟨S_, .f32⟩
  | 46 => ⟨S_, .f32⟩
  | 47 => ⟨S1x256x8x64x576, .f32⟩
  | 48 => ⟨S1x256x8x64x576, .f32⟩
  | 49 => ⟨S64, .i32⟩
  | 50 => ⟨S576, .i32⟩
  | 51 => ⟨S64x1, .i32⟩
  | 52 => ⟨S1x576, .i32⟩
  | 53 => ⟨S_, .i32⟩
  | 54 => ⟨S1x576, .i32⟩
  | 55 => ⟨S1x576, .i32⟩
  | 56 => ⟨S64x576, .i32⟩
  | 57 => ⟨S64x576, .i32⟩
  | 58 => ⟨S64x576, .i32⟩
  | 59 => ⟨S8x257, .f32⟩
  | 60 => ⟨S_, .i32⟩
  | 61 => ⟨S_, .i32⟩
  | 62 => ⟨S_, .i32⟩
  | 63 => ⟨S64x576, .i32⟩
  | 64 => ⟨S64x576, .i32⟩
  | 65 => ⟨S_, .i32⟩
  | 66 => ⟨S64x576, .i32⟩
  | 67 => ⟨S64x576, .i32⟩
  | 68 => ⟨S_, .i32⟩
  | 69 => ⟨S64x576, .i32⟩
  | 70 => ⟨S64x576, .i32⟩
  | 71 => ⟨S_, .i32⟩
  | 72 => ⟨S64x576, .i32⟩
  | 73 => ⟨S64x576, .i1⟩
  | 74 => ⟨S_, .i32⟩
  | 75 => ⟨S64x576, .i32⟩
  | 76 => ⟨S64x576, .i32⟩
  | 77 => ⟨S64x576, .i32⟩
  | 78 => ⟨S64x576x1, .i32⟩
  | 79 => ⟨S8x64x576, .f32⟩
  | 80 => ⟨S256, .i32⟩
  | 81 => ⟨S256x1, .i32⟩
  | 82 => ⟨S_, .i32⟩
  | 83 => ⟨S256x1, .i32⟩
  | 84 => ⟨S256x1, .i32⟩
  | 85 => ⟨S1x576, .i32⟩
  | 86 => ⟨S_, .i32⟩
  | 87 => ⟨S_, .i32⟩
  | 88 => ⟨S1x576, .i32⟩
  | 89 => ⟨S1x576, .i32⟩
  | 90 => ⟨S1x576, .i32⟩
  | 91 => ⟨S_, .i32⟩
  | 92 => ⟨S1x576, .i32⟩
  | 93 => ⟨S1x576, .i1⟩
  | 94 => ⟨S1x576, .i32⟩
  | 95 => ⟨S1x576, .i32⟩
  | 96 => ⟨S_, .i32⟩
  | 97 => ⟨S1x576, .i32⟩
  | 98 => ⟨S1x576, .i1⟩
  | 99 => ⟨S1x576, .i1⟩
  | 100 => ⟨S_, .i32⟩
  | 101 => ⟨S1x576, .i32⟩
  | 102 => ⟨S1x576, .i32⟩
  | 103 => ⟨S1x576, .i32⟩
  | 104 => ⟨S256x576, .i32⟩
  | 105 => ⟨S256x576, .i32⟩
  | 106 => ⟨S256x576, .i32⟩
  | 107 => ⟨S_, .i32⟩
  | 108 => ⟨S256x576, .i32⟩
  | 109 => ⟨S256x576, .i1⟩
  | 110 => ⟨S1x256x1x1x576, .i1⟩
  | 111 => ⟨S1x1x8x64x576, .f32⟩
  | 112 => ⟨S1x256x8x64x576, .f32⟩
  | 113 => ⟨S1x256x8x64x576, .f32⟩
  | 114 => ⟨S_, .f32⟩
  | 115 => ⟨S_, .f32⟩
  | 116 => ⟨S1x256x8x64x576, .i1⟩
  | 117 => ⟨S1x256x8x64x576, .f32⟩
  | 118 => ⟨S1x256x8x64x576, .f32⟩
  | 119 => ⟨S_, .f32⟩
  | 120 => ⟨S1x256x8x64, .f32⟩
  | 121 => ⟨S_, .f32⟩
  | 122 => ⟨S1x256x8x64, .f32⟩
  | 123 => ⟨S1x256x8x64, .f32⟩
  | 124 => ⟨S1x256x8x64x1, .f32⟩
  | 125 => ⟨S1x256x8x64x576, .f32⟩
  | 126 => ⟨S1x256x8x64x576, .f32⟩
  | 127 => ⟨S1x256x8x64x576, .f32⟩
  | _ => ⟨S1x16384x11344, .f32⟩

abbrev hbmTy0_1 (i : Nat) : BufTy := match i % 128 with
  | 0 => ⟨S_, .f32⟩
  | 1 => ⟨S1x256x8x64, .f32⟩
  | 2 => ⟨S1x256x8x64x1, .f32⟩
  | 3 => ⟨S1x256x8x64x576, .f32⟩
  | 4 => ⟨S1x256x8x64x576, .f32⟩
  | 5 => ⟨S1x256x8x128x64, .f32⟩
  | 6 => ⟨S1x256x64x8x128, .f32⟩
  | 7 => ⟨S16384x1024, .f32⟩
  | 8 => ⟨S16384x1024, .bf16⟩
  | _ => ⟨S1x16384x11344, .f32⟩

abbrev hbmTy (i : Nat) : BufTy := match i / 128 with
  | 0 => hbmTy0_0 i
  | 1 => hbmTy0_1 i
  | _ => ⟨S1x16384x11344, .f32⟩

abbrev bufTy : (tb : Table) → Fin (tcTables nBuf tb) → BufTy
  | .hbm, ⟨i, _⟩ => hbmTy i
  | _, _ => ⟨S1x16384x11344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_6 : Ref sig .tc := ⟨.hbm, 60, rfl⟩
abbrev main_c_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_c : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_0 : Ref sig .tc := ⟨.hbm, 100, rfl⟩
abbrev main_call3_v12 : Ref sig .tc := ⟨.hbm, 101, rfl⟩
abbrev main_call3_v13 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_c_13 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_14 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v73 : Ref sig .tc := ⟨.hbm, 118, rfl⟩
abbrev main_cst_15 : Ref sig .tc := ⟨.hbm, 119, rfl⟩
abbrev main_v74 : Ref sig .tc := ⟨.hbm, 120, rfl⟩
abbrev main_cst_16 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_17 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩

abbrev nD : Nat := 1
abbrev τ : Topo := Topo.v7x

variable {F : FTy → Type} [FloatOps F]
-- ==== Kernel2.lean ====
abbrev S1x16384x2048 : Shape := ⟨3, ![1, 16384, 2048]⟩
abbrev S1x2048x11344 : Shape := ⟨3, ![1, 2048, 11344]⟩
abbrev S2048x11344 : Shape := ⟨2, ![2048, 11344]⟩
abbrev S2048x1024 : Shape := ⟨2, ![2048, 1024]⟩
abbrev S2048x64 : Shape := ⟨2, ![2048, 64]⟩
abbrev S2048x16 : Shape := ⟨2, ![2048, 16]⟩
abbrev S2048x2048 : Shape := ⟨2, ![2048, 2048]⟩
abbrev S2048x7168 : Shape := ⟨2, ![2048, 7168]⟩
abbrev S16384x2048 : Shape := ⟨2, ![16384, 2048]⟩
abbrev S16384x7168 : Shape := ⟨2, ![16384, 7168]⟩
abbrev S1024x2048 : Shape := ⟨2, ![1024, 2048]⟩
abbrev S1024x1024 : Shape := ⟨2, ![1024, 1024]⟩

abbrev nBuf : Space → Nat
  | .hbm => 29
  | .vmem => 6
  | .smem => 0
  | _ => 0

abbrev bufTy : (tb : Table) → Fin (tcTables nBuf tb) → BufTy
  | .hbm, ⟨0, _⟩ => ⟨S1x16384x2048, .f32⟩
  | .hbm, ⟨1, _⟩ => ⟨S1x2048x11344, .f32⟩
  | .hbm, ⟨2, _⟩ => ⟨S2048x11344, .f32⟩
  | .hbm, ⟨3, _⟩ => ⟨S2048x1024, .f32⟩
  | .hbm, ⟨4, _⟩ => ⟨S2048x11344, .f32⟩
  | .hbm, ⟨5, _⟩ => ⟨S2048x1024, .f32⟩
  | .hbm, ⟨6, _⟩ => ⟨S2048x11344, .f32⟩
  | .hbm, ⟨7, _⟩ => ⟨S2048x1024, .f32⟩
  | .hbm, ⟨8, _⟩ => ⟨S2048x11344, .f32⟩
  | .hbm, ⟨9, _⟩ => ⟨S2048x1024, .f32⟩
  | .hbm, ⟨10, _⟩ => ⟨S2048x11344, .f32⟩
  | .hbm, ⟨11, _⟩ => ⟨S2048x64, .f32⟩
  | .hbm, ⟨12, _⟩ => ⟨S2048x11344, .f32⟩
  | .hbm, ⟨13, _⟩ => ⟨S2048x16, .f32⟩
  | .hbm, ⟨14, _⟩ => ⟨S2048x11344, .f32⟩
  | .hbm, ⟨15, _⟩ => ⟨S2048x1024, .f32⟩
  | .hbm, ⟨16, _⟩ => ⟨S2048x11344, .f32⟩
  | .hbm, ⟨17, _⟩ => ⟨S2048x1024, .f32⟩
  | .hbm, ⟨18, _⟩ => ⟨S2048x11344, .f32⟩
  | .hbm, ⟨19, _⟩ => ⟨S2048x1024, .f32⟩
  | .hbm, ⟨20, _⟩ => ⟨S2048x11344, .f32⟩
  | .hbm, ⟨21, _⟩ => ⟨S2048x2048, .f32⟩
  | .hbm, ⟨22, _⟩ => ⟨S2048x11344, .f32⟩
  | .hbm, ⟨23, _⟩ => ⟨S2048x2048, .f32⟩
  | .hbm, ⟨24, _⟩ => ⟨S2048x7168, .f32⟩
  | .hbm, ⟨25, _⟩ => ⟨S2048x7168, .bf16⟩
  | .hbm, ⟨26, _⟩ => ⟨S16384x2048, .f32⟩
  | .hbm, ⟨27, _⟩ => ⟨S16384x2048, .bf16⟩
  | .hbm, ⟨28, _⟩ => ⟨S16384x7168, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S1x16384x2048 : Shape := ⟨3, ![1, 16384, 2048]⟩
abbrev S1x2048x11344 : Shape := ⟨3, ![1, 2048, 11344]⟩
abbrev S2048x11344 : Shape := ⟨2, ![2048, 11344]⟩
abbrev S1x16384x11344 : Shape := ⟨3, ![1, 16384, 11344]⟩
abbrev S16384x11344 : Shape := ⟨2, ![16384, 11344]⟩
abbrev S16384x4096 : Shape := ⟨2, ![16384, 4096]⟩
abbrev S16384x3072 : Shape := ⟨2, ![16384, 3072]⟩
abbrev S16384x7168 : Shape := ⟨2, ![16384, 7168]⟩

abbrev nBuf : Space → Nat
  | .hbm => 9
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048x11344, .f32⟩
  | .hbm, ⟨2, _⟩ => ⟨S2048x11344, .f32⟩
  | .hbm, ⟨3, _⟩ => ⟨S1x16384x11344, .f32⟩
  | .hbm, ⟨4, _⟩ => ⟨S16384x11344, .f32⟩
  | .hbm, ⟨5, _⟩ => ⟨S16384x4096, .f32⟩
  | .hbm, ⟨6, _⟩ => ⟨S16384x3072, .f32⟩
  | .hbm, ⟨7, _⟩ => ⟨S16384x7168, .f32⟩
  | .hbm, ⟨8, _⟩ => ⟨S16384x7168, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel3.lean ====
abbrev S1x16384x2048 : Shape := ⟨3, ![1, 16384, 2048]⟩
abbrev S1x2048x11344 : Shape := ⟨3, ![1, 2048, 11344]⟩
abbrev S2048x11344 : Shape := ⟨2, ![2048, 11344]⟩
abbrev S2048x2048 : Shape := ⟨2, ![2048, 2048]⟩
abbrev S2048x4096 : Shape := ⟨2, ![2048, 4096]⟩
abbrev S16384x2048 : Shape := ⟨2, ![16384, 2048]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S1x16384x2048, .f32⟩
  | .hbm, ⟨1, _⟩ => ⟨S1x2048x11344, .f32⟩
  | .hbm, ⟨2, _⟩ => ⟨S2048x11344, .f32⟩
  | .hbm, ⟨3, _⟩ => ⟨S2048x2048, .f32⟩
  | .hbm, ⟨4, _⟩ => ⟨S2048x11344, .f32⟩
  | .hbm, ⟨5, _⟩ => ⟨S2048x2048, .f32⟩
  | .hbm, ⟨6, _⟩ => ⟨S2048x4096, .f32⟩
  | .hbm, ⟨7, _⟩ => ⟨S2048x4096, .bf16⟩
  | .hbm, ⟨8, _⟩ => ⟨S16384x2048, .f32⟩
  | .hbm, ⟨9, _⟩ => ⟨S16384x2048, .bf16⟩
  | .hbm, ⟨10, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S1x16384x2048 : Shape := ⟨3, ![1, 16384, 2048]⟩
abbrev S1x2048x11344 : Shape := ⟨3, ![1, 2048, 11344]⟩
abbrev S2048x11344 : Shape := ⟨2, ![2048, 11344]⟩
abbrev S1x16384x11344 : Shape := ⟨3, ![1, 16384, 11344]⟩
abbrev S16384x11344 : Shape := ⟨2, ![16384, 11344]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048x11344, .f32⟩
  | .hbm, ⟨2, _⟩ => ⟨S2048x11344, .f32⟩
  | .hbm, ⟨3, _⟩ => ⟨S1x16384x11344, .f32⟩
  | .hbm, ⟨4, _⟩ => ⟨S16384x11344, .f32⟩
  | .hbm, ⟨5, _⟩ => ⟨S16384x4096, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S1x16384x2048 : Shape := ⟨3, ![1, 16384, 2048]⟩
abbrev S1x2048x11344 : Shape := ⟨3, ![1, 2048, 11344]⟩
abbrev S2048x11344 : Shape := ⟨2, ![2048, 11344]⟩
abbrev S2048x64 : Shape := ⟨2, ![2048, 64]⟩
abbrev S2048x16 : Shape := ⟨2, ![2048, 16]⟩
abbrev S_ : Shape := ⟨0, ![]⟩
abbrev S2048x48 : Shape := ⟨2, ![2048, 48]⟩
abbrev S2048x128 : Shape := ⟨2, ![2048, 128]⟩
abbrev S16384x2048 : Shape := ⟨2, ![16384, 2048]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 13
  | .vmem => 5
  | .smem => 0
  | _ => 0

abbrev bufTy : (tb : Table) → Fin (tcTables nBuf tb) → BufTy
  | .hbm, ⟨0, _⟩ => ⟨S1x16384x2048, .f32⟩
  | .hbm, ⟨1, _⟩ => ⟨S1x2048x11344, .f32⟩
  | .hbm, ⟨2, _⟩ => ⟨S2048x11344, .f32⟩
  | .hbm, ⟨3, _⟩ => ⟨S2048x64, .f32⟩
  | .hbm, ⟨4, _⟩ => ⟨S2048x11344, .f32⟩
  | .hbm, ⟨5, _⟩ => ⟨S2048x16, .f32⟩
  | .hbm, ⟨6, _⟩ => ⟨S_, .f32⟩
  | .hbm, ⟨7, _⟩ => ⟨S2048x48, .f32⟩
  | .hbm, ⟨8, _⟩ => ⟨S2048x128, .f32⟩
  | .hbm, ⟨9, _⟩ => ⟨S2048x128, .bf16⟩
  | .hbm, ⟨10, _⟩ => ⟨S16384x2048, .f32⟩
  | .hbm, ⟨11, _⟩ => ⟨S16384x2048, .bf16⟩
  | .hbm, ⟨12, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S1x16384x2048 : Shape := ⟨3, ![1, 16384, 2048]⟩
abbrev S1x2048x11344 : Shape := ⟨3, ![1, 2048, 11344]⟩
abbrev S2048x11344 : Shape := ⟨2, ![2048, 11344]⟩
abbrev S1x16384x11344 : Shape := ⟨3, ![1, 16384, 11344]⟩
abbrev S16384x11344 : Shape := ⟨2, ![16384, 11344]⟩
abbrev S16384x80 : Shape := ⟨2, ![16384, 80]⟩
abbrev S_ : Shape := ⟨0, ![]⟩
abbrev S16384x48 : Shape := ⟨2, ![16384, 48]⟩
abbrev S16384x128 : Shape := ⟨2, ![16384, 128]⟩

abbrev nBuf : Space → Nat
  | .hbm => 9
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048x11344, .f32⟩
  | .hbm, ⟨2, _⟩ => ⟨S2048x11344, .f32⟩
  | .hbm, ⟨3, _⟩ => ⟨S1x16384x11344, .f32⟩
  | .hbm, ⟨4, _⟩ => ⟨S16384x11344, .f32⟩
  | .hbm, ⟨5, _⟩ => ⟨S16384x80, .f32⟩
  | .hbm, ⟨6, _⟩ => ⟨S_, .f32⟩
  | .hbm, ⟨7, _⟩ => ⟨S16384x48, .f32⟩
  | .hbm, ⟨8, _⟩ => ⟨S16384x128, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S1x16384x1024 : Shape := ⟨3, ![1, 16384, 1024]⟩
abbrev S1x16384x4096 : Shape := ⟨3, ![1, 16384, 4096]⟩
abbrev S1x1024x2048 : Shape := ⟨3, ![1, 1024, 2048]⟩
abbrev S16384x1024 : Shape := ⟨2, ![16384, 1024]⟩
abbrev S16384x4096 : Shape := ⟨2, ![16384, 4096]⟩
abbrev S1024x2048 : Shape := ⟨2, ![1024, 2048]⟩
abbrev S16384x2048 : Shape := ⟨2, ![16384, 2048]⟩
abbrev S256x1024 : Shape := ⟨2, ![256, 1024]⟩
abbrev S256x2048 : Shape := ⟨2, ![256, 2048]⟩

abbrev nBuf : Space → Nat
  | .hbm => 15
  | .vmem => 12
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x16384x4096, .f32⟩
  | .hbm, ⟨3, _⟩ => ⟨S1x1024x2048, .f32⟩
  | .hbm, ⟨4, _⟩ => ⟨S1x1024x2048, .f32⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S16384x1024, .bf16⟩
  | .hbm, ⟨9, _⟩ => ⟨S16384x4096, .f32⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1024x2048, .bf16⟩
  | .local _ .vmem, ⟨9, _⟩ => ⟨S1024x2048, .bf16⟩
  | .local _ .vmem, ⟨10, _⟩ => ⟨S256x2048, .bf16⟩
  | .local _ .vmem, ⟨11, _⟩ => ⟨S256x2048, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S1x16384x1024 : Shape := ⟨3, ![1, 16384, 1024]⟩
abbrev S1x16384x4096 : Shape := ⟨3, ![1, 16384, 4096]⟩
abbrev S1x1024x2048 : Shape := ⟨3, ![1, 1024, 2048]⟩
abbrev S1x16384x2048 : Shape := ⟨3, ![1, 16384, 2048]⟩
abbrev S_ : Shape := ⟨0, ![]⟩
abbrev S1024x2048 : Shape := ⟨2, ![1024, 2048]⟩
abbrev S16384x2048 : Shape := ⟨2, ![16384, 2048]⟩

abbrev nBuf : Space → Nat
  | .hbm => 32
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x16384x4096, .f32⟩
  | .hbm, ⟨3, _⟩ => ⟨S1x1024x2048, .f32⟩
  | .hbm, ⟨4, _⟩ => ⟨S1x1024x2048, .f32⟩
  | .hbm, ⟨5, _⟩ => ⟨S1x16384x2048, .f32⟩
  | .hbm, ⟨6, _⟩ => ⟨S1x16384x2048, .f32⟩
  | .hbm, ⟨7, _⟩ => ⟨S1x16384x2048, .f32⟩
  | .hbm, ⟨8, _⟩ => ⟨S1x16384x2048, .f32⟩
  | .hbm, ⟨9, _⟩ => ⟨S_, .f32⟩
  | .hbm, ⟨10, _⟩ => ⟨S1x16384x2048, .f32⟩
  | .hbm, ⟨11, _⟩ => ⟨S1x16384x2048, .f32⟩
  | .hbm, ⟨12, _⟩ => ⟨S_, .f32⟩
  | .hbm, ⟨13, _⟩ => ⟨S1x16384x2048, .f32⟩
  | .hbm, ⟨14, _⟩ => ⟨S1x16384x2048, .f32⟩
  | .hbm, ⟨15, _⟩ => ⟨S1024x2048, .f32⟩
  | .hbm, ⟨16, _⟩ => ⟨S1x16384x2048, .f32⟩
  | .hbm, ⟨17, _⟩ => ⟨S1x16384x2048, .f32⟩
  | .hbm, ⟨18, _⟩ => ⟨S1x16384x2048, .f32⟩
  | .hbm, ⟨19, _⟩ => ⟨S1x16384x2048, .f32⟩
  | .hbm, ⟨20, _⟩ => ⟨S_, .f32⟩
  | .hbm, ⟨21, _⟩ => ⟨S1x16384x2048, .f32⟩
  | .hbm, ⟨22, _⟩ => ⟨S1x16384x2048, .f32⟩
  | .hbm, ⟨23, _⟩ => ⟨S_, .f32⟩
  | .hbm, ⟨24, _⟩ => ⟨S1x16384x2048, .f32⟩
  | .hbm, ⟨25, _⟩ => ⟨S1x16384x2048, .f32⟩
  | .hbm, ⟨26, _⟩ => ⟨S1024x2048, .f32⟩
  | .hbm, ⟨27, _⟩ => ⟨S1x16384x2048, .f32⟩
  | .hbm, ⟨28, _⟩ => ⟨S1x16384x2048, .f32⟩
  | .hbm, ⟨29, _⟩ => ⟨S1x16384x2048, .f32⟩
  | .hbm, ⟨30, _⟩ => ⟨S16384x2048, .f32⟩
  | .hbm, ⟨31, _⟩ => ⟨S16384x2048, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel7.lean ====
abbrev S1x16384x2048 : Shape := ⟨3, ![1, 16384, 2048]⟩
abbrev S1x12288 : Shape := ⟨2, ![1, 12288]⟩
abbrev S1x2048 : Shape := ⟨2, ![1, 2048]⟩
abbrev S16384x2048 : Shape := ⟨2, ![16384, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S1x16384x2048, .f32⟩
  | .hbm, ⟨1, _⟩ => ⟨S1x12288, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S1x16384x2048 : Shape := ⟨3, ![1, 16384, 2048]⟩
abbrev S1x12288 : Shape := ⟨2, ![1, 12288]⟩
abbrev S1x2048 : Shape := ⟨2, ![1, 2048]⟩
abbrev S1x1x2048 : Shape := ⟨3, ![1, 1, 2048]⟩
abbrev S_ : Shape := ⟨0, ![]⟩
abbrev S1x16384 : Shape := ⟨2, ![1, 16384]⟩
abbrev S1x16384x1 : Shape := ⟨3, ![1, 16384, 1]⟩
abbrev S2048 : Shape := ⟨1, ![2048]⟩
abbrev S16384x2048 : Shape := ⟨2, ![16384, 2048]⟩

abbrev nBuf : Space → Nat
  | .hbm => 33
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x12288, .f32⟩
  | .hbm, ⟨2, _⟩ => ⟨S1x2048, .f32⟩
  | .hbm, ⟨3, _⟩ => ⟨S1x2048, .f32⟩
  | .hbm, ⟨4, _⟩ => ⟨S1x1x2048, .f32⟩
  | .hbm, ⟨5, _⟩ => ⟨S1x2048, .f32⟩
  | .hbm, ⟨6, _⟩ => ⟨S1x1x2048, .f32⟩
  | .hbm, ⟨7, _⟩ => ⟨S1x16384x2048, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x2048, .f32⟩
  | .hbm, ⟨19, _⟩ => ⟨S1x16384x2048, .f32⟩
  | .hbm, ⟨20, _⟩ => ⟨S2048, .f32⟩
  | .hbm, ⟨21, _⟩ => ⟨S1x1x2048, .f32⟩
  | .hbm, ⟨22, _⟩ => ⟨S1x16384x2048, .f32⟩
  | .hbm, ⟨23, _⟩ => ⟨S1x16384x2048, .f32⟩
  | .hbm, ⟨24, _⟩ => ⟨S_, .f32⟩
  | .hbm, ⟨25, _⟩ => ⟨S1x1x2048, .f32⟩
  | .hbm, ⟨26, _⟩ => ⟨S1x1x2048, .f32⟩
  | .hbm, ⟨27, _⟩ => ⟨S1x16384x2048, .f32⟩
  | .hbm, ⟨28, _⟩ => ⟨S1x16384x2048, .f32⟩
  | .hbm, ⟨29, _⟩ => ⟨S1x16384x2048, .f32⟩
  | .hbm, ⟨30, _⟩ => ⟨S1x16384x2048, .f32⟩
  | .hbm, ⟨31, _⟩ => ⟨S16384x2048, .f32⟩
  | .hbm, ⟨32, _⟩ => ⟨S16384x2048, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel6.lean ====
abbrev S1x16384x2048 : Shape := ⟨3, ![1, 16384, 2048]⟩
abbrev S1x2048x2048 : Shape := ⟨3, ![1, 2048, 2048]⟩
abbrev S1x12288 : Shape := ⟨2, ![1, 12288]⟩
abbrev S1x2048 : Shape := ⟨2, ![1, 2048]⟩
abbrev S16384x2048 : Shape := ⟨2, ![16384, 2048]⟩
abbrev S2048x2048 : Shape := ⟨2, ![2048, 2048]⟩
abbrev S2048 : Shape := ⟨1, ![2048]⟩
abbrev S262144x128 : Shape := ⟨2, ![262144, 128]⟩
abbrev S256x2048 : Shape := ⟨2, ![256, 2048]⟩
abbrev S4096x128 : Shape := ⟨2, ![4096, 128]⟩
abbrev S256 : Shape := ⟨1, ![256]⟩
abbrev S256x1 : Shape := ⟨2, ![256, 1]⟩
abbrev S256x128 : Shape := ⟨2, ![256, 128]⟩

abbrev nBuf : Space → Nat
  | .hbm => 17
  | .vmem => 13
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S1x2048x2048, .f32⟩
  | .hbm, ⟨3, _⟩ => ⟨S1x12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S16384x2048, .bf16⟩
  | .hbm, ⟨11, _⟩ => ⟨S2048x2048, .f32⟩
  | .hbm, ⟨12, _⟩ => ⟨S2048x2048, .bf16⟩
  | .hbm, ⟨13, _⟩ => ⟨S2048, .f32⟩
  | .hbm, ⟨14, _⟩ => ⟨S1x2048, .f32⟩
  | .hbm, ⟨15, _⟩ => ⟨S16384x2048, .f32⟩
  | .hbm, ⟨16, _⟩ => ⟨S262144x128, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S4096x128, .f32⟩
  | .local _ .vmem, ⟨12, _⟩ => ⟨S4096x128, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S1x16384x2048 : Shape := ⟨3, ![1, 16384, 2048]⟩
abbrev S1x2048x2048 : Shape := ⟨3, ![1, 2048, 2048]⟩
abbrev S1x12288 : Shape := ⟨2, ![1, 12288]⟩
abbrev S1x2048 : Shape := ⟨2, ![1, 2048]⟩
abbrev S1x1x2048 : Shape := ⟨3, ![1, 1, 2048]⟩
abbrev S2048x2048 : Shape := ⟨2, ![2048, 2048]⟩
abbrev S_ : Shape := ⟨0, ![]⟩
abbrev S1x16384 : Shape := ⟨2, ![1, 16384]⟩
abbrev S1x16384x1 : Shape := ⟨3, ![1, 16384, 1]⟩
abbrev S2048 : Shape := ⟨1, ![2048]⟩
abbrev S16384x2048 : Shape := ⟨2, ![16384, 2048]⟩
abbrev S262144x128 : Shape := ⟨2, ![262144, 128]⟩

abbrev nBuf : Space → Nat
  | .hbm => 43
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S1x2048x2048, .f32⟩
  | .hbm, ⟨3, _⟩ => ⟨S1x12288, .f32⟩
  | .hbm, ⟨4, _⟩ => ⟨S1x2048, .f32⟩
  | .hbm, ⟨5, _⟩ => ⟨S1x2048, .f32⟩
  | .hbm, ⟨6, _⟩ => ⟨S1x1x2048, .f32⟩
  | .hbm, ⟨7, _⟩ => ⟨S1x2048, .f32⟩
  | .hbm, ⟨8, _⟩ => ⟨S1x1x2048, .f32⟩
  | .hbm, ⟨9, _⟩ => ⟨S1x2048, .f32⟩
  | .hbm, ⟨10, _⟩ => ⟨S1x1x2048, .f32⟩
  | .hbm, ⟨11, _⟩ => ⟨S2048x2048, .f32⟩
  | .hbm, ⟨12, _⟩ => ⟨S1x16384x2048, .f32⟩
  | .hbm, ⟨13, _⟩ => ⟨S1x16384x2048, .f32⟩
  | .hbm, ⟨14, _⟩ => ⟨S1x16384x2048, .f32⟩
  | .hbm, ⟨15, _⟩ => ⟨S1x16384x2048, .f32⟩
  | .hbm, ⟨16, _⟩ => ⟨S1x16384x2048, .f32⟩
  | .hbm, ⟨17, _⟩ => ⟨S_, .f32⟩
  | .hbm, ⟨18, _⟩ => ⟨S1x16384, .f32⟩
  | .hbm, ⟨19, _⟩ => ⟨S1x16384x1, .f32⟩
  | .hbm, ⟨20, _⟩ => ⟨S_, .f32⟩
  | .hbm, ⟨21, _⟩ => ⟨S1x16384x1, .f32⟩
  | .hbm, ⟨22, _⟩ => ⟨S1x16384x1, .f32⟩
  | .hbm, ⟨23, _⟩ => ⟨S_, .f32⟩
  | .hbm, ⟨24, _⟩ => ⟨S1x16384x1, .f32⟩
  | .hbm, ⟨25, _⟩ => ⟨S1x16384x1, .f32⟩
  | .hbm, ⟨26, _⟩ => ⟨S1x16384x1, .f32⟩
  | .hbm, ⟨27, _⟩ => ⟨S1x16384x2048, .f32⟩
  | .hbm, ⟨28, _⟩ => ⟨S1x16384x2048, .f32⟩
  | .hbm, ⟨29, _⟩ => ⟨S2048, .f32⟩
  | .hbm, ⟨30, _⟩ => ⟨S1x1x2048, .f32⟩
  | .hbm, ⟨31, _⟩ => ⟨S1x16384x2048, .f32⟩
  | .hbm, ⟨32, _⟩ => ⟨S1x16384x2048, .f32⟩
  | .hbm, ⟨33, _⟩ => ⟨S_, .f32⟩
  | .hbm, ⟨34, _⟩ => ⟨S1x1x2048, .f32⟩
  | .hbm, ⟨35, _⟩ => ⟨S1x1x2048, .f32⟩
  | .hbm, ⟨36, _⟩ => ⟨S1x16384x2048, .f32⟩
  | .hbm, ⟨37, _⟩ => ⟨S1x16384x2048, .f32⟩
  | .hbm, ⟨38, _⟩ => ⟨S1x16384x2048, .f32⟩
  | .hbm, ⟨39, _⟩ => ⟨S1x16384x2048, .f32⟩
  | .hbm, ⟨40, _⟩ => ⟨S16384x2048, .f32⟩
  | .hbm, ⟨41, _⟩ => ⟨S16384x2048, .f32⟩
  | .hbm, ⟨42, _⟩ => ⟨S262144x128, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel8.lean ====
abbrev S1x16384x2048 : Shape := ⟨3, ![1, 16384, 2048]⟩
abbrev S528384x128 : Shape := ⟨2, ![528384, 128]⟩
abbrev S16384x2 : Shape := ⟨2, ![16384, 2]⟩
abbrev S1x12288 : Shape := ⟨2, ![1, 12288]⟩
abbrev S2048 : Shape := ⟨1, ![2048]⟩
abbrev S1x2048 : Shape := ⟨2, ![1, 2048]⟩
abbrev S16384x2048 : Shape := ⟨2, ![16384, 2048]⟩
abbrev S256x2048 : Shape := ⟨2, ![256, 2048]⟩
abbrev S4096x128 : Shape := ⟨2, ![4096, 128]⟩
abbrev S256x2 : Shape := ⟨2, ![256, 2]⟩
abbrev S256x1 : Shape := ⟨2, ![256, 1]⟩
abbrev S256x128 : Shape := ⟨2, ![256, 128]⟩
abbrev S256 : Shape := ⟨1, ![256]⟩

abbrev nBuf : Space → Nat
  | .hbm => 9
  | .vmem => 12
  | .smem => 0
  | _ => 0

abbrev bufTy : (tb : Table) → Fin (tcTables nBuf tb) → BufTy
  | .hbm, ⟨0, _⟩ => ⟨S1x16384x2048, .f32⟩
  | .hbm, ⟨1, _⟩ => ⟨S528384x128, .f32⟩
  | .hbm, ⟨2, _⟩ => ⟨S16384x2, .f32⟩
  | .hbm, ⟨3, _⟩ => ⟨S1x12288, .f32⟩
  | .hbm, ⟨4, _⟩ => ⟨S2048, .f32⟩
  | .hbm, ⟨5, _⟩ => ⟨S1x2048, .f32⟩
  | .hbm, ⟨6, _⟩ => ⟨S16384x2048, .f32⟩
  | .hbm, ⟨7, _⟩ => ⟨S1x2048, .f32⟩
  | .hbm, ⟨8, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S256x2, .f32⟩
  | .local _ .vmem, ⟨7, _⟩ => ⟨S256x2, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S1x16384x2048 : Shape := ⟨3, ![1, 16384, 2048]⟩
abbrev S528384x128 : Shape := ⟨2, ![528384, 128]⟩
abbrev S16384x2 : Shape := ⟨2, ![16384, 2]⟩
abbrev S1x12288 : Shape := ⟨2, ![1, 12288]⟩
abbrev S2048 : Shape := ⟨1, ![2048]⟩
abbrev S1x2048 : Shape := ⟨2, ![1, 2048]⟩
abbrev S1x1x2048 : Shape := ⟨3, ![1, 1, 2048]⟩
abbrev S262144x128 : Shape := ⟨2, ![262144, 128]⟩
abbrev S16384x2048 : Shape := ⟨2, ![16384, 2048]⟩
abbrev S16384x1 : Shape := ⟨2, ![16384, 1]⟩
abbrev S_ : Shape := ⟨0, ![]⟩
abbrev S1x16384 : Shape := ⟨2, ![1, 16384]⟩
abbrev S1x16384x1 : Shape := ⟨3, ![1, 16384, 1]⟩

abbrev nBuf : Space → Nat
  | .hbm => 39
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S528384x128, .f32⟩
  | .hbm, ⟨2, _⟩ => ⟨S16384x2, .f32⟩
  | .hbm, ⟨3, _⟩ => ⟨S1x12288, .f32⟩
  | .hbm, ⟨4, _⟩ => ⟨S2048, .f32⟩
  | .hbm, ⟨5, _⟩ => ⟨S1x2048, .f32⟩
  | .hbm, ⟨6, _⟩ => ⟨S1x1x2048, .f32⟩
  | .hbm, ⟨7, _⟩ => ⟨S262144x128, .f32⟩
  | .hbm, ⟨8, _⟩ => ⟨S16384x2048, .f32⟩
  | .hbm, ⟨9, _⟩ => ⟨S262144x128, .f32⟩
  | .hbm, ⟨10, _⟩ => ⟨S16384x2048, .f32⟩
  | .hbm, ⟨11, _⟩ => ⟨S16384x1, .f32⟩
  | .hbm, ⟨12, _⟩ => ⟨S16384x2048, .f32⟩
  | .hbm, ⟨13, _⟩ => ⟨S16384x2048, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S1x16384x2048, .f32⟩
  | .hbm, ⟨19, _⟩ => ⟨S1x16384x2048, .f32⟩
  | .hbm, ⟨20, _⟩ => ⟨S1x16384x2048, .f32⟩
  | .hbm, ⟨21, _⟩ => ⟨S1x16384x2048, .f32⟩
  | .hbm, ⟨22, _⟩ => ⟨S1x16384x2048, .f32⟩
  | .hbm, ⟨23, _⟩ => ⟨S_, .f32⟩
  | .hbm, ⟨24, _⟩ => ⟨S1x16384, .f32⟩
  | .hbm, ⟨25, _⟩ => ⟨S1x16384x1, .f32⟩
  | .hbm, ⟨26, _⟩ => ⟨S_, .f32⟩
  | .hbm, ⟨27, _⟩ => ⟨S1x16384x1, .f32⟩
  | .hbm, ⟨28, _⟩ => ⟨S1x16384x1, .f32⟩
  | .hbm, ⟨29, _⟩ => ⟨S_, .f32⟩
  | .hbm, ⟨30, _⟩ => ⟨S1x16384x1, .f32⟩
  | .hbm, ⟨31, _⟩ => ⟨S1x16384x1, .f32⟩
  | .hbm, ⟨32, _⟩ => ⟨S1x16384x1, .f32⟩
  | .hbm, ⟨33, _⟩ => ⟨S1x16384x2048, .f32⟩
  | .hbm, ⟨34, _⟩ => ⟨S1x16384x2048, .f32⟩
  | .hbm, ⟨35, _⟩ => ⟨S1x1x2048, .f32⟩
  | .hbm, ⟨36, _⟩ => ⟨S1x16384x2048, .f32⟩
  | .hbm, ⟨37, _⟩ => ⟨S1x16384x2048, .f32⟩
  | .hbm, ⟨38, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel9.lean ====
abbrev S262144x128 : Shape := ⟨2, ![262144, 128]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S2048x8 : Shape := ⟨2, ![2048, 8]⟩
abbrev S2048x64 : Shape := ⟨2, ![2048, 64]⟩
abbrev S_ : Shape := ⟨0, ![]⟩
abbrev S2048x56 : Shape := ⟨2, ![2048, 56]⟩
abbrev S2048x128 : Shape := ⟨2, ![2048, 128]⟩
abbrev S8 : Shape := ⟨1, ![8]⟩
abbrev S64 : Shape := ⟨1, ![64]⟩
abbrev S56 : Shape := ⟨1, ![56]⟩
abbrev S128 : Shape := ⟨1, ![128]⟩
abbrev S1x128 : Shape := ⟨2, ![1, 128]⟩
abbrev S16384x128 : Shape := ⟨2, ![16384, 128]⟩
abbrev S8192x128 : Shape := ⟨2, ![8192, 128]⟩
abbrev S512x128 : Shape := ⟨2, ![512, 128]⟩
abbrev S512x2048 : Shape := ⟨2, ![512, 2048]⟩

abbrev nBuf : Space → Nat
  | .hbm => 17
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S1x2048x8, .f32⟩
  | .hbm, ⟨2, _⟩ => ⟨S1x8, .f32⟩
  | .hbm, ⟨3, _⟩ => ⟨S1x2048x64, .f32⟩
  | .hbm, ⟨4, _⟩ => ⟨S1x64, .f32⟩
  | .hbm, ⟨5, _⟩ => ⟨S2048x8, .f32⟩
  | .hbm, ⟨6, _⟩ => ⟨S2048x64, .f32⟩
  | .hbm, ⟨7, _⟩ => ⟨S_, .f32⟩
  | .hbm, ⟨8, _⟩ => ⟨S2048x56, .f32⟩
  | .hbm, ⟨9, _⟩ => ⟨S2048x128, .f32⟩
  | .hbm, ⟨10, _⟩ => ⟨S8, .f32⟩
  | .hbm, ⟨11, _⟩ => ⟨S64, .f32⟩
  | .hbm, ⟨12, _⟩ => ⟨S_, .f32⟩
  | .hbm, ⟨13, _⟩ => ⟨S56, .f32⟩
  | .hbm, ⟨14, _⟩ => ⟨S128, .f32⟩
  | .hbm, ⟨15, _⟩ => ⟨S1x128, .f32⟩
  | .hbm, ⟨16, _⟩ => ⟨S16384x128, .f32⟩
  | .local _ .vmem, ⟨0, _⟩ => ⟨S8192x128, .f32⟩
  | .local _ .vmem, ⟨1, _⟩ => ⟨S8192x128, .f32⟩
  | .local _ .vmem, ⟨2, _⟩ => ⟨S2048x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S262144x128 : Shape := ⟨2, ![262144, 128]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S16384x2048 : Shape := ⟨2, ![16384, 2048]⟩
abbrev S2048x8 : Shape := ⟨2, ![2048, 8]⟩
abbrev S16384x8 : Shape := ⟨2, ![16384, 8]⟩
abbrev S8 : Shape := ⟨1, ![8]⟩
abbrev S2048x64 : Shape := ⟨2, ![2048, 64]⟩
abbrev S16384x64 : Shape := ⟨2, ![16384, 64]⟩
abbrev S64 : Shape := ⟨1, ![64]⟩
abbrev S_ : Shape := ⟨0, ![]⟩
abbrev S16384x56 : Shape := ⟨2, ![16384, 56]⟩
abbrev S16384x128 : Shape := ⟨2, ![16384, 128]⟩

abbrev nBuf : Space → Nat
  | .hbm => 21
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S1x2048x8, .f32⟩
  | .hbm, ⟨2, _⟩ => ⟨S1x8, .f32⟩
  | .hbm, ⟨3, _⟩ => ⟨S1x2048x64, .f32⟩
  | .hbm, ⟨4, _⟩ => ⟨S1x64, .f32⟩
  | .hbm, ⟨5, _⟩ => ⟨S16384x2048, .f32⟩
  | .hbm, ⟨6, _⟩ => ⟨S2048x8, .f32⟩
  | .hbm, ⟨7, _⟩ => ⟨S16384x8, .f32⟩
  | .hbm, ⟨8, _⟩ => ⟨S8, .f32⟩
  | .hbm, ⟨9, _⟩ => ⟨S1x8, .f32⟩
  | .hbm, ⟨10, _⟩ => ⟨S16384x8, .f32⟩
  | .hbm, ⟨11, _⟩ => ⟨S16384x8, .f32⟩
  | .hbm, ⟨12, _⟩ => ⟨S2048x64, .f32⟩
  | .hbm, ⟨13, _⟩ => ⟨S16384x64, .f32⟩
  | .hbm, ⟨14, _⟩ => ⟨S64, .f32⟩
  | .hbm, ⟨15, _⟩ => ⟨S1x64, .f32⟩
  | .hbm, ⟨16, _⟩ => ⟨S16384x64, .f32⟩
  | .hbm, ⟨17, _⟩ => ⟨S16384x64, .f32⟩
  | .hbm, ⟨18, _⟩ => ⟨S_, .f32⟩
  | .hbm, ⟨19, _⟩ => ⟨S16384x56, .f32⟩
  | .hbm, ⟨20, _⟩ => ⟨S16384x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel10.lean ====
abbrev S1x2048 : Shape := ⟨2, ![1, 2048]⟩
abbrev S1x2048x12288 : Shape := ⟨3, ![1, 2048, 12288]⟩
abbrev S1x12288 : Shape := ⟨2, ![1, 12288]⟩
abbrev S2048x1 : Shape := ⟨2, ![2048, 1]⟩
abbrev S2048x12288 : Shape := ⟨2, ![2048, 12288]⟩
abbrev S12288 : Shape := ⟨1, ![12288]⟩
abbrev S2048x1024 : Shape := ⟨2, ![2048, 1024]⟩
abbrev S1x1024 : Shape := ⟨2, ![1, 1024]⟩
abbrev S256x1 : Shape := ⟨2, ![256, 1]⟩
abbrev S256x1024 : Shape := ⟨2, ![256, 1024]⟩
abbrev S1024 : Shape := ⟨1, ![1024]⟩

abbrev nBuf : Space → Nat
  | .hbm => 8
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048x12288, .f32⟩
  | .hbm, ⟨2, _⟩ => ⟨S1x12288, .f32⟩
  | .hbm, ⟨3, _⟩ => ⟨S2048x1, .f32⟩
  | .hbm, ⟨4, _⟩ => ⟨S2048x12288, .f32⟩
  | .hbm, ⟨5, _⟩ => ⟨S12288, .f32⟩
  | .hbm, ⟨6, _⟩ => ⟨S1x12288, .f32⟩
  | .hbm, ⟨7, _⟩ => ⟨S1x12288, .f32⟩
  | .local _ .vmem, ⟨0, _⟩ => ⟨S2048x1, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v7 : BitVec 32 := Scalar.muli arg5 c256_i32
  v7
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v7 : BitVec 32 := Scalar.muli arg5 c256_i32
  let v8 : BitVec 32 := v7
  let v9 : Index := Scalar.indexCast v8
  let c0_4 : Index := 0#32
  ![v9.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v7 : BitVec 32 := Scalar.muli arg5 c256_i32
  let v8 : BitVec 32 := v7
  let v14 : Index := Scalar.indexCast v8
  let c0_5 : Index := 0#32
  ![v14.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S1x2048 : Shape := ⟨2, ![1, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S12288 : Shape := ⟨1, ![12288]⟩

abbrev nBuf : Space → Nat
  | .hbm => 17
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048x12288, .f32⟩
  | .hbm, ⟨2, _⟩ => ⟨S1x12288, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S2048x12288, .f32⟩
  | .hbm, ⟨13, _⟩ => ⟨S1x12288, .f32⟩
  | .hbm, ⟨14, _⟩ => ⟨S12288, .f32⟩
  | .hbm, ⟨15, _⟩ => ⟨S1x12288, .f32⟩
  | .hbm, ⟨16, _⟩ => ⟨S1x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel11.lean ====
abbrev S262144x128 : Shape := ⟨2, ![262144, 128]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S2048x8 : Shape := ⟨2, ![2048, 8]⟩
abbrev S2048x64 : Shape := ⟨2, ![2048, 64]⟩
abbrev S_ : Shape := ⟨0, ![]⟩
abbrev S2048x56 : Shape := ⟨2, ![2048, 56]⟩
abbrev S2048x128 : Shape := ⟨2, ![2048, 128]⟩
abbrev S8 : Shape := ⟨1, ![8]⟩
abbrev S64 : Shape := ⟨1, ![64]⟩
abbrev S56 : Shape := ⟨1, ![56]⟩
abbrev S128 : Shape := ⟨1, ![128]⟩
abbrev S1x128 : Shape := ⟨2, ![1, 128]⟩
abbrev S16384x128 : Shape := ⟨2, ![16384, 128]⟩
abbrev S8192x128 : Shape := ⟨2, ![8192, 128]⟩
abbrev S512x128 : Shape := ⟨2, ![512, 128]⟩
abbrev S512x2048 : Shape := ⟨2, ![512, 2048]⟩
abbrev S16384x8 : Shape := ⟨2, ![16384, 8]⟩
abbrev S16384x64 : Shape := ⟨2, ![16384, 64]⟩
abbrev S16384x8x8 : Shape := ⟨3, ![16384, 8, 8]⟩
abbrev S16384 : Shape := ⟨1, ![16384]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S16384x1x8 : Shape := ⟨3, ![16384, 1, 8]⟩
abbrev S16384x2 : Shape := ⟨2, ![16384, 2]⟩

abbrev nBuf : Space → Nat
  | .hbm => 112
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S1x2048x8, .f32⟩
  | .hbm, ⟨2, _⟩ => ⟨S1x8, .f32⟩
  | .hbm, ⟨3, _⟩ => ⟨S1x2048x64, .f32⟩
  | .hbm, ⟨4, _⟩ => ⟨S1x64, .f32⟩
  | .hbm, ⟨5, _⟩ => ⟨S2048x8, .f32⟩
  | .hbm, ⟨6, _⟩ => ⟨S2048x64, .f32⟩
  | .hbm, ⟨7, _⟩ => ⟨S_, .f32⟩
  | .hbm, ⟨8, _⟩ => ⟨S2048x56, .f32⟩
  | .hbm, ⟨9, _⟩ => ⟨S2048x128, .f32⟩
  | .hbm, ⟨10, _⟩ => ⟨S8, .f32⟩
  | .hbm, ⟨11, _⟩ => ⟨S64, .f32⟩
  | .hbm, ⟨12, _⟩ => ⟨S_, .f32⟩
  | .hbm, ⟨13, _⟩ => ⟨S56, .f32⟩
  | .hbm, ⟨14, _⟩ => ⟨S128, .f32⟩
  | .hbm, ⟨15, _⟩ => ⟨S1x128, .f32⟩
  | .hbm, ⟨16, _⟩ => ⟨S16384x128, .f32⟩
  | .hbm, ⟨17, _⟩ => ⟨S16384x8, .f32⟩
  | .hbm, ⟨18, _⟩ => ⟨S16384x64, .f32⟩
  | .hbm, ⟨19, _⟩ => ⟨S16384x8x8, .f32⟩
  | .hbm, ⟨20, _⟩ => ⟨S_, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384x1, .f32⟩
  | .hbm, ⟨26, _⟩ => ⟨S16384x8, .f32⟩
  | .hbm, ⟨27, _⟩ => ⟨S16384x8, .f32⟩
  | .hbm, ⟨28, _⟩ => ⟨S16384x8, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S16384x8, .f32⟩
  | .hbm, ⟨33, _⟩ => ⟨S16384x8, .f32⟩
  | .hbm, ⟨34, _⟩ => ⟨S16384x8, .i32⟩
  | .hbm, ⟨35, _⟩ => ⟨S_, .f32⟩
  | .hbm, ⟨36, _⟩ => ⟨S_, .i32⟩
  | .hbm, ⟨37, _⟩ => ⟨S16384, .f32⟩
  | .hbm, ⟨38, _⟩ => ⟨S16384, .i32⟩
  | .hbm, ⟨39, _⟩ => ⟨S16384x1, .i32⟩
  | .hbm, ⟨40, _⟩ => ⟨S_, .i32⟩
  | .hbm, ⟨41, _⟩ => ⟨S16384x1, .i32⟩
  | .hbm, ⟨42, _⟩ => ⟨S16384x1, .i1⟩
  | .hbm, ⟨43, _⟩ => ⟨S_, .i32⟩
  | .hbm, ⟨44, _⟩ => ⟨S16384x1, .i32⟩
  | .hbm, ⟨45, _⟩ => ⟨S16384x1, .i32⟩
  | .hbm, ⟨46, _⟩ => ⟨S16384x1, .i32⟩
  | .hbm, ⟨47, _⟩ => ⟨S16384x1x1, .i32⟩
  | .hbm, ⟨48, _⟩ => ⟨S1, .i32⟩
  | .hbm, ⟨49, _⟩ => ⟨S_, .i32⟩
  | .hbm, ⟨50, _⟩ => ⟨S16384x1x1, .i32⟩
  | .hbm, ⟨51, _⟩ => ⟨S16384x1x1, .i1⟩
  | .hbm, ⟨52, _⟩ => ⟨S1x1x1, .i32⟩
  | .hbm, ⟨53, _⟩ => ⟨S16384x1x1, .i32⟩
  | .hbm, ⟨54, _⟩ => ⟨S16384x1x1, .i1⟩
  | .hbm, ⟨55, _⟩ => ⟨S16384x1x1, .i1⟩
  | .hbm, ⟨56, _⟩ => ⟨S_, .i1⟩
  | .hbm, ⟨57, _⟩ => ⟨S16384x1, .i1⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384, .f32⟩
  | .hbm, ⟨63, _⟩ => ⟨S16384x1x1, .i32⟩
  | .hbm, ⟨64, _⟩ => ⟨S_, .i32⟩
  | .hbm, ⟨65, _⟩ => ⟨S16384x1x1, .i32⟩
  | .hbm, ⟨66, _⟩ => ⟨S16384x1x1, .i1⟩
  | .hbm, ⟨67, _⟩ => ⟨S_, .i32⟩
  | .hbm, ⟨68, _⟩ => ⟨S16384x1x1, .i32⟩
  | .hbm, ⟨69, _⟩ => ⟨S16384x1x1, .i32⟩
  | .hbm, ⟨70, _⟩ => ⟨S16384x1x1, .i32⟩
  | .hbm, ⟨71, _⟩ => ⟨S1, .i32⟩
  | .hbm, ⟨72, _⟩ => ⟨S_, .i32⟩
  | .hbm, ⟨73, _⟩ => ⟨S16384x1x1, .i32⟩
  | .hbm, ⟨74, _⟩ => ⟨S16384x1x1, .i1⟩
  | .hbm, ⟨75, _⟩ => ⟨S1x1x1, .i32⟩
  | .hbm, ⟨76, _⟩ => ⟨S16384x1x1, .i32⟩
  | .hbm, ⟨77, _⟩ => ⟨S16384x1x1, .i1⟩
  | .hbm, ⟨78, _⟩ => ⟨S16384x1x1, .i1⟩
  | .hbm, ⟨79, _⟩ => ⟨S_, .i1⟩
  | .hbm, ⟨80, _⟩ => ⟨S16384x1, .i1⟩
  | .hbm, ⟨81, _⟩ => ⟨S16384x1x8, .f32⟩
  | .hbm, ⟨82, _⟩ => ⟨S16384x1x8, .i1⟩
  | .hbm, ⟨83, _⟩ => ⟨S_, .f32⟩
  | .hbm, ⟨84, _⟩ => ⟨S16384x1x8, .f32⟩
  | .hbm, ⟨85, _⟩ => ⟨S16384x1x8, .f32⟩
  | .hbm, ⟨86, _⟩ => ⟨S16384x8, .f32⟩
  | .hbm, ⟨87, _⟩ => ⟨S16384x2, .f32⟩
  | .hbm, ⟨88, _⟩ => ⟨S16384x2, .i32⟩
  | .hbm, ⟨89, _⟩ => ⟨S_, .f32⟩
  | .hbm, ⟨90, _⟩ => ⟨S16384, .f32⟩
  | .hbm, ⟨91, _⟩ => ⟨S_, .f32⟩
  | .hbm, ⟨92, _⟩ => ⟨S16384, .f32⟩
  | .hbm, ⟨93, _⟩ => ⟨S16384, .f32⟩
  | .hbm, ⟨94, _⟩ => ⟨S16384x1, .f32⟩
  | .hbm, ⟨95, _⟩ => ⟨S16384x2, .f32⟩
  | .hbm, ⟨96, _⟩ => ⟨S16384x2, .f32⟩
  | .hbm, ⟨97, _⟩ => ⟨S16384x2, .f32⟩
  | .hbm, ⟨98, _⟩ => ⟨S_, .f32⟩
  | .hbm, ⟨99, _⟩ => ⟨S16384, .f32⟩
  | .hbm, ⟨100, _⟩ => ⟨S16384x1, .f32⟩
  | .hbm, ⟨101, _⟩ => ⟨S16384x2, .f32⟩
  | .hbm, ⟨102, _⟩ => ⟨S16384x2, .f32⟩
  | .hbm, ⟨103, _⟩ => ⟨S16384x1, .i32⟩
  | .hbm, ⟨104, _⟩ => ⟨S_, .i32⟩
  | .hbm, ⟨105, _⟩ => ⟨S16384x1, .i32⟩
  | .hbm, ⟨106, _⟩ => ⟨S16384x1, .i32⟩
  | .hbm, ⟨107, _⟩ => ⟨S16384x2, .i32⟩
  | .hbm, ⟨108, _⟩ => ⟨S16384x2, .i32⟩
  | .hbm, ⟨109, _⟩ => ⟨S16384x1, .f32⟩
  | .hbm, ⟨110, _⟩ => ⟨S16384x2, .f32⟩
  | .hbm, ⟨111, _⟩ => ⟨S16384x2, .f32⟩
  | .local _ .vmem, ⟨0, _⟩ => ⟨S8192x128, .f32⟩
  | .local _ .vmem, ⟨1, _⟩ => ⟨S8192x128, .f32⟩
  | .local _ .vmem, ⟨2, _⟩ => ⟨S2048x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_cst : Ref sig .tc := ⟨.hbm, 35, rfl⟩
abbrev main_call0_c : Ref sig .tc := ⟨.hbm, 36, rfl⟩
abbrev main_call0_v1_0 : Ref sig .tc := ⟨.hbm, 37, rfl⟩
abbrev main_v24 : Ref sig .tc := ⟨.hbm, 38, rfl⟩
abbrev main_v25 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_cst : Ref sig .tc := ⟨.hbm, 59, rfl⟩
abbrev main_call1_v14 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_c_2 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_c_3 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v29 : Ref sig .tc := ⟨.hbm, 85, rfl⟩
abbrev main_v30 : Ref sig .tc := ⟨.hbm, 86, rfl⟩
abbrev main_values : Ref sig .tc := ⟨.hbm, 87, rfl⟩
abbrev main_indices : Ref sig .tc := ⟨.hbm, 88, rfl⟩
abbrev main_cst_4 : Ref sig .tc := ⟨.hbm, 89, rfl⟩
abbrev main_v31 : Ref sig .tc := ⟨.hbm, 90, rfl⟩
abbrev main_cst_5 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_cst_6 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_c : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S262144x128 : Shape := ⟨2, ![262144, 128]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S16384x2048 : Shape := ⟨2, ![16384, 2048]⟩
abbrev S2048x8 : Shape := ⟨2, ![2048, 8]⟩
abbrev S16384x8 : Shape := ⟨2, ![16384, 8]⟩
abbrev S8 : Shape := ⟨1, ![8]⟩
abbrev S_ : Shape := ⟨0, ![]⟩
abbrev S16384 : Shape := ⟨1, ![16384]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S2048x64 : Shape := ⟨2, ![2048, 64]⟩
abbrev S16384x64 : Shape := ⟨2, ![16384, 64]⟩
abbrev S64 : Shape := ⟨1, ![64]⟩
abbrev S16384x8x8 : Shape := ⟨3, ![16384, 8, 8]⟩
abbrev S16384x1x8 : Shape := ⟨3, ![16384, 1, 8]⟩
abbrev S16384x2 : Shape := ⟨2, ![16384, 2]⟩

abbrev nBuf : Space → Nat
  | .hbm => 111
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S1x2048x8, .f32⟩
  | .hbm, ⟨2, _⟩ => ⟨S1x8, .f32⟩
  | .hbm, ⟨3, _⟩ => ⟨S1x2048x64, .f32⟩
  | .hbm, ⟨4, _⟩ => ⟨S1x64, .f32⟩
  | .hbm, ⟨5, _⟩ => ⟨S16384x2048, .f32⟩
  | .hbm, ⟨6, _⟩ => ⟨S2048x8, .f32⟩
  | .hbm, ⟨7, _⟩ => ⟨S16384x8, .f32⟩
  | .hbm, ⟨8, _⟩ => ⟨S8, .f32⟩
  | .hbm, ⟨9, _⟩ => ⟨S1x8, .f32⟩
  | .hbm, ⟨10, _⟩ => ⟨S16384x8, .f32⟩
  | .hbm, ⟨11, _⟩ => ⟨S16384x8, .f32⟩
  | .hbm, ⟨12, _⟩ => ⟨S_, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S16384x1, .f32⟩
  | .hbm, ⟨18, _⟩ => ⟨S16384x8, .f32⟩
  | .hbm, ⟨19, _⟩ => ⟨S16384x8, .f32⟩
  | .hbm, ⟨20, _⟩ => ⟨S16384x8, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S16384x8, .f32⟩
  | .hbm, ⟨25, _⟩ => ⟨S16384x8, .f32⟩
  | .hbm, ⟨26, _⟩ => ⟨S16384x8, .i32⟩
  | .hbm, ⟨27, _⟩ => ⟨S_, .f32⟩
  | .hbm, ⟨28, _⟩ => ⟨S_, .i32⟩
  | .hbm, ⟨29, _⟩ => ⟨S16384, .f32⟩
  | .hbm, ⟨30, _⟩ => ⟨S16384, .i32⟩
  | .hbm, ⟨31, _⟩ => ⟨S16384x1, .i32⟩
  | .hbm, ⟨32, _⟩ => ⟨S_, .i32⟩
  | .hbm, ⟨33, _⟩ => ⟨S16384x1, .i32⟩
  | .hbm, ⟨34, _⟩ => ⟨S16384x1, .i1⟩
  | .hbm, ⟨35, _⟩ => ⟨S_, .i32⟩
  | .hbm, ⟨36, _⟩ => ⟨S16384x1, .i32⟩
  | .hbm, ⟨37, _⟩ => ⟨S16384x1, .i32⟩
  | .hbm, ⟨38, _⟩ => ⟨S16384x1, .i32⟩
  | .hbm, ⟨39, _⟩ => ⟨S16384x1x1, .i32⟩
  | .hbm, ⟨40, _⟩ => ⟨S1, .i32⟩
  | .hbm, ⟨41, _⟩ => ⟨S_, .i32⟩
  | .hbm, ⟨42, _⟩ => ⟨S16384x1x1, .i32⟩
  | .hbm, ⟨43, _⟩ => ⟨S16384x1x1, .i1⟩
  | .hbm, ⟨44, _⟩ => ⟨S1x1x1, .i32⟩
  | .hbm, ⟨45, _⟩ => ⟨S16384x1x1, .i32⟩
  | .hbm, ⟨46, _⟩ => ⟨S16384x1x1, .i1⟩
  | .hbm, ⟨47, _⟩ => ⟨S16384x1x1, .i1⟩
  | .hbm, ⟨48, _⟩ => ⟨S_, .i1⟩
  | .hbm, ⟨49, _⟩ => ⟨S16384x1, .i1⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384, .f32⟩
  | .hbm, ⟨55, _⟩ => ⟨S2048x64, .f32⟩
  | .hbm, ⟨56, _⟩ => ⟨S16384x64, .f32⟩
  | .hbm, ⟨57, _⟩ => ⟨S64, .f32⟩
  | .hbm, ⟨58, _⟩ => ⟨S1x64, .f32⟩
  | .hbm, ⟨59, _⟩ => ⟨S16384x64, .f32⟩
  | .hbm, ⟨60, _⟩ => ⟨S16384x64, .f32⟩
  | .hbm, ⟨61, _⟩ => ⟨S16384x8x8, .f32⟩
  | .hbm, ⟨62, _⟩ => ⟨S16384x1x1, .i32⟩
  | .hbm, ⟨63, _⟩ => ⟨S_, .i32⟩
  | .hbm, ⟨64, _⟩ => ⟨S16384x1x1, .i32⟩
  | .hbm, ⟨65, _⟩ => ⟨S16384x1x1, .i1⟩
  | .hbm, ⟨66, _⟩ => ⟨S_, .i32⟩
  | .hbm, ⟨67, _⟩ => ⟨S16384x1x1, .i32⟩
  | .hbm, ⟨68, _⟩ => ⟨S16384x1x1, .i32⟩
  | .hbm, ⟨69, _⟩ => ⟨S16384x1x1, .i32⟩
  | .hbm, ⟨70, _⟩ => ⟨S1, .i32⟩
  | .hbm, ⟨71, _⟩ => ⟨S_, .i32⟩
  | .hbm, ⟨72, _⟩ => ⟨S16384x1x1, .i32⟩
  | .hbm, ⟨73, _⟩ => ⟨S16384x1x1, .i1⟩
  | .hbm, ⟨74, _⟩ => ⟨S1x1x1, .i32⟩
  | .hbm, ⟨75, _⟩ => ⟨S16384x1x1, .i32⟩
  | .hbm, ⟨76, _⟩ => ⟨S16384x1x1, .i1⟩
  | .hbm, ⟨77, _⟩ => ⟨S16384x1x1, .i1⟩
  | .hbm, ⟨78, _⟩ => ⟨S_, .i1⟩
  | .hbm, ⟨79, _⟩ => ⟨S16384x1, .i1⟩
  | .hbm, ⟨80, _⟩ => ⟨S16384x1x8, .f32⟩
  | .hbm, ⟨81, _⟩ => ⟨S16384x1x8, .i1⟩
  | .hbm, ⟨82, _⟩ => ⟨S_, .f32⟩
  | .hbm, ⟨83, _⟩ => ⟨S16384x1x8, .f32⟩
  | .hbm, ⟨84, _⟩ => ⟨S16384x1x8, .f32⟩
  | .hbm, ⟨85, _⟩ => ⟨S16384x8, .f32⟩
  | .hbm, ⟨86, _⟩ => ⟨S16384x2, .f32⟩
  | .hbm, ⟨87, _⟩ => ⟨S16384x2, .i32⟩
  | .hbm, ⟨88, _⟩ => ⟨S_, .f32⟩
  | .hbm, ⟨89, _⟩ => ⟨S16384, .f32⟩
  | .hbm, ⟨90, _⟩ => ⟨S_, .f32⟩
  | .hbm, ⟨91, _⟩ => ⟨S16384, .f32⟩
  | .hbm, ⟨92, _⟩ => ⟨S16384, .f32⟩
  | .hbm, ⟨93, _⟩ => ⟨S16384x1, .f32⟩
  | .hbm, ⟨94, _⟩ => ⟨S16384x2, .f32⟩
  | .hbm, ⟨95, _⟩ => ⟨S16384x2, .f32⟩
  | .hbm, ⟨96, _⟩ => ⟨S16384x2, .f32⟩
  | .hbm, ⟨97, _⟩ => ⟨S_, .f32⟩
  | .hbm, ⟨98, _⟩ => ⟨S16384, .f32⟩
  | .hbm, ⟨99, _⟩ => ⟨S16384x1, .f32⟩
  | .hbm, ⟨100, _⟩ => ⟨S16384x2, .f32⟩
  | .hbm, ⟨101, _⟩ => ⟨S16384x2, .f32⟩
  | .hbm, ⟨102, _⟩ => ⟨S16384x1, .i32⟩
  | .hbm, ⟨103, _⟩ => ⟨S_, .i32⟩
  | .hbm, ⟨104, _⟩ => ⟨S16384x1, .i32⟩
  | .hbm, ⟨105, _⟩ => ⟨S16384x1, .i32⟩
  | .hbm, ⟨106, _⟩ => ⟨S16384x2, .i32⟩
  | .hbm, ⟨107, _⟩ => ⟨S16384x2, .i32⟩
  | .hbm, ⟨108, _⟩ => ⟨S16384x1, .f32⟩
  | .hbm, ⟨109, _⟩ => ⟨S16384x2, .f32⟩
  | .hbm, ⟨110, _⟩ => ⟨S16384x2, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_cst : Ref sig .tc := ⟨.hbm, 27, rfl⟩
abbrev main_call0_c : Ref sig .tc := ⟨.hbm, 28, rfl⟩
abbrev main_call0_v1_0 : Ref sig .tc := ⟨.hbm, 29, rfl⟩
abbrev main_v18 : Ref sig .tc := ⟨.hbm, 30, rfl⟩
abbrev main_v19 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_c_2 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_c_3 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_cst : Ref sig .tc := ⟨.hbm, 82, rfl⟩
abbrev main_call2_v14 : Ref sig .tc := ⟨.hbm, 83, rfl⟩
abbrev main_v30 : Ref sig .tc := ⟨.hbm, 84, rfl⟩
abbrev main_v31 : Ref sig .tc := ⟨.hbm, 85, rfl⟩
abbrev main_values : Ref sig .tc := ⟨.hbm, 86, rfl⟩
abbrev main_indices : Ref sig .tc := ⟨.hbm, 87, rfl⟩
abbrev main_cst_2 : Ref sig .tc := ⟨.hbm, 88, rfl⟩
abbrev main_v32 : Ref sig .tc := ⟨.hbm, 89, rfl⟩
abbrev main_cst_3 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_cst_4 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_c : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩

abbrev nD : Nat := 1
abbrev τ : Topo := Topo.v7x

variable {F : FTy → Type} [FloatOps F]
-- ==== Proof.Math.lean ====
/- The arithmetic of one attention row over the extended reals: a softmax row with masked entries, written with base-two
   exponentials and one division at the end, and the same row written with natural exponentials and a division per entry,
   are the same weighted mean. -/
module

public import Idealize.ShloMosaic.PureOps
public import Idealize.ShloMosaic.PureOps.Ideal.Laws
public import Mathlib.Analysis.SpecialFunctions.Pow.Real

@[expose] public section

noncomputable section

namespace Cert.Band

open Idealize.ShloMosaic

variable {ι κ : Type} [Fintype ι] [Fintype κ]

/-- A row of scores: the real `y i` where `P i` holds, minus infinity elsewhere. -/
def masked (P : ι → Prop) [DecidablePred P] (y : ι → ℝ) (i : ι) : EReal := if P i then (y i : EReal) else ⊥

/-- The unnormalised weight of one entry. -/
def weight (P : ι → Prop) [DecidablePred P] (y : ι → ℝ) (i : ι) : ℝ := if P i then Real.exp (y i) else 0

/-- The mean of `v` with the weights of `y` on the entries where `P` holds. -/
def mean (P : ι → Prop) [DecidablePred P] (y v : ι → ℝ) : ℝ :=
  (∑ i, weight P y i * v i) / ∑ i, weight P y i

/-- A sum of reals, as a sum of extended reals. -/
theorem coe_sum (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The weights sum to a positive number. -/
theorem weight_sum_pos (P : ι → Prop) [DecidablePred P] (y : ι → ℝ) (h : ∃ i, P i) : 0 < ∑ i, weight P y i := by
  obtain ⟨a, ha⟩ := h
  refine Finset.sum_pos' (fun i _ => ?_) ⟨a, Finset.mem_univ _, ?_⟩
  · unfold weight; split
    · exact (Real.exp_pos _).le
    · exact le_rfl
  · unfold weight; rw [if_pos ha]; exact Real.exp_pos _

/-- The largest score of a row with at least one entry is a real. -/
theorem fold_max_real (P : ι → Prop) [DecidablePred P] (y : ι → ℝ) (h : ∃ i, P i) :
    ∃ M : ℝ, Finset.univ.fold max ⊥ (masked P y) = (M : EReal) := by
  obtain ⟨a, ha⟩ := h
  have hs : Finset.univ.fold max ⊥ (masked P y) = Finset.univ.sup (masked P y) := rfl
  rw [hs]
  obtain ⟨b, _, hb⟩ := Finset.exists_mem_eq_sup Finset.univ ⟨a, Finset.mem_univ a⟩ (masked P y)
  have hle : masked P y a ≤ Finset.univ.sup (masked P y) := Finset.le_sup (Finset.mem_univ a)
  rw [hb] at hle ⊢
  unfold masked at hle ⊢
  rw [if_pos ha] at hle
  split at hle
  · rename_i hbP; rw [if_pos hbP]; exact ⟨_, rfl⟩
  · exact absurd (le_bot_iff.mp hle) (EReal.coe_ne_bot _)

/-- A quotient of reals. -/
theorem div_real (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- A weight relative to a shift of the scores, with natural exponentials. -/
theorem exp_masked (P : ι → Prop) [DecidablePred P] (y : ι → ℝ) (M : ℝ) (i : ι) :
    Ideal.exp (masked P y i - (M : EReal)) = ((weight P y i * Real.exp (-M) : ℝ) : EReal) := by
  unfold masked weight
  split
  · rw [← EReal.coe_sub, ← Real.exp_add, ← sub_eq_add_neg]; rfl
  · rw [EReal.bot_sub, zero_mul]; rfl

/-- The same with base-two exponentials of scores divided by the logarithm of two. -/
theorem exp2_masked (P : ι → Prop) [DecidablePred P] (y : ι → ℝ) (M : ℝ) (i : ι) :
    Ideal.exp2 (masked P (fun i => y i * (Real.log 2)⁻¹) i - (M : EReal))
      = ((weight P y i * Real.exp (-(M * Real.log 2)) : ℝ) : EReal) := by
  unfold masked weight
  split
  · rw [← EReal.coe_sub, ← Real.exp_add]
    show ((Real.rpow 2 (y i * (Real.log 2)⁻¹ - M) : ℝ) : EReal) = _
    have hl : Real.log 2 ≠ 0 := (Real.log_pos (by norm_num)).ne'
    congr 1
    show (2 : ℝ) ^ (y i * (Real.log 2)⁻¹ - M) = _
    rw [Real.rpow_def_of_pos (by norm_num)]
    congr 1
    field_simp; ring
  · rw [EReal.bot_sub, zero_mul]; rfl

/-- One row in the kernel's order: the weighted sum over the total weight. -/
theorem row_exp2 (P : ι → Prop) [DecidablePred P] (y v : ι → ℝ) (h : ∃ i, P i)
    (s : ι → EReal) (hs : ∀ i, s i = masked P (fun i => y i * (Real.log 2)⁻¹) i) (w : ι → EReal) (hw : ∀ i, w i = (v i : EReal)) :
    Ideal.div (∑ i, Ideal.exp2 (s i - Finset.univ.fold max ⊥ s) * w i) (∑ i, Ideal.exp2 (s i - Finset.univ.fold max ⊥ s))
      = (mean P y v : EReal) := by
  obtain rfl : s = masked P (fun i => y i * (Real.log 2)⁻¹) := funext hs
  obtain rfl : w = fun i => (v i : EReal) := funext hw
  obtain ⟨M, hM⟩ := fold_max_real P (fun i => y i * (Real.log 2)⁻¹) h
  rw [hM]
  simp only [exp2_masked, ← EReal.coe_mul, coe_sum]
  have hp := weight_sum_pos P y h
  rw [div_real _ _ (by rw [← Finset.sum_mul]; exact mul_pos hp (Real.exp_pos _))]
  congr 1
  unfold mean
  have he : Real.exp (-(M * Real.log 2)) ≠ 0 := (Real.exp_pos _).ne'
  have e1 : ∑ i, weight P y i * Real.exp (-(M * Real.log 2)) * v i = (∑ i, weight P y i * v i) * Real.exp (-(M * Real.log 2)) := by
    rw [Finset.sum_mul]; exact Finset.sum_congr rfl fun i _ => by ring
  rw [e1, ← Finset.sum_mul, mul_div_mul_right _ _ he]

/-- One row in the reference's order: each weight over the total weight, then the weighted sum. -/
theorem row_exp (P : ι → Prop) [DecidablePred P] (y v : ι → ℝ) (h : ∃ i, P i)
    (s : ι → EReal) (hs : ∀ i, s i = masked P y i) (w : ι → EReal) (hw : ∀ i, w i = (v i : EReal)) :
    (∑ i, w i * Ideal.div (Ideal.exp (s i - max ⊥ (Finset.univ.fold max ⊥ s)))
        (0 + ∑ j, Ideal.exp (s j - max ⊥ (Finset.univ.fold max ⊥ s))))
      = (mean P y v : EReal) := by
  obtain rfl : s = masked P y := funext hs
  obtain rfl : w = fun i => (v i : EReal) := funext hw
  obtain ⟨M, hM⟩ := fold_max_real P y h
  rw [hM, max_eq_right bot_le]
  have hp := weight_sum_pos P y h
  simp only [exp_masked, coe_sum, zero_add]
  have hq : 0 < ∑ i, weight P y i * Real.exp (-M) := by rw [← Finset.sum_mul]; exact mul_pos hp (Real.exp_pos _)
  simp only [div_real _ _ hq, ← EReal.coe_mul, coe_sum]
  congr 1
  unfold mean
  have he : Real.exp (-M) ≠ 0 := (Real.exp_pos _).ne'
  rw [← Finset.sum_mul, Finset.sum_div]
  refine Finset.sum_congr rfl fun i _ => ?_
  rw [mul_div_mul_right _ _ he]; ring

/-- A mean over a larger row whose further entries are all masked. -/
theorem mean_embed (f : κ → ι) (hf : Function.Injective f) (P : ι → Prop) [DecidablePred P] (Q : κ → Prop) [DecidablePred Q]
    (y v : ι → ℝ) (z w : κ → ℝ) (hP : ∀ i, P i → ∃ k, f k = i) (hQ : ∀ k, P (f k) ↔ Q k)
    (hy : ∀ k, Q k → y (f k) = z k) (hv : ∀ k, Q k → v (f k) = w k) : mean P y v = mean Q z w := by
  classical
  have key : ∀ (g : ι → ℝ) (g' : κ → ℝ), (∀ i, ¬ P i → g i = 0) → (∀ k, g (f k) = g' k) → ∑ i, g i = ∑ k, g' k := by
    intro g g' h0 h1
    have e : ∑ k, g' k = ∑ i ∈ Finset.univ.map ⟨f, hf⟩, g i := by
      rw [Finset.sum_map]; exact Finset.sum_congr rfl fun k _ => (h1 k).symm
    rw [e]
    symm
    refine Finset.sum_subset (Finset.subset_univ _) fun i _ hi => h0 i fun hp => hi ?_
    obtain ⟨k, rfl⟩ := hP i hp
    exact Finset.mem_map_of_mem ⟨f, hf⟩ (Finset.mem_univ k)
  have hw : ∀ k, weight P y (f k) = weight Q z k := by
    intro k; unfold weight
    by_cases hq : Q k
    · rw [if_pos hq, if_pos ((hQ k).mpr hq), hy k hq]
    · rw [if_neg hq, if_neg (fun h => hq ((hQ k).mp h))]
  unfold mean
  congr 1
  · refine key _ _ (fun i hi => by unfold weight; rw [if_neg hi, zero_mul]) fun k => ?_
    rw [hw]
    by_cases hq : Q k
    · rw [hv k hq]
    · unfold weight; rw [if_neg hq, zero_mul, zero_mul]
  · exact key _ _ (fun i hi => by unfold weight; rw [if_neg hi]) hw

end Cert.Band

end
-- ==== Proof.Block.lean ====
/- The payloads of the band attention's kernel function read at an index: the masked bias, the start mask, and one head's
   output as a ratio of two sums over the 768 lanes of three key blocks. -/
module

public import proofs.«01_k».proof.Proof.Gen.KernelIdeal.Skeleton
public import proofs.«01_k».proof.Proof.Math
public import Idealize.ShloMosaic.Lib.Pointwise
public import Idealize.ShloMosaic.Lib.Tactic.WordOmega
@[expose] public section
set_option maxRecDepth 16384
noncomputable section
namespace Cert.KernelIdeal.Band
open Cert.KernelIdeal Cert.KernelIdeal.Gen Idealize.ShloMosaic

/-- The rounded-down quotient by 64, as the kernel spells it on words. -/
abbrev wordDiv (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

/-- A column's chunk. -/
theorem wordDiv_eq (x : Fin 768) : wordDiv (BitVec.ofNat 32 x.val) = BitVec.ofNat 32 (x.val / 64) := by
  revert x; decide +kernel

/-- Which chunks of a block's columns a chunk of its rows sees. -/
theorem inBand_eq (a : Fin 12) (b : Fin 4) :
    IntOp.andi (IntOp.cmpi CmpIPredicate.sle (IntOp.subi (IntOp.subi (BitVec.ofNat 32 a.val) 8#32) (BitVec.ofNat 32 b.val)) 0#32)
      (IntOp.cmpi CmpIPredicate.sge (IntOp.subi (IntOp.subi (BitVec.ofNat 32 a.val) 8#32) (BitVec.ofNat 32 b.val)) 4294967288#32)
      = if b.val ≤ a.val ∧ a.val ≤ b.val + 8 then 1#1 else 0#1 := by
  revert a b; decide +kernel

/-- Which columns of a block lie inside the sequence. -/
theorem start_eq (t : ℕ) (ht : t < 64) (l : ℕ) (hl : l < 768) :
    IntOp.cmpi CmpIPredicate.sge
        (IntOp.addi (BitVec.ofNat 32 l) (Scalar.muli (Scalar.subi (BitVec.ofNat 32 t) 2#32) 256#32)) 0#32
      = if 512 ≤ 256 * t + l then 1#1 else 0#1 := by
  have e : ∀ t : Fin 64, Scalar.muli (Scalar.subi (BitVec.ofNat 32 t.val) 2#32) 256#32
      = BitVec.ofNat 32 ((4294966784 + 256 * t.val) % 4294967296) := by decide +kernel
  have e' := e ⟨t, ht⟩
  dsimp only at e'
  rw [e']
  split
  · word_omega
  · word_omega

/-- The named mask is minus infinity. -/
theorem mask_bot : Named.named (F := Ideal) κ "mask" (φ := .f32) 4048155338#32 = (⊥ : EReal) :=
  IdealRules.named_const.ideal_named_scalar _ _ _ _ rfl
/-- The named factor is one over log 2. -/
theorem log2e_val : Named.named (F := Ideal) κ "log2e" (φ := .f32) 1069066811#32 = (((Real.log 2)⁻¹ : ℝ) : EReal) :=
  IdealRules.named_const.ideal_named_scalar _ _ _ _ rfl
/-- The named scale is one over log 2 and the root of 128. -/
theorem qscale_val : Named.named (F := Ideal) κ "qscale" (φ := .f32) 1040356334#32 = (((Real.log 2)⁻¹ * (Real.sqrt 128)⁻¹ : ℝ) : EReal) :=
  IdealRules.named_const.ideal_named_scalar _ _ _ _ rfl
/-- The constant the maxima start from is minus infinity. -/
theorem negInf : Ideal.ofBits FTy.f32 4286578688#32 = ⊥ := by
  first | rfl | simp [Ideal.ofBits]

/-- The masked bias of one head, read at a query row and a key lane. -/
theorem bias_apply (g : Vec Ideal S1x1024 .f32) (r : Fin 256) (l : Fin 768) :
    k0_pay7 (F := Ideal) k0_pay2 k0_pay3 k0_pay4 k0_pay5 0#32 g (ix3 0 r l)
      = if r.val / 64 ≤ l.val / 64 ∧ l.val / 64 ≤ r.val / 64 + 8 then
          g (ix2 0 ⟨l.val + 255 - r.val, by omega⟩) * (((Real.log 2)⁻¹ : ℝ) : EReal) else ⊥ := by
  pointwise [k0_pay7, k0_pay6, k0_pay2, k0_pay3, k0_pay4, k0_pay5]
  rw [mask_bot, log2e_val]
  have hl := wordDiv_eq l
  have hr := wordDiv_eq ⟨r.val, by omega⟩
  dsimp only [wordDiv] at hl hr
  rw [hl, hr]
  have hb := inBand_eq ⟨l.val / 64, by omega⟩ ⟨r.val / 64, by omega⟩
  dsimp only at hb
  rw [hb]
  split
  · refine congrArg (· * _) (congrArg g (congrArg (ix2 0) (Fin.ext ?_)))
    show (l.val + 1024 - (769 + r.val) % 1024) % 1024 = l.val + 255 - r.val
    omega
  · rfl

/-- The mask of the positions before the first key, read at a lane. -/
theorem start_apply (i : grid0.Coords) (r : Fin 256) (l : Fin 768) :
    k0_pay17 (F := Ideal) i (ix2 r l) = if 512 ≤ 256 * (i 0).val + l.val then (0 : EReal) else ⊥ := by
  pointwise [k0_pay17]
  rw [mask_bot, start_eq _ (i 0).isLt _ l.isLt]
  split <;> rfl

section
variable {F : FTy → Type} [FloatOps F] [Named F]
/-- One head of a query block: scores against three key blocks, softmax in base two, and the weighted sum of three value blocks. -/
def attn (sm : FVec F S256x768 .f32) (k0 k1 k2 : Vec F S128x256 .bf16) (v0 v1 v2 : Vec F S256x128 .bf16)
    (q : Vec F S256x128 .bf16) (b : Vec F S1x256x768 .f32) : FVec F S256x128 .bf16 :=
  k0_pay1 sm (k0_pay42 k0 k1 k2) (k0_pay43 v0) v1 v2 q b

variable (sm : FVec F S256x768 .f32) (k0 k1 k2 : Vec F S128x256 .bf16) (v0 v1 v2 : Vec F S256x128 .bf16)
    (q : Vec F S256x128 .bf16) (b : Vec F S1x256x768 .f32)

/-- The first head's text is the one head's. -/
theorem head0 : k0_pay20 sm (k0_pay18 v0 v1 v2) (k0_pay19 k0 k1 k2 q) b = attn sm k0 k1 k2 v0 v1 v2 q b := rfl
/-- So is the second's. -/
theorem head1 : k0_pay24 sm (k0_pay21 k0 k1 k2) (k0_pay22 v0 v1 v2) (k0_pay23 q) b = attn sm k0 k1 k2 v0 v1 v2 q b := rfl
/-- So is the third's. -/
theorem head2 : k0_pay28 sm (k0_pay25 k0 k1 k2) (k0_pay26 v0 v1 v2) (k0_pay27 q) (Named.named κ "qscale" 1040356334#32) b
    = attn sm k0 k1 k2 v0 v1 v2 q b := rfl
/-- So is the fourth's. -/
theorem head3 : k0_pay31 sm (k0_pay29 k0 k1 k2) (k0_pay30 v0 v1 v2) q b = attn sm k0 k1 k2 v0 v1 v2 q b := rfl
/-- So is the fifth's. -/
theorem head4 : k0_pay34 sm (k0_pay32 k0 k1 k2) (k0_pay33 v0 v1 v2) q b = attn sm k0 k1 k2 v0 v1 v2 q b := rfl
/-- So is the sixth's. -/
theorem head5 : k0_pay38 sm (k0_pay35 k0 k1 k2) (k0_pay36 v0) (k0_pay37 v1) v2 q b = attn sm k0 k1 k2 v0 v1 v2 q b := rfl
/-- So is the seventh's. -/
theorem head6 : k0_pay41 sm (k0_pay39 k0 k1 k2) (k0_pay40 v0) v1 v2 q b = attn sm k0 k1 k2 v0 v1 v2 q b := rfl
end

/-- Lane `x` of three key blocks side by side, at feature `d`. -/
def keyAt (k0 k1 k2 : Vec Ideal S128x256 .bf16) (d : Fin 128) (x : Fin 768) : EReal :=
  if h : x.val < 256 then k0 (ix2 d ⟨x.val, h⟩)
  else if h' : x.val - 256 < 256 then k1 (ix2 d ⟨x.val - 256, h'⟩) else k2 (ix2 d ⟨x.val - 256 - 256, by omega⟩)

/-- Row `x` of three value blocks stacked, at feature `l`. -/
def valAt (v0 v1 v2 : Vec Ideal S256x128 .bf16) (l : Fin 128) (x : Fin 768) : EReal :=
  if h : x.val < 256 then v0 (ix2 ⟨x.val, h⟩ l)
  else if h' : x.val - 256 < 256 then v1 (ix2 ⟨x.val - 256, h'⟩ l) else v2 (ix2 ⟨x.val - 256 - 256, by omega⟩ l)

/-- The score of query row `r` against lane `x`. -/
def score (sm : FVec Ideal S256x768 .f32) (k0 k1 k2 : Vec Ideal S128x256 .bf16) (q : Vec Ideal S256x128 .bf16)
    (b : Vec Ideal S1x256x768 .f32) (r : Fin 256) (x : Fin 768) : EReal :=
  (∑ d, q (ix2 r d) * (((Real.log 2)⁻¹ * (Real.sqrt 128)⁻¹ : ℝ) : EReal) * keyAt k0 k1 k2 d x) + b (ix3 0 r x) + sm (ix2 r x)

/-- One row and one lane of a head. -/
theorem attn_apply (sm : FVec Ideal S256x768 .f32) (k0 k1 k2 : Vec Ideal S128x256 .bf16) (v0 v1 v2 : Vec Ideal S256x128 .bf16)
    (q : Vec Ideal S256x128 .bf16) (b : Vec Ideal S1x256x768 .f32) (r : Fin 256) (l : Fin 128) :
    attn sm k0 k1 k2 v0 v1 v2 q b (ix2 r l)
      = Ideal.div
          (∑ x, Ideal.exp2 (score sm k0 k1 k2 q b r x - Finset.univ.fold max ⊥ (score sm k0 k1 k2 q b r)) * valAt v0 v1 v2 l x)
          (∑ x, Ideal.exp2 (score sm k0 k1 k2 q b r x - Finset.univ.fold max ⊥ (score sm k0 k1 k2 q b r))) := by
  pointwise [attn, k0_pay1, k0_pay42, k0_pay43]
  rw [qscale_val, negInf]
  rfl

end Cert.KernelIdeal.Band
-- ==== Proof.Point.lean ====
module
public import proofs.«01_k».proof.Proof.Gen.KernelIdeal.Value
public import proofs.«01_k».proof.Proof.Block
public import Idealize.ShloMosaic.Lib.Pipeline.ValueKit
public import Idealize.ShloMosaic.Lib.Pipeline.ReadBack
@[expose] public section
set_option maxRecDepth 16384
noncomputable section
namespace Cert.KernelIdeal.Band
open Cert.KernelIdeal Cert.KernelIdeal.Gen Idealize.ShloMosaic  Idealize.ShloMosaic.TcCoe Idealize.SL.Sem
variable (m : (ℓ : Loc nD τ sig) → Buf (Elt Ideal) ℓ)

/-- The masked bias of the eight heads, from the table's row of each head. -/
def bias (g : Vec Ideal S8x1024 .f32) : Vec Ideal S8x256x768 .f32 := fun i =>
  if (i 1).val / 64 ≤ (i 2).val / 64 ∧ (i 2).val / 64 ≤ (i 1).val / 64 + 8 then
    g (ix2 (i 0) ⟨(i 2).val + 255 - (i 1).val, by have h1 : (i 1).val < 256 := (i 1).isLt; have h2 : (i 2).val < 768 := (i 2).isLt; omega⟩)
      * (((Real.log 2)⁻¹ : ℝ) : EReal) else ⊥

/-- One head's stored bias is that head's plane of `bias`. -/
theorem bias_piece (g : Vec Ideal S8x1024 .f32) (h : ℕ) (inb) (x : S1x256x768.Idx) (y : S8x256x768.Idx)
    (h0 : (y 0).val = h + (x 0).val) (h1 : (y 1).val = (x 1).val) (h2 : (y 2).val = (x 2).val) :
    k0_pay7 (F := Ideal) k0_pay2 k0_pay3 k0_pay4 k0_pay5 0#32 (View.ld g (Rect.unit ![h, 0] ![1, 1024] inb)) x = bias g y := by
  have hx0 : (x 0).val < 1 := (x 0).isLt
  obtain ⟨r, l, rfl⟩ : ∃ (r : Fin 256) (l : Fin 768), x = ix3 0 r l := ⟨x 1, x 2, by
    funext a; apply Fin.ext
    match a with
    | ⟨0, _⟩ => show (x 0).val = 0; omega
    | ⟨1, _⟩ => rfl
    | ⟨2, _⟩ => rfl⟩
  have h0' : (y 0).val = h := h0
  have h1' : (y 1).val = r.val := h1
  have h2' : (y 2).val = l.val := h2
  rw [bias_apply]
  unfold bias
  simp only [h1', h2']
  split
  · refine congrArg (· * _) (congrArg g ?_)
    funext a; apply Fin.ext
    match a with
    | ⟨0, _⟩ => show h + 1 * 0 = (y 0).val; omega
    | ⟨1, _⟩ => show 0 + 1 * (l.val + 255 - r.val) = l.val + 255 - r.val; omega
  · rfl

/-- The first point fills the bias. -/
theorem a2 (c : Dev nD) (t : Fin cfg0.N) (h0 : t.val % 64 = 0) : (outsAt0 m c t.val t.isLt).2 = bias (iblk m c 7 t) := by
  rw [outsAt0_A m c t h0]
  frame_out
  funext y
  canon_tiles x h
  all_goals exact bias_piece (iblk m c 7 t) _ _ x y (by omega) (by omega) (by omega)

/-- The others keep it. -/
theorem b2 (c : Dev nD) (t : Fin cfg0.N) (h0 : ¬ t.val % 64 = 0) : (outsAt0 m c t.val t.isLt).2 = (outsAt0 m c (t.val - 1) (Nat.lt_of_le_of_lt (Nat.sub_le _ _) t.isLt)).2 := by
  rw [outsAt0_B m c t h0]
  rfl

/-- The scratch holds the bias of the first point's table after every point. -/
theorem scratch_eq (c : Dev nD) (n : ℕ) (hn : n < cfg0.N) : (outsAt0 m c n hn).2 = bias (iblk m c 7 ⟨0, Nat.lt_of_le_of_lt (Nat.zero_le _) hn⟩) := by
  have hN : n < 64 := lt_of_lt_of_eq hn (show cfg0.N = 64 from N_0)
  induction n with
  | zero => exact a2 m c ⟨0, hn⟩ rfl
  | succ n ih =>
    rw [b2 m c ⟨n + 1, hn⟩ (by show ¬ (n + 1) % 64 = 0; omega)]
    exact ih (by omega) (by omega)

/-- Plane `h` of eight, under a unit axis. -/
abbrev plane (X : Vec Ideal S8x256x768 .f32) (h : Fin 8) : Vec Ideal S1x256x768 .f32 := fun i => X (ix3 h (i 1) (i 2))

/-- Head `h` of the output block of a point, from its input blocks and the bias. -/
def headOf (sm : FVec Ideal S256x768 .f32) (q : Vec Ideal S256x1024 .bf16) (k0 k1 k2 : Vec Ideal S1024x256 .bf16) (v0 v1 v2 : Vec Ideal S256x1024 .bf16)
    (b : Vec Ideal S8x256x768 .f32) (h : Fin 8) : Vec Ideal S256x128 .bf16 :=
  let kk (k : Vec Ideal S1024x256 .bf16) : Vec Ideal S128x256 .bf16 := fun j => k (ix2 ⟨128 * h.val + (j 0).val, by have hj : (j 0).val < 128 := (j 0).isLt; omega⟩ (j 1))
  let vv (v : Vec Ideal S256x1024 .bf16) : Vec Ideal S256x128 .bf16 := fun j => v (ix2 (j 0) ⟨128 * h.val + (j 1).val, by have hj : (j 1).val < 128 := (j 1).isLt; omega⟩)
  attn sm (kk k0) (kk k1) (kk k2) (vv v0) (vv v1) (vv v2) (vv q) (plane b h)

/-- The output block of a point: head `i₁ / 128`, feature `i₁ % 128`. -/
def block (sm : FVec Ideal S256x768 .f32) (q : Vec Ideal S256x1024 .bf16) (k0 k1 k2 : Vec Ideal S1024x256 .bf16) (v0 v1 v2 : Vec Ideal S256x1024 .bf16)
    (b : Vec Ideal S8x256x768 .f32) : Vec Ideal S256x1024 .bf16 := fun i =>
  headOf sm q k0 k1 k2 v0 v1 v2 b ⟨(i 1).val / 128, by have hi : (i 1).val < 1024 := (i 1).isLt; omega⟩ (ix2 (i 0) ⟨(i 1).val % 128, Nat.mod_lt _ (by decide)⟩)

/-- What a head stores, at its columns. -/
theorem head_piece (sm : FVec Ideal S256x768 .f32) (q : Vec Ideal S256x1024 .bf16) (k0 k1 k2 : Vec Ideal S1024x256 .bf16) (v0 v1 v2 : Vec Ideal S256x1024 .bf16)
    (b : Vec Ideal S8x256x768 .f32) (h : Fin 8) (o : ℕ) (ho : o = 128 * h.val) (inbk inbv inbb) (x : S256x128.Idx) (y : S256x1024.Idx)
    (h0 : (y 0).val = (x 0).val) (h1 : (y 1).val = o + (x 1).val) :
    attn sm (View.ld k0 (Rect.unit ![o, 0] ![128, 256] inbk)) (View.ld k1 (Rect.unit ![o, 0] ![128, 256] inbk)) (View.ld k2 (Rect.unit ![o, 0] ![128, 256] inbk))
      (View.ld v0 (Rect.unit ![0, o] ![256, 128] inbv)) (View.ld v1 (Rect.unit ![0, o] ![256, 128] inbv)) (View.ld v2 (Rect.unit ![0, o] ![256, 128] inbv))
      (View.ld q (Rect.unit ![0, o] ![256, 128] inbv)) (View.ld b (Rect.unit ![h.val, 0, 0] ![1, 256, 768] inbb)) x
      = block sm q k0 k1 k2 v0 v1 v2 b y := by
  subst ho
  have hx0 : (x 0).val < 256 := (x 0).isLt
  have hx1 : (x 1).val < 128 := (x 1).isLt
  have hh : (y 1).val / 128 = h.val := by omega
  have hm : (y 1).val % 128 = (x 1).val := by omega
  have hy : h = ⟨(y 1).val / 128, by omega⟩ := Fin.ext hh.symm
  have hk : ∀ k : Vec Ideal S1024x256 .bf16, View.ld k (Rect.unit ![128 * h.val, 0] ![128, 256] inbk)
      = fun j => k (ix2 ⟨128 * h.val + (j 0).val, by have hj : (j 0).val < 128 := (j 0).isLt; omega⟩ (j 1)) := fun k => by
    funext j; refine congrArg k ?_; funext a; apply Fin.ext
    match a with
    | ⟨0, _⟩ => show 128 * h.val + 1 * (j 0).val = 128 * h.val + (j 0).val; omega
    | ⟨1, _⟩ => show 0 + 1 * (j 1).val = (j 1).val; omega
  have hv : ∀ v : Vec Ideal S256x1024 .bf16, View.ld v (Rect.unit ![0, 128 * h.val] ![256, 128] inbv)
      = fun j => v (ix2 (j 0) ⟨128 * h.val + (j 1).val, by have hj : (j 1).val < 128 := (j 1).isLt; omega⟩) := fun v => by
    funext j; refine congrArg v ?_; funext a; apply Fin.ext
    match a with
    | ⟨0, _⟩ => show 0 + 1 * (j 0).val = (j 0).val; omega
    | ⟨1, _⟩ => show 128 * h.val + 1 * (j 1).val = 128 * h.val + (j 1).val; omega
  have hb : View.ld b (Rect.unit ![h.val, 0, 0] ![1, 256, 768] inbb) = plane b h := by
    funext j; refine congrArg b ?_; funext a; apply Fin.ext
    match a with
    | ⟨0, _⟩ => have hj : (j 0).val < 1 := (j 0).isLt; show h.val + 1 * (j 0).val = h.val; omega
    | ⟨1, _⟩ => show 0 + 1 * (j 1).val = (j 1).val; omega
    | ⟨2, _⟩ => show 0 + 1 * (j 2).val = (j 2).val; omega
  rw [hb]
  simp only [hk, hv]
  have hxy : x = ix2 (y 0) ⟨(y 1).val % 128, by omega⟩ := by
    funext a; apply Fin.ext
    match a with
    | ⟨0, _⟩ => exact h0.symm
    | ⟨1, _⟩ => exact hm.symm
  unfold block headOf
  rw [hxy, ← hy]
  rfl

/-- A later point's output block. -/
theorem b1 (c : Dev nD) (t : Fin cfg0.N) (h0 : ¬ t.val % 64 = 0) : (outsAt0 m c t.val t.isLt).1 =
    block (k0_pay17 (grid0.coords t)) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2 := by
  rw [outsAt0_B m c t h0]
  frame_out
  simp only [read_unread_whole]
  generalize (outsAt0 m c (t.val - 1) (Nat.lt_of_le_of_lt (Nat.sub_le _ _) t.isLt)).2 = b
  funext y
  canon_tiles x h
  · exact head_piece _ _ _ _ _ _ _ _ _ 7 896 rfl _ _ _ x y (by omega) (by omega)
  · rw [head6]; exact head_piece _ _ _ _ _ _ _ _ _ 6 768 rfl _ _ _ x y (by omega) (by omega)
  · rw [head5]; exact head_piece _ _ _ _ _ _ _ _ _ 5 640 rfl _ _ _ x y (by omega) (by omega)
  · rw [head4]; exact head_piece _ _ _ _ _ _ _ _ _ 4 512 rfl _ _ _ x y (by omega) (by omega)
  · rw [head3]; exact head_piece _ _ _ _ _ _ _ _ _ 3 384 rfl _ _ _ x y (by omega) (by omega)
  · rw [head2]; exact head_piece _ _ _ _ _ _ _ _ _ 2 256 rfl _ _ _ x y (by omega) (by omega)
  · rw [head1]; exact head_piece _ _ _ _ _ _ _ _ _ 1 128 rfl _ _ _ x y (by omega) (by omega)
  · rw [head0]; exact head_piece _ _ _ _ _ _ _ _ _ 0 0 rfl _ _ _ x y (by omega) (by omega)

/-- A load of what stores have left. -/
theorem readCov_ld {κ : Kind} {sp : Space} {s : Shape} {e : EltTy} (v : View sig κ sp s e) (L : List (View.Piece (Elt Ideal) s e)) (R : Rect s) :
    v.readCov L R.toLoadRect = View.ld (View.canon L) R := v.readCov_eq_canon' L R.toLoadRect

set_option maxHeartbeats 2000000 in
/-- The first point's output block. -/
theorem a1 (c : Dev nD) (t : Fin cfg0.N) (h0 : t.val % 64 = 0) : (outsAt0 m c t.val t.isLt).1 =
    block (k0_pay17 (grid0.coords t)) (iblk m c 0 t) (iblk m c 1 t) (iblk m c 2 t) (iblk m c 3 t) (iblk m c 4 t) (iblk m c 5 t) (iblk m c 6 t)
      (bias (iblk m c 7 t)) := by
  rw [outsAt0_A m c t h0]
  frame_out
  simp only [readCov_ld]
  funext y
  canon_tiles x h
  · refine (head_piece _ _ _ _ _ _ _ _ _ 7 896 rfl _ _ _ x y (by omega) (by omega)).trans (congrArg (fun b => block _ _ _ _ _ _ _ _ b y) ?_)
    funext z; canon_tiles u hu; all_goals exact bias_piece (iblk m c 7 t) _ _ u z (by omega) (by omega) (by omega)
  · rw [head6]; refine (head_piece _ _ _ _ _ _ _ _ _ 6 768 rfl _ _ _ x y (by omega) (by omega)).trans (congrArg (fun b => block _ _ _ _ _ _ _ _ b y) ?_)
    funext z; canon_tiles u hu; all_goals exact bias_piece (iblk m c 7 t) _ _ u z (by omega) (by omega) (by omega)
  · rw [head5]; refine (head_piece _ _ _ _ _ _ _ _ _ 5 640 rfl _ _ _ x y (by omega) (by omega)).trans (congrArg (fun b => block _ _ _ _ _ _ _ _ b y) ?_)
    funext z; canon_tiles u hu; all_goals exact bias_piece (iblk m c 7 t) _ _ u z (by omega) (by omega) (by omega)
  · rw [head4]; refine (head_piece _ _ _ _ _ _ _ _ _ 4 512 rfl _ _ _ x y (by omega) (by omega)).trans (congrArg (fun b => block _ _ _ _ _ _ _ _ b y) ?_)
    funext z; canon_tiles u hu; all_goals exact bias_piece (iblk m c 7 t) _ _ u z (by omega) (by omega) (by omega)
  · rw [head3]; refine (head_piece _ _ _ _ _ _ _ _ _ 3 384 rfl _ _ _ x y (by omega) (by omega)).trans (congrArg (fun b => block _ _ _ _ _ _ _ _ b y) ?_)
    funext z; canon_tiles u hu; all_goals exact bias_piece (iblk m c 7 t) _ _ u z (by omega) (by omega) (by omega)
  · rw [head2]; refine (head_piece _ _ _ _ _ _ _ _ _ 2 256 rfl _ _ _ x y (by omega) (by omega)).trans (congrArg (fun b => block _ _ _ _ _ _ _ _ b y) ?_)
    funext z; canon_tiles u hu; all_goals exact bias_piece (iblk m c 7 t) _ _ u z (by omega) (by omega) (by omega)
  · rw [head1]; refine (head_piece _ _ _ _ _ _ _ _ _ 1 128 rfl _ _ _ x y (by omega) (by omega)).trans (congrArg (fun b => block _ _ _ _ _ _ _ _ b y) ?_)
    funext z; canon_tiles u hu; all_goals exact bias_piece (iblk m c 7 t) _ _ u z (by omega) (by omega) (by omega)
  · rw [head0]; refine (head_piece _ _ _ _ _ _ _ _ _ 0 0 rfl _ _ _ x y (by omega) (by omega)).trans (congrArg (fun b => block _ _ _ _ _ _ _ _ b y) ?_)
    funext z; canon_tiles u hu; all_goals exact bias_piece (iblk m c 7 t) _ _ u z (by omega) (by omega) (by omega)

end Cert.KernelIdeal.Band
-- ==== Proof.Windows.lean ====
module
public import proofs.«01_k».proof.Proof.Point
public import Idealize.ShloMosaic.Lib.Pointwise
public import Idealize.ShloMosaic.Lib.StableHlo.ReadAt
public import Idealize.ShloMosaic.Lib.Tactic.WordOmega
@[expose] public section
set_option maxRecDepth 16384
noncomputable section
namespace Cert.KernelIdeal.Band
open Cert.KernelIdeal Cert.KernelIdeal.Gen Idealize.ShloMosaic  Idealize.ShloMosaic.TcCoe Idealize.SL.Sem
variable (m : (ℓ : Loc nD τ sig) → Buf (Elt Ideal) ℓ)

/-- The combined projection's buffer. -/
abbrev prj (c : Dev nD) : Vec Ideal S1x16384x11344 .f32 := m ((c : Thread nD τ).loc main_arg0)
/-- The bias table's buffer. -/
abbrev tab (c : Dev nD) : Vec Ideal S1x8x257 .f32 := m ((c : Thread nD τ).loc main_arg1)

/-- The combined projection, as the band call reads it: its fifth block of 1024 columns is the queries. -/
theorem V_q (c : Dev nD) (R : Fin 16384) (j : Fin 1024) :
    (V m c main_v13 : Vec Ideal S16384x7168 .bf16) (ix2 R ⟨4096 + j.val, by omega⟩) = prj m c (ix3 0 R ⟨4176 + j.val, by omega⟩) := by
  unfold V
  after_reads_at
  rw [dif_neg (by omega), dif_neg (by omega), dif_neg (by omega), dif_neg (by omega), dif_pos (by omega)]
  after_reads_at
  refine congrArg (prj m c) (congrArg (ix3 0 R) (Fin.ext ?_))
  show 4176 + (4096 + j.val - 1024 - 1024 - 1024 - 1024) = 4176 + j.val
  omega

/-- Its seventh block is the values. -/
theorem V_v (c : Dev nD) (R : Fin 16384) (j : Fin 1024) :
    (V m c main_v13 : Vec Ideal S16384x7168 .bf16) (ix2 R ⟨6144 + j.val, by omega⟩) = prj m c (ix3 0 R ⟨6224 + j.val, by omega⟩) := by
  unfold V
  after_reads_at
  rw [dif_neg (by omega), dif_neg (by omega), dif_neg (by omega), dif_neg (by omega), dif_neg (by omega), dif_neg (by omega)]
  after_reads_at
  refine congrArg (prj m c) (congrArg (ix3 0 R) (Fin.ext ?_))
  show 6224 + (6144 + j.val - 1024 - 1024 - 1024 - 1024 - 1024 - 1024) = 6224 + j.val
  omega

/-- The transposed keys. -/
theorem V_k (c : Dev nD) (R : Fin 16384) (j : Fin 1024) :
    (V m c main_v15 : Vec Ideal S1024x16384 .bf16) (ix2 j R) = prj m c (ix3 0 R ⟨5200 + j.val, by omega⟩) := by
  unfold V
  after_reads_at
  rw [dif_neg (by omega), dif_neg (by omega), dif_neg (by omega), dif_neg (by omega), dif_neg (by omega), dif_pos (by omega)]
  after_reads_at
  refine congrArg (prj m c) (congrArg (ix3 0 R) (Fin.ext ?_))
  show 5200 + (5120 + j.val - 1024 - 1024 - 1024 - 1024 - 1024) = 5200 + j.val
  omega

/-- The host's table of distances, decided. -/
theorem table : ∀ n : Fin 1024, (lit0 n).toInt.toNat = (max 0 (min 256 (895 - (n.val : ℤ)))).toNat := by decide +kernel

/-- The host's take along the lanes of a row, at an index. -/
theorem gather_at (x : Vec Ideal S8x257 .f32) (idx : IVec S1024x1 32) (h : Fin 8) (n : Fin 1024) (N : Fin 257) (hN : (idx (ix2 n 0)).toInt.toNat = N.val) :
    Host.gather gather_S8x257_S1024x1_S8x1024_0_1_n_n_1_1_81 x idx (ix2 h n) = x (ix2 h N) := by
  unfold Host.gather
  refine congrArg x ?_
  have hs : ∀ k, gather_S8x257_S1024x1_S8x1024_0_1_n_n_1_1_81.siIdx (ix2 h n) k = ix2 n 0 := fun k => by
    funext a; apply Fin.ext
    match a with
    | ⟨0, _⟩ => rfl
    | ⟨1, _⟩ => have := k.isLt; have e : gather_S8x257_S1024x1_S8x1024_0_1_n_n_1_1_81.startIndexMap.length = 1 := rfl; show k.val = 0; omega
  funext a; apply Fin.ext
  match a with
  | ⟨0, _⟩ => show 0 + 0 + h.val = h.val; omega
  | ⟨1, _⟩ =>
    show min (idx (gather_S8x257_S1024x1_S8x1024_0_1_n_n_1_1_81.siIdx (ix2 h n) ⟨0, _⟩)).toInt.toNat (257 - 1) + 0 + 0 = N.val
    rw [hs, hN]; omega

/-- The table of relative biases the call reads. -/
theorem V_g (c : Dev nD) (h : Fin 8) (n : Fin 1024) :
    (V m c main_v21 : Vec Ideal S8x1024 .f32) (ix2 h n) = tab m c (ix3 0 h ⟨(max 0 (min 256 (895 - (n.val : ℤ)))).toNat, by omega⟩) := by
  unfold V
  after_reads_at
  rw [gather_at _ _ h n ⟨(max 0 (min 256 (895 - (n.val : ℤ)))).toNat, by omega⟩]
  · rfl
  · refine Eq.trans (congrArg (fun w : BitVec 32 => w.toInt.toNat) ?_) (table n)
    show lit0 (S1024.rowMajor (ix1 n)) = lit0 n
    refine congrArg lit0 (Fin.ext ?_)
    exact Shape.rowMajor_val_one _

/-- The block indices of the windows, decided over the grid. -/
theorem pt_facts : ∀ t : Fin cfg0.N, win0_0.index t 0 = t.val ∧ win0_0.index t 1 = 4
    ∧ win0_1.index t 0 = 0 ∧ win0_1.index t 1 = t.val - 2 ∧ win0_2.index t 0 = 0 ∧ win0_2.index t 1 = t.val - 1 ∧ win0_3.index t 0 = 0 ∧ win0_3.index t 1 = t.val
    ∧ win0_4.index t 0 = t.val - 2 ∧ win0_4.index t 1 = 6 ∧ win0_5.index t 0 = t.val - 1 ∧ win0_5.index t 1 = 6 ∧ win0_6.index t 0 = t.val ∧ win0_6.index t 1 = 6
    ∧ win0_7.index t 0 = 0 ∧ win0_7.index t 1 = 0 ∧ (grid0.coords t 0).val = t.val :=
  (by decide +kernel : ∀ t : Fin grid0.N, _)

/-- The queries a point reads. -/
theorem blk0 (c : Dev nD) (t : Fin cfg0.N) (i : Fin 256) (j : Fin 1024) (R : Fin 16384) (hR : R.val = 256 * t.val + i.val) :
    iblk m c 0 t (ix2 i j) = prj m c (ix3 0 R ⟨4176 + j.val, by omega⟩) := by
  obtain ⟨a0, a1, b0, b1, c0, c1, d0, d1, e0, e1, f0, f1, g0, g1, h0, h1, k0⟩ := pt_facts t
  rw [← V_q]
  unfold iblk; rw [View.read_apply]
  refine congrArg (V m c main_v13) ?_
  funext a; apply Fin.ext
  match a with
  | ⟨0, _⟩ => show win0_0.index t 0 * 256 + 1 * (i.val) = _; rw [a0]; show _ = R.val; omega
  | ⟨1, _⟩ => show win0_0.index t 1 * 1024 + 1 * (j.val) = _; rw [a1]; show _ = 4096 + j.val; omega

/-- The keys two blocks before. -/
theorem blk1 (c : Dev nD) (t : Fin cfg0.N) (j : Fin 1024) (i : Fin 256) (R : Fin 16384) (hR : R.val = 256 * (t.val - 2) + i.val) :
    iblk m c 1 t (ix2 j i) = prj m c (ix3 0 R ⟨5200 + j.val, by omega⟩) := by
  obtain ⟨a0, a1, b0, b1, c0, c1, d0, d1, e0, e1, f0, f1, g0, g1, h0, h1, k0⟩ := pt_facts t
  rw [← V_k]
  unfold iblk; rw [View.read_apply]
  refine congrArg (V m c main_v15) ?_
  funext a; apply Fin.ext
  match a with
  | ⟨0, _⟩ => show win0_1.index t 0 * 1024 + 1 * (j.val) = _; rw [b0]; show _ = j.val; omega
  | ⟨1, _⟩ => show win0_1.index t 1 * 256 + 1 * (i.val) = _; rw [b1]; show _ = R.val; omega

/-- The keys one block before. -/
theorem blk2 (c : Dev nD) (t : Fin cfg0.N) (j : Fin 1024) (i : Fin 256) (R : Fin 16384) (hR : R.val = 256 * (t.val - 1) + i.val) :
    iblk m c 2 t (ix2 j i) = prj m c (ix3 0 R ⟨5200 + j.val, by omega⟩) := by
  obtain ⟨a0, a1, b0, b1, c0, c1, d0, d1, e0, e1, f0, f1, g0, g1, h0, h1, k0⟩ := pt_facts t
  rw [← V_k]
  unfold iblk; rw [View.read_apply]
  refine congrArg (V m c main_v15) ?_
  funext a; apply Fin.ext
  match a with
  | ⟨0, _⟩ => show win0_2.index t 0 * 1024 + 1 * (j.val) = _; rw [c0]; show _ = j.val; omega
  | ⟨1, _⟩ => show win0_2.index t 1 * 256 + 1 * (i.val) = _; rw [c1]; show _ = R.val; omega

/-- The keys of the block itself. -/
theorem blk3 (c : Dev nD) (t : Fin cfg0.N) (j : Fin 1024) (i : Fin 256) (R : Fin 16384) (hR : R.val = 256 * t.val + i.val) :
    iblk m c 3 t (ix2 j i) = prj m c (ix3 0 R ⟨5200 + j.val, by omega⟩) := by
  obtain ⟨a0, a1, b0, b1, c0, c1, d0, d1, e0, e1, f0, f1, g0, g1, h0, h1, k0⟩ := pt_facts t
  rw [← V_k]
  unfold iblk; rw [View.read_apply]
  refine congrArg (V m c main_v15) ?_
  funext a; apply Fin.ext
  match a with
  | ⟨0, _⟩ => show win0_3.index t 0 * 1024 + 1 * (j.val) = _; rw [d0]; show _ = j.val; omega
  | ⟨1, _⟩ => show win0_3.index t 1 * 256 + 1 * (i.val) = _; rw [d1]; show _ = R.val; omega

/-- The values two blocks before. -/
theorem blk4 (c : Dev nD) (t : Fin cfg0.N) (i : Fin 256) (j : Fin 1024) (R : Fin 16384) (hR : R.val = 256 * (t.val - 2) + i.val) :
    iblk m c 4 t (ix2 i j) = prj m c (ix3 0 R ⟨6224 + j.val, by omega⟩) := by
  obtain ⟨a0, a1, b0, b1, c0, c1, d0, d1, e0, e1, f0, f1, g0, g1, h0, h1, k0⟩ := pt_facts t
  rw [← V_v]
  unfold iblk; rw [View.read_apply]
  refine congrArg (V m c main_v13) ?_
  funext a; apply Fin.ext
  match a with
  | ⟨0, _⟩ => show win0_4.index t 0 * 256 + 1 * (i.val) = _; rw [e0]; show _ = R.val; omega
  | ⟨1, _⟩ => show win0_4.index t 1 * 1024 + 1 * (j.val) = _; rw [e1]; show _ = 6144 + j.val; omega

/-- The values one block before. -/
theorem blk5 (c : Dev nD) (t : Fin cfg0.N) (i : Fin 256) (j : Fin 1024) (R : Fin 16384) (hR : R.val = 256 * (t.val - 1) + i.val) :
    iblk m c 5 t (ix2 i j) = prj m c (ix3 0 R ⟨6224 + j.val, by omega⟩) := by
  obtain ⟨a0, a1, b0, b1, c0, c1, d0, d1, e0, e1, f0, f1, g0, g1, h0, h1, k0⟩ := pt_facts t
  rw [← V_v]
  unfold iblk; rw [View.read_apply]
  refine congrArg (V m c main_v13) ?_
  funext a; apply Fin.ext
  match a with
  | ⟨0, _⟩ => show win0_5.index t 0 * 256 + 1 * (i.val) = _; rw [f0]; show _ = R.val; omega
  | ⟨1, _⟩ => show win0_5.index t 1 * 1024 + 1 * (j.val) = _; rw [f1]; show _ = 6144 + j.val; omega

/-- The values of the block itself. -/
theorem blk6 (c : Dev nD) (t : Fin cfg0.N) (i : Fin 256) (j : Fin 1024) (R : Fin 16384) (hR : R.val = 256 * t.val + i.val) :
    iblk m c 6 t (ix2 i j) = prj m c (ix3 0 R ⟨6224 + j.val, by omega⟩) := by
  obtain ⟨a0, a1, b0, b1, c0, c1, d0, d1, e0, e1, f0, f1, g0, g1, h0, h1, k0⟩ := pt_facts t
  rw [← V_v]
  unfold iblk; rw [View.read_apply]
  refine congrArg (V m c main_v13) ?_
  funext a; apply Fin.ext
  match a with
  | ⟨0, _⟩ => show win0_6.index t 0 * 256 + 1 * (i.val) = _; rw [g0]; show _ = R.val; omega
  | ⟨1, _⟩ => show win0_6.index t 1 * 1024 + 1 * (j.val) = _; rw [g1]; show _ = 6144 + j.val; omega

/-- The table's rows. -/
theorem blk7 (c : Dev nD) (t : Fin cfg0.N) (h : Fin 8) (n : Fin 1024) :
    iblk m c 7 t (ix2 h n) = tab m c (ix3 0 h ⟨(max 0 (min 256 (895 - (n.val : ℤ)))).toNat, by omega⟩) := by
  obtain ⟨a0, a1, b0, b1, c0, c1, d0, d1, e0, e1, f0, f1, g0, g1, h0, h1, k0⟩ := pt_facts t
  rw [← V_g]
  unfold iblk; rw [View.read_apply]
  refine congrArg (V m c main_v21) ?_
  funext a; apply Fin.ext
  match a with
  | ⟨0, _⟩ => show win0_7.index t 0 * 8 + 1 * (h.val) = _; rw [h0]; show _ = h.val; omega
  | ⟨1, _⟩ => show win0_7.index t 1 * 1024 + 1 * (n.val) = _; rw [h1]; show _ = n.val; omega

end Cert.KernelIdeal.Band
-- ==== Proof.Row.lean ====
module
public import proofs.«01_k».proof.Proof.Windows
public import proofs.«01_k».proof.Proof.Math
@[expose] public section
set_option maxRecDepth 16384
noncomputable section
namespace Cert.KernelIdeal.Band
open Cert.Band Cert.KernelIdeal Cert.KernelIdeal.Gen Idealize.ShloMosaic Idealize.ShloMosaic.TcCoe Idealize.SL.Sem
variable (m : (ℓ : Loc nD τ sig) → Buf (Elt Ideal) ℓ)

/-- The position in the sequence that lane `x` of point `t` holds. -/
def pos (t : Fin 64) (x : Fin 768) : Fin 16384 :=
  ⟨if x.val < 256 then 256 * (t.val - 2) + x.val else if x.val - 256 < 256 then 256 * (t.val - 1) + (x.val - 256) else 256 * t.val + (x.val - 256 - 256), by
    split_ifs <;> omega⟩

/-- The column of the bias table for query row `r` of a block against lane `x`. -/
def dist (r : Fin 256) (x : Fin 768) : Fin 257 := ⟨(max 0 (min 256 (640 + (r.val : ℤ) - (x.val : ℤ)))).toNat, by omega⟩

/-- Lane `x` is in query row `r`'s band, and its position exists. -/
abbrev Lane (t : Fin 64) (r : Fin 256) (x : Fin 768) : Prop :=
  (r.val / 64 ≤ x.val / 64 ∧ x.val / 64 ≤ r.val / 64 + 8) ∧ 512 ≤ 256 * t.val + x.val

/-- The bias at a head, a row and a column. -/
theorem bias_at (g : Vec Ideal S8x1024 .f32) (h : Fin 8) (r : Fin 256) (x : Fin 768) :
    bias g (ix3 h r x) = if r.val / 64 ≤ x.val / 64 ∧ x.val / 64 ≤ r.val / 64 + 8 then g (ix2 h ⟨x.val + 255 - r.val, by omega⟩) * (((Real.log 2)⁻¹ : ℝ) : EReal) else ⊥ := rfl

/-- The same, from the table. -/
theorem bias_read (c : Dev nD) (t : Fin cfg0.N) (h : Fin 8) (r : Fin 256) (x : Fin 768) :
    bias (iblk m c 7 t) (ix3 h r x) = if r.val / 64 ≤ x.val / 64 ∧ x.val / 64 ≤ r.val / 64 + 8 then tab m c (ix3 0 h (dist r x)) * (((Real.log 2)⁻¹ : ℝ) : EReal) else ⊥ := by
  rw [bias_at, blk7]
  have e : (⟨(max 0 (min 256 (895 - ((x.val + 255 - r.val : ℕ) : ℤ)))).toNat, by omega⟩ : Fin 257) = dist r x := Fin.ext (by
    show (max 0 (min 256 (895 - ((x.val + 255 - r.val : ℕ) : ℤ)))).toNat = (max 0 (min 256 (640 + (r.val : ℤ) - (x.val : ℤ)))).toNat
    congr 3; omega)
  rw [← e]

/-- Every point leaves a block computed from its own inputs and the bias. -/
theorem outs_block (c : Dev nD) (t : Fin cfg0.N) : ∃ t' : Fin cfg0.N, (outsAt0 m c t.val t.isLt).1 =
    block (k0_pay17 (grid0.coords t)) (iblk m c 0 t) (iblk m c 1 t) (iblk m c 2 t) (iblk m c 3 t) (iblk m c 4 t) (iblk m c 5 t) (iblk m c 6 t)
      (bias (iblk m c 7 t')) := by
  by_cases h0 : t.val % 64 = 0
  · exact ⟨t, a1 m c t h0⟩
  · exact ⟨_, (b1 m c t h0).trans (congrArg (fun b => block _ _ _ _ _ _ _ _ b) (scratch_eq m c _ _))⟩

/-- The real score of query row `r` of point `t` against lane `x`, for head `h`. -/
def scoreAt (A : Fin 16384 → Fin 11344 → ℝ) (T : Fin 8 → Fin 257 → ℝ) (t : Fin 64) (h : Fin 8) (r : Fin 256) (x : Fin 768) : ℝ :=
  (∑ d : Fin 128, A ⟨256 * t.val + r.val, by omega⟩ ⟨4176 + (128 * h.val + d.val), by omega⟩ * A (pos t x) ⟨5200 + (128 * h.val + d.val), by omega⟩) * (Real.sqrt 128)⁻¹
    + T h (dist r x)

/-- A score of reals. -/
theorem score_real (sm : FVec Ideal S256x768 .f32) (k0 k1 k2 : Vec Ideal S128x256 .bf16) (q : Vec Ideal S256x128 .bf16)
    (b : Vec Ideal S1x256x768 .f32) (r : Fin 256) (x : Fin 768) (Q K : Fin 128 → ℝ) (hq : ∀ d, q (ix2 r d) = (Q d : EReal)) (hk : ∀ d, keyAt k0 k1 k2 d x = (K d : EReal)) :
    score sm k0 k1 k2 q b r x = ((∑ d, Q d * ((Real.log 2)⁻¹ * (Real.sqrt 128)⁻¹) * K d : ℝ) : EReal) + b (ix3 0 r x) + sm (ix2 r x) := by
  unfold score
  simp only [hq, hk, ← EReal.coe_mul, coe_sum]

/-- The kernel's row is the weighted mean. -/
theorem out_row (c : Dev nD) (A : Fin 16384 → Fin 11344 → ℝ) (T : Fin 8 → Fin 257 → ℝ)
    (hA : ∀ R (j : Fin 11344), 4176 ≤ j.val → j.val < 7248 → prj m c (ix3 0 R j) = (A R j : EReal)) (hT : ∀ h n, tab m c (ix3 0 h n) = (T h n : EReal))
    (t : Fin 64) (ht : t.val < cfg0.N) (h : Fin 8) (r : Fin 256) (l : Fin 128) :
    (outsAt0 m c t.val ht).1 (ix2 r ⟨128 * h.val + l.val, by omega⟩)
      = (mean (Lane t r) (scoreAt A T t h r) (fun x => A (pos t x) ⟨6224 + (128 * h.val + l.val), by omega⟩) : EReal) := by
  obtain ⟨t', e⟩ := outs_block m c ⟨t.val, ht⟩
  rw [show (outsAt0 m c t.val ht).1 = _ from e]
  have hk0 := (pt_facts ⟨t.val, ht⟩).2.2.2.2.2.2.2.2.2.2.2.2.2.2.2.2
  have e1 : (⟨(128 * h.val + l.val) / 128, by omega⟩ : Fin 8) = h := Fin.ext (by show (128 * h.val + l.val) / 128 = h.val; omega)
  have e2 : (⟨(128 * h.val + l.val) % 128, Nat.mod_lt _ (by decide)⟩ : Fin 128) = l := Fin.ext (by show (128 * h.val + l.val) % 128 = l.val; omega)
  show headOf _ _ _ _ _ _ _ _ _ ⟨(128 * h.val + l.val) / 128, _⟩ (ix2 r ⟨(128 * h.val + l.val) % 128, _⟩) = _
  rw [e1, e2]
  unfold headOf
  rw [attn_apply]
  refine row_exp2 (Lane t r) (scoreAt A T t h r) _ ⟨⟨512 + r.val, by omega⟩, ⟨by show r.val / 64 ≤ (512 + r.val) / 64; omega, by show (512 + r.val) / 64 ≤ r.val / 64 + 8; omega⟩, by show 512 ≤ 256 * t.val + (512 + r.val); omega⟩ _ (fun x => ?_) _ (fun x => ?_)
  · have hq : ∀ d : Fin 128, (fun j => iblk m c 0 ⟨t.val, ht⟩ (ix2 (j 0) ⟨128 * h.val + (j 1).val, by have hj : (j 1).val < 128 := (j 1).isLt; omega⟩) : Vec Ideal S256x128 .bf16) (ix2 r d) = (A ⟨256 * t.val + r.val, by omega⟩ ⟨4176 + (128 * h.val + d.val), by omega⟩ : EReal) := fun d => by
      refine (blk0 m c ⟨t.val, ht⟩ r ⟨128 * h.val + d.val, by omega⟩ ⟨256 * t.val + r.val, by omega⟩ rfl).trans ?_
      exact hA _ _ (by show 4176 ≤ 4176 + (128 * h.val + d.val); omega) (by show 4176 + (128 * h.val + d.val) < 7248; omega)
    have hk : ∀ d : Fin 128, keyAt (fun j => iblk m c 1 ⟨t.val, ht⟩ (ix2 ⟨128 * h.val + (j 0).val, by have hj : (j 0).val < 128 := (j 0).isLt; omega⟩ (j 1)))
        (fun j => iblk m c 2 ⟨t.val, ht⟩ (ix2 ⟨128 * h.val + (j 0).val, by have hj : (j 0).val < 128 := (j 0).isLt; omega⟩ (j 1)))
        (fun j => iblk m c 3 ⟨t.val, ht⟩ (ix2 ⟨128 * h.val + (j 0).val, by have hj : (j 0).val < 128 := (j 0).isLt; omega⟩ (j 1))) d x
          = (A (pos t x) ⟨5200 + (128 * h.val + d.val), by omega⟩ : EReal) := fun d => by
      rw [← hA _ _ (by show 4176 ≤ 5200 + (128 * h.val + d.val); omega) (by show 5200 + (128 * h.val + d.val) < 7248; omega)]
      unfold keyAt pos
      split_ifs with h1 h2
      · exact blk1 m c ⟨t.val, ht⟩ ⟨128 * h.val + d.val, by omega⟩ ⟨x.val, h1⟩ _ rfl
      · exact blk2 m c ⟨t.val, ht⟩ ⟨128 * h.val + d.val, by omega⟩ ⟨x.val - 256, h2⟩ _ rfl
      · exact blk3 m c ⟨t.val, ht⟩ ⟨128 * h.val + d.val, by omega⟩ ⟨x.val - 256 - 256, by omega⟩ _ rfl
    rw [score_real _ _ _ _ _ _ r x _ _ hq hk, start_apply]
    show _ + bias (iblk m c 7 t') (ix3 h r x) + _ = _
    rw [bias_read, hT, hk0, ← EReal.coe_mul]
    unfold masked Lane
    by_cases p1 : r.val / 64 ≤ x.val / 64 ∧ x.val / 64 ≤ r.val / 64 + 8
    · by_cases p2 : 512 ≤ 256 * t.val + x.val
      · rw [if_pos p1, if_pos p2, add_zero, ← EReal.coe_add]; refine Eq.trans ?_ (if_pos (c := Lane t r x) ⟨p1, p2⟩).symm
        congr 1
        unfold scoreAt
        show _ = (_ + _) * _
        rw [add_mul, Finset.sum_mul, Finset.sum_mul]
        congr 1
        exact Finset.sum_congr rfl fun d _ => by ring
      · rw [if_neg p2, EReal.add_bot]; exact (if_neg (c := Lane t r x) fun p => p2 p.2).symm
    · rw [if_neg p1, EReal.add_bot, EReal.bot_add]; exact (if_neg (c := Lane t r x) fun p => p1 p.1).symm
  · rw [← hA _ _ (by show 4176 ≤ 6224 + (128 * h.val + l.val); omega) (by show 6224 + (128 * h.val + l.val) < 7248; omega)]
    unfold valAt pos
    split_ifs with h1 h2
    · exact blk4 m c ⟨t.val, ht⟩ ⟨x.val, h1⟩ ⟨128 * h.val + l.val, by omega⟩ _ rfl
    · exact blk5 m c ⟨t.val, ht⟩ ⟨x.val - 256, h2⟩ ⟨128 * h.val + l.val, by omega⟩ _ rfl
    · exact blk6 m c ⟨t.val, ht⟩ ⟨x.val - 256 - 256, by omega⟩ ⟨128 * h.val + l.val, by omega⟩ _ rfl

/-- The result at an index is what its point left there. -/
theorem G8_at (c : Dev nD) (i : S16384x1024.Idx) (n : ℕ) (hn : n < cfg0.N) (z : S256x1024.Idx) (hp : Cert.KernelIdeal.Value.pt8Of i = n) (hz : Cert.KernelIdeal.Value.loc8Of i = z) :
    Cert.KernelIdeal.Value.G8 m c i = (outsAt0 m c n hn).1 z := by
  subst hp hz
  unfold Cert.KernelIdeal.Value.G8
  rw [dif_pos hn, ← Cert.KernelIdeal.Value.outsAt0_sweep m c _ hn]

/-- What the output array ends holding, at an index. -/
theorem G8_apply (c : Dev nD) (A : Fin 16384 → Fin 11344 → ℝ) (T : Fin 8 → Fin 257 → ℝ)
    (hA : ∀ R (j : Fin 11344), 4176 ≤ j.val → j.val < 7248 → prj m c (ix3 0 R j) = (A R j : EReal)) (hT : ∀ h n, tab m c (ix3 0 h n) = (T h n : EReal))
    (t : Fin 64) (h : Fin 8) (r : Fin 256) (l : Fin 128) :
    (Cert.KernelIdeal.Value.G8 m c : Vec Ideal S16384x1024 .bf16) (ix2 ⟨256 * t.val + r.val, by omega⟩ ⟨128 * h.val + l.val, by omega⟩)
      = (mean (Lane t r) (scoreAt A T t h r) (fun x => A (pos t x) ⟨6224 + (128 * h.val + l.val), by omega⟩) : EReal) := by
  have ht : t.val < cfg0.N := lt_of_lt_of_eq t.isLt (show (64 : ℕ) = cfg0.N from N_0.symm)
  rw [← out_row m c A T hA hT t ht h r l]
  refine G8_at m c _ t.val ht _ ?_ ?_
  · show 1 * ((256 * t.val + r.val) / 256 - 0) + 1 * ((128 * h.val + l.val) / 1024 - 0) = t.val
    omega
  · funext a; apply Fin.ext
    match a with
    | ⟨0, _⟩ => show (256 * t.val + r.val) % 256 = r.val; omega
    | ⟨1, _⟩ => show (128 * h.val + l.val) % 1024 = 128 * h.val + l.val; omega

end Cert.KernelIdeal.Band
-- ==== Proof.Keys.lean ====
module
public import proofs.«01_k».proof.Proof.Gen.ReferenceIdeal.Read

public import proofs.«01_k».proof.Proof.Math
public import Idealize.ShloMosaic.Lib.Pointwise
@[expose] public section
set_option maxRecDepth 16384
noncomputable section
namespace Cert.ReferenceIdeal.Band
open Cert.Band Cert.ReferenceIdeal Cert.ReferenceIdeal.Gen Cert.ReferenceIdeal.Read Idealize.ShloMosaic

variable (x0 : Vec Ideal S1x16384x11344 .f32) (x1 : Vec Ideal S1x8x257 .f32)

/-- Chunk number plus band offset, as a word. -/
theorem start_word : ∀ (C : Fin 256) (g : Fin 9),
    (Scalar.select (IntOp.cmpi .slt (IntOp.addi (BitVec.ofNat 32 C.val) (BitVec.ofNat 32 g.val)) 0#32)
      (IntOp.addi (IntOp.addi (BitVec.ofNat 32 C.val) (BitVec.ofNat 32 g.val)) 264#32) (IntOp.addi (BitVec.ofNat 32 C.val) (BitVec.ofNat 32 g.val))).toInt.toNat = C.val + g.val := by
  decide +kernel

/-- Where the gather of keys starts. -/
theorem start_k (C : Fin 256) (g : Fin 9) : (val_main_v22 (F := Ideal) (ix3 C g 0)).toInt.toNat = C.val + g.val := by
  rw [← start_word C g]
  simp only [val_main_v22_apply, val_main_v21_apply, val_main_v20_apply, val_main_v19_apply, val_main_v18_apply, val_main_v17_apply, val_main_v16_apply, val_main_v15_apply, val_main_v14_apply,
    val_main_v13_apply, val_main_v12_apply, val_main_v11_apply, val_main_v10_apply, val_main_c_1_apply, val_main_c_2_apply]
  rfl

/-- Where the gather of values starts. -/
theorem start_v (C : Fin 256) (g : Fin 9) : (val_main_v30 (F := Ideal) (ix3 C g 0)).toInt.toNat = C.val + g.val := by
  rw [← start_word C g]
  simp only [val_main_v30_apply, val_main_v29_apply, val_main_v28_apply, val_main_v27_apply, val_main_v26_apply, val_main_v25_apply, val_main_v16_apply, val_main_v15_apply, val_main_v14_apply,
    val_main_v13_apply, val_main_v12_apply, val_main_v11_apply, val_main_v10_apply, val_main_c_3_apply, val_main_c_4_apply]
  rfl

/-- The take of nine chunks, at an index. -/
theorem chunk_at (x : Vec Ideal S1x264x64x8x128 .f32) (idx : IVec S256x9x1 32) (C : Fin 256) (g : Fin 9) (r : Fin 64) (h : Fin 8) (d : Fin 128)
    (N : Fin 264) (hN : (idx (ix3 C g 0)).toInt.toNat = N.val) :
    Host.gather gather_S1x264x64x8x128_S256x9x1_S1x256x9x64x8x128_0345_1_n_n_1_2_11648128 x idx (ix6 0 C g r h d) = x (ix5 0 N r h d) := by
  unfold Host.gather
  refine congrArg x ?_
  have hs : ∀ k, gather_S1x264x64x8x128_S256x9x1_S1x256x9x64x8x128_0345_1_n_n_1_2_11648128.siIdx (ix6 0 C g r h d) k = ix3 C g 0 := fun k => by
    funext a; apply Fin.ext
    match a with
    | ⟨0, _⟩ => rfl
    | ⟨1, _⟩ => rfl
    | ⟨2, _⟩ =>
      have := k.isLt
      have e : gather_S1x264x64x8x128_S256x9x1_S1x256x9x64x8x128_0345_1_n_n_1_2_11648128.startIndexMap.length = 1 := rfl
      show k.val = 0; omega
  funext a; apply Fin.ext
  match a with
  | ⟨0, _⟩ => rfl
  | ⟨1, _⟩ =>
    show min (idx (gather_S1x264x64x8x128_S256x9x1_S1x256x9x64x8x128_0345_1_n_n_1_2_11648128.siIdx (ix6 0 C g r h d) ⟨0, _⟩)).toInt.toNat (264 - 1) + 0 + 0 = N.val
    rw [hs, hN]; omega
  | ⟨2, _⟩ => show 0 + 0 + r.val = r.val; omega
  | ⟨3, _⟩ => show 0 + 0 + h.val = h.val; omega
  | ⟨4, _⟩ => show 0 + 0 + d.val = d.val; omega

/-- The padded sequence, at an index. -/
theorem pad_at (x : Vec Ideal S1x16384x8x128 .f32) (v : Vec Ideal S_ .f32) (G : Fin 16896) (h : Fin 8) (d : Fin 128) :
    pad S1x16896x8x128 ![0, 512, 0, 0] ![0, 0, 0, 0] ![0, 0, 0, 0] x v pads_S1x16384x8x128_S1x16896x8x128_000_51200_000_000 h_S_ (ix4 0 G h d)
      = if 512 ≤ G.val then x (ix4 0 ⟨G.val - 512, by omega⟩ h d) else v (Shape.Idx.first h_S_) := by
  unfold pad
  by_cases hG : 512 ≤ G.val
  · rw [if_pos hG, dif_pos]
    · refine congrArg x ?_
      funext a; apply Fin.ext
      match a with
      | ⟨0, _⟩ => show (0 - 0) / 1 = 0; omega
      | ⟨1, _⟩ => show (G.val - 512) / 1 = G.val - 512; omega
      | ⟨2, _⟩ => show (h.val - 0) / 1 = h.val; omega
      | ⟨3, _⟩ => show (d.val - 0) / 1 = d.val; omega
    · intro a
      match a with
      | ⟨0, _⟩ => exact ⟨by show 0 ≤ 0; omega, by show (0 - 0) % 1 = 0; omega, by show (0 - 0) / 1 < 1; omega⟩
      | ⟨1, _⟩ => exact ⟨hG, by show (G.val - 512) % 1 = 0; omega, by show (G.val - 512) / 1 < 16384; omega⟩
      | ⟨2, _⟩ => exact ⟨by show 0 ≤ h.val; omega, by show (h.val - 0) % 1 = 0; omega, by show (h.val - 0) / 1 < 8; omega⟩
      | ⟨3, _⟩ => exact ⟨by show 0 ≤ d.val; omega, by show (d.val - 0) % 1 = 0; omega, by show (d.val - 0) / 1 < 128; omega⟩
  · rw [if_neg hG, dif_neg fun hin => hG (hin 1).1]

/-- Nine slices of 64 are 576 in a row. -/
theorem band_index (C : Fin 256) (kj : Fin 576) (h : Fin 8) (d : Fin 128) :
    (S1x256x9x64x8x128.rowMajor (ix6 0 C ⟨kj.val / 64, by omega⟩ ⟨kj.val % 64, by omega⟩ h d)).val = (S1x256x576x8x128.rowMajor (ix5 0 C kj h d)).val := by
  rw [Shape.rowMajor_val_succ, Shape.rowMajor_val_five, Shape.rowMajor_val_five]
  show 0 * _ + ((((C.val * 9 + kj.val / 64) * 64 + kj.val % 64) * 8 + h.val) * 128 + d.val) = ((((0 * 256 + C.val) * 576 + kj.val) * 8 + h.val) * 128 + d.val)
  omega

/-- A band's key, or zero before the sequence starts. -/
theorem key_at (C : Fin 256) (kj : Fin 576) (h : Fin 8) (d : Fin 128) :
    val_main_v24 (F := Ideal) x0 (ix5 0 C kj h d)
      = if 512 ≤ 64 * C.val + kj.val then x0 (ix3 0 ⟨64 * C.val + kj.val - 512, by omega⟩ ⟨5200 + (128 * h.val + d.val), by omega⟩) else 0 := by
  unfold val_main_v24
  rw [shapeCast_apply _ _ _ _ (band_index C kj h d)]
  unfold val_main_v23
  rw [chunk_at _ _ C _ _ h d ⟨C.val + kj.val / 64, by omega⟩ (start_k C _), val_main_v7_apply]
  have e : idx_main_v7 (ix5 0 ⟨C.val + kj.val / 64, by omega⟩ ⟨kj.val % 64, by omega⟩ h d) = ix4 0 ⟨64 * C.val + kj.val, by omega⟩ h d := by
    funext a; apply Fin.ext
    match a with
    | ⟨0, _⟩ => rfl
    | ⟨1, _⟩ => show ((((0 * 264 + (C.val + kj.val / 64)) * 64 + kj.val % 64) * 8 + h.val) * 128 + d.val) / 1024 % 16896 = 64 * C.val + kj.val; omega
    | ⟨2, _⟩ => show ((((0 * 264 + (C.val + kj.val / 64)) * 64 + kj.val % 64) * 8 + h.val) * 128 + d.val) / 128 % 8 = h.val; omega
    | ⟨3, _⟩ => show ((((0 * 264 + (C.val + kj.val / 64)) * 64 + kj.val % 64) * 8 + h.val) * 128 + d.val) % 128 = d.val; omega
  rw [e]
  unfold val_main_v6
  rw [pad_at]
  by_cases hG : 512 ≤ 64 * C.val + kj.val
  · rw [if_pos hG, if_pos hG, val_main_v4_apply, val_main_v1_apply]
    refine congrArg x0 ?_
    funext a; apply Fin.ext
    match a with
    | ⟨0, _⟩ => rfl
    | ⟨1, _⟩ => show (((0 * 16384 + (64 * C.val + kj.val - 512)) * 8 + h.val) * 128 + d.val) / 1024 % 16384 = 64 * C.val + kj.val - 512; omega
    | ⟨2, _⟩ => show 5200 + (((0 * 16384 + (64 * C.val + kj.val - 512)) * 8 + h.val) * 128 + d.val) % 1024 = 5200 + (128 * h.val + d.val); omega
  · rw [if_neg hG, if_neg hG]
    show (((0#32 : BitVec 32).toInt : ℝ) : EReal) = 0
    simp

/-- A band's value, or zero before the sequence starts. -/
theorem val_at (C : Fin 256) (kj : Fin 576) (h : Fin 8) (d : Fin 128) :
    val_main_v32 (F := Ideal) x0 (ix5 0 C kj h d)
      = if 512 ≤ 64 * C.val + kj.val then x0 (ix3 0 ⟨64 * C.val + kj.val - 512, by omega⟩ ⟨6224 + (128 * h.val + d.val), by omega⟩) else 0 := by
  unfold val_main_v32
  rw [shapeCast_apply _ _ _ _ (band_index C kj h d)]
  unfold val_main_v31
  rw [chunk_at _ _ C _ _ h d ⟨C.val + kj.val / 64, by omega⟩ (start_v C _), val_main_v9_apply]
  have e : idx_main_v9 (ix5 0 ⟨C.val + kj.val / 64, by omega⟩ ⟨kj.val % 64, by omega⟩ h d) = ix4 0 ⟨64 * C.val + kj.val, by omega⟩ h d := by
    funext a; apply Fin.ext
    match a with
    | ⟨0, _⟩ => rfl
    | ⟨1, _⟩ => show ((((0 * 264 + (C.val + kj.val / 64)) * 64 + kj.val % 64) * 8 + h.val) * 128 + d.val) / 1024 % 16896 = 64 * C.val + kj.val; omega
    | ⟨2, _⟩ => show ((((0 * 264 + (C.val + kj.val / 64)) * 64 + kj.val % 64) * 8 + h.val) * 128 + d.val) / 128 % 8 = h.val; omega
    | ⟨3, _⟩ => show ((((0 * 264 + (C.val + kj.val / 64)) * 64 + kj.val % 64) * 8 + h.val) * 128 + d.val) % 128 = d.val; omega
  rw [e]
  unfold val_main_v8
  rw [pad_at]
  by_cases hG : 512 ≤ 64 * C.val + kj.val
  · rw [if_pos hG, if_pos hG, val_main_v5_apply, val_main_v2_apply]
    refine congrArg x0 ?_
    funext a; apply Fin.ext
    match a with
    | ⟨0, _⟩ => rfl
    | ⟨1, _⟩ => show (((0 * 16384 + (64 * C.val + kj.val - 512)) * 8 + h.val) * 128 + d.val) / 1024 % 16384 = 64 * C.val + kj.val - 512; omega
    | ⟨2, _⟩ => show 6224 + (((0 * 16384 + (64 * C.val + kj.val - 512)) * 8 + h.val) * 128 + d.val) % 1024 = 6224 + (128 * h.val + d.val); omega
  · rw [if_neg hG, if_neg hG]
    show (((0#32 : BitVec 32).toInt : ℝ) : EReal) = 0
    simp

/-- A band's query. -/
theorem query_at (C : Fin 256) (q : Fin 64) (h : Fin 8) (d : Fin 128) :
    val_main_v33 (F := Ideal) x0 (ix5 0 C q h d) = x0 (ix3 0 ⟨64 * C.val + q.val, by omega⟩ ⟨4176 + (128 * h.val + d.val), by omega⟩) := by
  rw [val_main_v33_apply, val_main_v3_apply, val_main_v0_apply]
  refine congrArg x0 ?_
  funext a; apply Fin.ext
  match a with
  | ⟨0, _⟩ => rfl
  | ⟨1, _⟩ =>
    show (((0 * 16384 + ((((0 * 256 + C.val) * 64 + q.val) * 8 + h.val) * 128 + d.val) / 1024 % 16384) * 8 + ((((0 * 256 + C.val) * 64 + q.val) * 8 + h.val) * 128 + d.val) / 128 % 8) * 128
      + ((((0 * 256 + C.val) * 64 + q.val) * 8 + h.val) * 128 + d.val) % 128) / 1024 % 16384 = 64 * C.val + q.val
    omega
  | ⟨2, _⟩ =>
    show 4176 + (((0 * 16384 + ((((0 * 256 + C.val) * 64 + q.val) * 8 + h.val) * 128 + d.val) / 1024 % 16384) * 8 + ((((0 * 256 + C.val) * 64 + q.val) * 8 + h.val) * 128 + d.val) / 128 % 8) * 128
      + ((((0 * 256 + C.val) * 64 + q.val) * 8 + h.val) * 128 + d.val) % 128) % 1024 = 4176 + (128 * h.val + d.val)
    omega
-- ==== Proof.Pick.lean ====
module
public import proofs.«01_k».proof.Proof.Keys
public import Idealize.ShloMosaic.Lib.Tactic.WordOmega
public import Idealize.ShloMosaic.Lib.Pointwise
@[expose] public section
set_option maxRecDepth 16384
noncomputable section
namespace Cert.ReferenceIdeal.Band
open Cert.Band Cert.ReferenceIdeal Cert.ReferenceIdeal.Gen Cert.ReferenceIdeal.Read Idealize.ShloMosaic
variable (x0 : Vec Ideal S1x16384x11344 .f32) (x1 : Vec Ideal S1x8x257 .f32)

/-- The place in the bias table of a distance counted from minus 63, as a word. -/
abbrev place (w : BitVec 32) : BitVec 32 :=
  Scalar.select (IntOp.cmpi .slt (IntOp.addi (IntOp.minsi 128#32 (IntOp.maxsi 4294967168#32 w)) 128#32) 0#32)
    (IntOp.addi (IntOp.addi (IntOp.minsi 128#32 (IntOp.maxsi 4294967168#32 w)) 128#32) 257#32)
    (IntOp.addi (IntOp.minsi 128#32 (IntOp.maxsi 4294967168#32 w)) 128#32)

/-- The table's place of a distance, as a word. -/
theorem place_word : ∀ n : Fin 640, (place (IntOp.subi (BitVec.ofNat 32 n.val) 63#32)).toInt.toNat = min 256 (n.val + 65) := by
  decide +kernel

/-- The distance of a query and a key, as a word. -/
theorem dist_word (q : Fin 64) (j : Fin 576) :
    IntOp.subi (BitVec.ofNat 32 q.val) (IntOp.subi (BitVec.ofNat 32 j.val) 512#32) = IntOp.subi (BitVec.ofNat 32 (q.val + 575 - j.val)) 63#32 := by
  have := q.isLt; have := j.isLt
  apply BitVec.eq_of_toNat_eq
  simp only [IntOp.subi, BitVec.toNat_sub, BitVec.toNat_ofNat]
  omega

/-- The table's place the reference reads. -/
theorem dist_at (q : Fin 64) (j : Fin 576) : (val_main_v56 (F := Ideal) (ix3 q j 0)).toInt.toNat = (max 0 (min 256 (640 + (q.val : ℤ) - j.val))).toNat := by
  have := q.isLt; have := j.isLt
  have e : (max 0 (min 256 (640 + (q.val : ℤ) - j.val))).toNat = min 256 ((q.val + 575 - j.val) + 65) := by omega
  rw [e, ← place_word ⟨q.val + 575 - j.val, by omega⟩, ← dist_word]
  simp only [val_main_v56_apply, val_main_v55_apply, val_main_v54_apply, val_main_v53_apply, val_main_v52_apply, val_main_v51_apply, val_main_v50_apply, val_main_v49_apply, val_main_v48_apply,
    val_main_call2_v4_apply, val_main_call2_v3_apply, val_main_call2_v2_apply, val_main_call2_v1_apply, val_main_call2_v0_apply, val_main_c_6_apply, val_main_c_7_apply, val_main_c_8_apply,
    val_main_c_9_apply, val_main_c_10_apply, val_main_c_5_apply, val_main_v46_apply, val_main_v45_apply, val_main_v44_apply, val_main_v43_apply, val_main_v42_apply, val_main_v41_apply, val_main_v40_apply,
    val_main_v39_apply, val_main_v38_apply]
  rfl

/-- The take from the bias table, at an index. -/
theorem table_at (x : Vec Ideal S8x257 .f32) (idx : IVec S64x576x1 32) (h : Fin 8) (q : Fin 64) (j : Fin 576)
    (N : Fin 257) (hN : (idx (ix3 q j 0)).toInt.toNat = N.val) :
    Host.gather gather_S8x257_S64x576x1_S8x64x576_0_1_n_n_1_2_81 x idx (ix3 h q j) = x (ix2 h N) := by
  unfold Host.gather
  refine congrArg x ?_
  have hs : ∀ k, gather_S8x257_S64x576x1_S8x64x576_0_1_n_n_1_2_81.siIdx (ix3 h q j) k = ix3 q j 0 := fun k => by
    funext a; apply Fin.ext
    match a with
    | ⟨0, _⟩ => rfl
    | ⟨1, _⟩ => rfl
    | ⟨2, _⟩ =>
      have := k.isLt
      have e : gather_S8x257_S64x576x1_S8x64x576_0_1_n_n_1_2_81.startIndexMap.length = 1 := rfl
      show k.val = 0; omega
  funext a; apply Fin.ext
  match a with
  | ⟨0, _⟩ => show 0 + 0 + h.val = h.val; omega
  | ⟨1, _⟩ =>
    show min (idx (gather_S8x257_S64x576x1_S8x64x576_0_1_n_n_1_2_81.siIdx (ix3 h q j) ⟨0, _⟩)).toInt.toNat (257 - 1) + 0 + 0 = N.val
    rw [hs, hN]; omega

/-- The bias of a query and a key of its band. -/
theorem bias_at (C : Fin 256) (h : Fin 8) (q : Fin 64) (j : Fin 576) :
    val_main_v71 (F := Ideal) x1 (ix5 0 C h q j) = x1 (ix3 0 h ⟨(max 0 (min 256 (640 + (q.val : ℤ) - j.val))).toNat, by omega⟩) := by
  rw [val_main_v71_apply, val_main_v70_apply]
  have e : idx_main_v70 (idx_main_v71 (ix5 0 C h q j)) = ix3 h q j := by
    funext a; apply Fin.ext
    match a with
    | ⟨0, _⟩ => rfl
    | ⟨1, _⟩ => rfl
    | ⟨2, _⟩ => rfl
  rw [e]
  unfold val_main_v57
  rw [table_at _ _ h q j ⟨(max 0 (min 256 (640 + (q.val : ℤ) - j.val))).toNat, by omega⟩ (dist_at q j), val_main_v47_apply]
  refine congrArg x1 ?_
  have := h.isLt
  funext a; apply Fin.ext
  match a with
  | ⟨0, _⟩ => rfl
  | ⟨1, _⟩ => show (h.val * 257 + (max 0 (min 256 (640 + (q.val : ℤ) - j.val))).toNat) / 257 % 8 = h.val; omega
  | ⟨2, _⟩ => show (h.val * 257 + (max 0 (min 256 (640 + (q.val : ℤ) - j.val))).toNat) % 257 = (max 0 (min 256 (640 + (q.val : ℤ) - j.val))).toNat; omega

/-- The sign of a word. -/
abbrev sgn (w : BitVec 32) : BitVec 32 := if w = 0 then 0 else if w.msb then -1 else 1
/-- A key's chunk within its band. -/
abbrev part (w : BitVec 32) : BitVec 32 :=
  Scalar.select (IntOp.andi (IntOp.cmpi .ne (sgn w) (sgn 64#32)) (IntOp.cmpi .ne (IntOp.remsi .host w 64#32) 0#32))
    (IntOp.subi (IntOp.divsi .host w 64#32) 1#32) (IntOp.divsi .host w 64#32)

/-- A key's slice, as a word. -/
theorem part_word : ∀ j : Fin 576, part (BitVec.ofNat 32 j.val) = BitVec.ofNat 32 (j.val / 64) := by decide +kernel

/-- Whether a slice lies inside the sequence, as a word. -/
theorem started_word : ∀ (C : Fin 256) (g : Fin 9),
    IntOp.cmpi .sge (IntOp.addi (IntOp.subi (BitVec.ofNat 32 C.val) 8#32) (BitVec.ofNat 32 g.val)) 0#32 = if 8 ≤ C.val + g.val then 1#1 else 0#1 := by
  decide +kernel

/-- A key of a band stands in the sequence exactly when its chunk number is not negative. -/
theorem valid_at (C : Fin 256) (j : Fin 576) : val_main_v68 (F := Ideal) (ix2 C j) = if 512 ≤ 64 * C.val + j.val then 1#1 else 0#1 := by
  have e : (if 512 ≤ 64 * C.val + j.val then 1#1 else 0#1) = if 8 ≤ C.val + j.val / 64 then 1#1 else 0#1 := by
    have := j.isLt
    by_cases hh : 512 ≤ 64 * C.val + j.val
    · rw [if_pos hh, if_pos (by omega)]
    · rw [if_neg hh, if_neg (by omega)]
  rw [e]
  refine Eq.trans ?_ (started_word C ⟨j.val / 64, by omega⟩)
  rw [← part_word j]
  simp only [val_main_v68_apply, val_main_v67_apply, val_main_v66_apply, val_main_v65_apply, val_main_v64_apply, val_main_v63_apply, val_main_v62_apply, val_main_v61_apply, val_main_v60_apply, val_main_v59_apply,
    val_main_v58_apply, val_main_v39_apply, val_main_call3_v0_apply, val_main_call3_v1_apply, val_main_call3_v2_apply, val_main_call3_v3, val_main_call3_v4, val_main_call3_v5_apply, val_main_call3_v6_apply,
    val_main_call3_v7_apply, val_main_call3_v8_apply, val_main_call3_v9_apply, val_main_call3_v10_apply, val_main_call3_v11_apply, val_main_call3_v12_apply, val_main_call3_v13_apply, val_main_call3_c_apply,
    val_main_call3_c_0_apply, val_main_c_11_apply, val_main_c_12_apply, val_main_c_13_apply, signi]
  rfl
-- ==== Proof.RefRow.lean ====
module
public import proofs.«01_k».proof.Proof.Pick
public import proofs.«01_k».proof.Proof.Math
@[expose] public section
set_option maxRecDepth 16384
noncomputable section
namespace Cert.ReferenceIdeal.Band
open Cert.Band Cert.ReferenceIdeal Cert.ReferenceIdeal.Gen Cert.ReferenceIdeal.Read Idealize.ShloMosaic
variable (x0 : Vec Ideal S1x16384x11344 .f32) (x1 : Vec Ideal S1x8x257 .f32)
variable (A : Fin 16384 → Fin 11344 → ℝ) (T : Fin 8 → Fin 257 → ℝ)

/-- The sequence position of a key of a chunk's band, where it is in the sequence. -/
def spot (C : Fin 256) (j : Fin 576) : Fin 16384 := ⟨64 * C.val + j.val - 512, by have := C.isLt; have := j.isLt; omega⟩

/-- The key is in the sequence. -/
abbrev Valid (C : Fin 256) (j : Fin 576) : Prop := 512 ≤ 64 * C.val + j.val

/-- The score of a query of a chunk against a key of its band. -/
def scoreAt (C : Fin 256) (h : Fin 8) (q : Fin 64) (j : Fin 576) : ℝ :=
  (∑ d : Fin 128, A ⟨64 * C.val + q.val, by omega⟩ ⟨4176 + (128 * h.val + d.val), by omega⟩ * A (spot C j) ⟨5200 + (128 * h.val + d.val), by omega⟩) * (Real.sqrt 128)⁻¹
    + T h ⟨(max 0 (min 256 (640 + (q.val : ℤ) - j.val))).toNat, by omega⟩

/-- A lane of the value at a key of the band, zero before the sequence starts. -/
def valueAt (C : Fin 256) (h : Fin 8) (l : Fin 128) (j : Fin 576) : ℝ :=
  if Valid C j then A (spot C j) ⟨6224 + (128 * h.val + l.val), by omega⟩ else 0

/-- The root the scores are divided by. -/
theorem root_128 : Ideal.sqrt (Ideal.ofBits FTy.f32 0x43000000#32) = ((Real.sqrt 128 : ℝ) : EReal) := by
  have e : Ideal.ofBits FTy.f32 0x43000000#32 = ((128 : ℝ) : EReal) := by
    simp [Ideal.ofBits, Ideal.ieee, -EReal.coe_mul]; norm_num
  rw [e, Ideal.sqrt_coe, if_neg (by norm_num)]

/-- The constant the maximum starts from is minus infinity. -/
theorem bits_bot : Ideal.ofBits FTy.f32 0xFF800000#32 = ⊥ := by
  first | rfl | simp [Ideal.ofBits]

variable (hA : ∀ R (j : Fin 11344), 4176 ≤ j.val → j.val < 7248 → x0 (ix3 0 R j) = ((A R j : ℝ) : EReal)) (hT : ∀ h n, x1 (ix3 0 h n) = ((T h n : ℝ) : EReal))
include hA

/-- The products of queries and keys. -/
theorem dot_at (C : Fin 256) (h : Fin 8) (q : Fin 64) (j : Fin 576) (hj : Valid C j) :
    val_main_v34 (F := Ideal) x0 (ix5 0 C h q j)
      = ((∑ d : Fin 128, A ⟨64 * C.val + q.val, by omega⟩ ⟨4176 + (128 * h.val + d.val), by omega⟩ * A (spot C j) ⟨5200 + (128 * h.val + d.val), by omega⟩ : ℝ) : EReal) := by
  rw [val_main_v34_apply, ← coe_sum]
  refine Finset.sum_congr rfl fun d _ => ?_
  have el : lidx_main_v34 (ix5 0 C h q j) d = ix5 0 C q h d := by
    funext a; apply Fin.ext
    match a with
    | ⟨0, _⟩ => rfl
    | ⟨1, _⟩ => rfl
    | ⟨2, _⟩ => rfl
    | ⟨3, _⟩ => rfl
    | ⟨4, _⟩ => rfl
  have er : ridx_main_v34 (ix5 0 C h q j) d = ix5 0 C j h d := by
    funext a; apply Fin.ext
    match a with
    | ⟨0, _⟩ => rfl
    | ⟨1, _⟩ => rfl
    | ⟨2, _⟩ => rfl
    | ⟨3, _⟩ => rfl
    | ⟨4, _⟩ => rfl
  rw [el, er, query_at, key_at, if_pos hj, hA _ _ (by show 4176 ≤ 4176 + _; omega) (by show 4176 + _ < 7248; omega),
    hA _ _ (by show 4176 ≤ 5200 + _; omega) (by show 5200 + _ < 7248; omega), EReal.coe_mul]
  rfl

include hT

/-- The masked scores. -/
theorem masked_at (C : Fin 256) (h : Fin 8) (q : Fin 64) (j : Fin 576) :
    val_main_v73 (F := Ideal) x0 x1 (ix5 0 C h q j) = masked (Valid C) (scoreAt A T C h q) j := by
  rw [val_main_v73_apply, val_main_call4_v1_apply, val_main_v69_apply]
  have e : idx_main_v69 (idx_main_call4_v1 (ix5 0 C h q j)) = ix2 C j := by
    funext a; apply Fin.ext
    match a with
    | ⟨0, _⟩ => rfl
    | ⟨1, _⟩ => rfl
  rw [e, valid_at]
  unfold masked
  by_cases hj : Valid C j
  · rw [if_pos hj, if_pos hj, val_main_v72_apply, val_main_v37_apply, dot_at x0 A hA C h q j hj, val_main_v36_apply, val_main_v35_apply, val_main_cst_apply, bias_at, hT]
    show Ideal.div _ (Ideal.sqrt (Ideal.ofBits FTy.f32 0x43000000#32)) + _ = _
    rw [root_128, Ideal.div_coe (by positivity), one_div, ← EReal.coe_mul, ← EReal.coe_add]
    rfl
  · rw [if_neg hj, if_neg hj, val_main_call4_v2_apply, val_main_call4_v0_apply, val_main_cst_14_apply]
    exact bits_bot

/-- Their maximum. -/
theorem max_at (C : Fin 256) (h : Fin 8) (q : Fin 64) :
    val_main_v74 (F := Ideal) x0 x1 (ix4 0 C h q) = Finset.univ.fold max ⊥ fun j : Fin 576 => masked (Valid C) (scoreAt A T C h q) j := by
  unfold val_main_v74
  have hr : S1x256x8x64x576.Reduces [4] S1x256x8x64 := by decide
  haveI : Std.Commutative (FloatOps.maximumf : Ideal .f32 → Ideal .f32 → Ideal .f32) := ⟨fun a b => max_comm (α := EReal) a b⟩
  haveI : Std.Associative (FloatOps.maximumf : Ideal .f32 → Ideal .f32 → Ideal .f32) := ⟨fun a b c => max_assoc (α := EReal) a b c⟩
  rw [Host.reduce_eq_fold_single FloatOps.maximumf _ _ _ hr]
  have e : (val_main_v73 (F := Ideal) x0 x1 ∘ hr.lift (ix4 0 C h q)) = fun j : Fin 576 => masked (Valid C) (scoreAt A T C h q) j := by
    funext j
    rw [← masked_at x0 x1 A T hA hT C h q j]
    refine congrArg (val_main_v73 (F := Ideal) x0 x1) ?_
    funext a; apply Fin.ext
    match a with
    | ⟨0, _⟩ => rfl
    | ⟨1, _⟩ => rfl
    | ⟨2, _⟩ => rfl
    | ⟨3, _⟩ => rfl
    | ⟨4, _⟩ => rfl
  rw [e, val_main_cst_15_apply]
  show Finset.fold max (Ideal.ofBits FTy.f32 0xFF800000#32) _ _ = _
  rw [bits_bot]
  rfl

/-- Their exponentials. -/
theorem exp_at (C : Fin 256) (h : Fin 8) (q : Fin 64) (j : Fin 576) :
    val_main_v80 (F := Ideal) x0 x1 (ix5 0 C h q j)
      = Ideal.exp (masked (Valid C) (scoreAt A T C h q) j - max ⊥ (Finset.univ.fold max ⊥ fun j : Fin 576 => masked (Valid C) (scoreAt A T C h q) j)) := by
  rw [val_main_v80_apply, val_main_v79_apply, val_main_v78_apply, val_main_v77_apply, val_main_v76_apply, masked_at x0 x1 A T hA hT]
  have e : idx_main_v77 (idx_main_v78 (ix5 0 C h q j)) = ix4 0 C h q := by
    funext a; apply Fin.ext
    match a with
    | ⟨0, _⟩ => rfl
    | ⟨1, _⟩ => rfl
    | ⟨2, _⟩ => rfl
    | ⟨3, _⟩ => rfl
  rw [e, max_at x0 x1 A T hA hT, val_main_v75_apply, val_main_cst_16_apply]
  show Ideal.exp (_ - max (Ideal.ofBits FTy.f32 0xFF800000#32) _) = _
  rw [bits_bot]

/-- The reference's row is the weighted mean. -/
theorem out_at (C : Fin 256) (q : Fin 64) (h : Fin 8) (l : Fin 128) :
    val_main_v88 (F := Ideal) x0 x1 (ix2 ⟨64 * C.val + q.val, by omega⟩ ⟨128 * h.val + l.val, by omega⟩) = ((mean (Valid C) (scoreAt A T C h q) (valueAt A C h l) : ℝ) : EReal) := by
  rw [val_main_v88_apply, val_main_v87_apply, val_main_v86_apply, val_main_v85_apply]
  have e : idx_main_v86 (idx_main_v87 (ix2 ⟨64 * C.val + q.val, by omega⟩ ⟨128 * h.val + l.val, by omega⟩)) = ix5 0 C h l q := by
    funext a; apply Fin.ext
    match a with
    | ⟨0, _⟩ => rfl
    | ⟨1, _⟩ => show ((64 * C.val + q.val) * 1024 + (128 * h.val + l.val)) / 65536 % 256 = C.val; omega
    | ⟨2, _⟩ => show ((64 * C.val + q.val) * 1024 + (128 * h.val + l.val)) / 128 % 8 = h.val; omega
    | ⟨3, _⟩ => show ((64 * C.val + q.val) * 1024 + (128 * h.val + l.val)) % 128 = l.val; omega
    | ⟨4, _⟩ => show ((64 * C.val + q.val) * 1024 + (128 * h.val + l.val)) / 1024 % 64 = q.val; omega
  rw [e]
  have hex : ∃ j : Fin 576, Valid C j := ⟨⟨575, by omega⟩, by show 512 ≤ 64 * C.val + 575; omega⟩
  refine Eq.trans ?_ (row_exp (Valid C) (scoreAt A T C h q) (valueAt A C h l) hex _ (fun _ => rfl) _ (fun _ => rfl))
  show (∑ k : Fin 576, _) = _
  refine Finset.sum_congr rfl fun j _ => ?_
  have el : lidx_main_v85 (ix5 0 C h l q) j = ix5 0 C j h l := by
    funext a; apply Fin.ext
    match a with
    | ⟨0, _⟩ => rfl
    | ⟨1, _⟩ => rfl
    | ⟨2, _⟩ => rfl
    | ⟨3, _⟩ => rfl
    | ⟨4, _⟩ => rfl
  have er : ridx_main_v85 (ix5 0 C h l q) j = ix5 0 C h q j := by
    funext a; apply Fin.ext
    match a with
    | ⟨0, _⟩ => rfl
    | ⟨1, _⟩ => rfl
    | ⟨2, _⟩ => rfl
    | ⟨3, _⟩ => rfl
    | ⟨4, _⟩ => rfl
  rw [el, er, val_at, val_main_v84_apply, val_main_v83_apply, val_main_v82_apply, val_main_v81_apply, exp_at x0 x1 A T hA hT, val_main_cst_17_apply]
  have hsum : (∑ k : Fin 576, val_main_v80 (F := Ideal) x0 x1 (idx_main_v81 (idx_main_v82 (idx_main_v83 (ix5 0 C h q j))) k))
      = ∑ k : Fin 576, Ideal.exp (masked (Valid C) (scoreAt A T C h q) k - max ⊥ (Finset.univ.fold max ⊥ fun j : Fin 576 => masked (Valid C) (scoreAt A T C h q) j)) := by
    refine Finset.sum_congr rfl fun k _ => ?_
    rw [← exp_at x0 x1 A T hA hT]
    refine congrArg (val_main_v80 (F := Ideal) x0 x1) ?_
    funext a; apply Fin.ext
    match a with
    | ⟨0, _⟩ => rfl
    | ⟨1, _⟩ => rfl
    | ⟨2, _⟩ => rfl
    | ⟨3, _⟩ => rfl
    | ⟨4, _⟩ => rfl
  rw [hsum]
  have hv : (if 512 ≤ 64 * C.val + j.val then x0 (ix3 0 ⟨64 * C.val + j.val - 512, by omega⟩ ⟨6224 + (128 * h.val + l.val), by omega⟩) else 0) = ((valueAt A C h l j : ℝ) : EReal) := by
    unfold valueAt
    by_cases hj : Valid C j
    · rw [if_pos hj, if_pos hj, hA _ _ (by show 4176 ≤ 6224 + _; omega) (by show 6224 + _ < 7248; omega)]
      rfl
    · rw [if_neg hj, if_neg hj, EReal.coe_zero]
  rw [hv]
  have hz : (FloatOps.ofBits FTy.f32 0x00000000#32 : Ideal .f32) = (0 : EReal) := by
    simp [Ideal.ofBits, Ideal.ieee]
  rw [hz]
  rfl
end Cert.ReferenceIdeal.Band
-- ==== Proof.Join.lean ====
module
public import proofs.«01_k».proof.Proof.Row
public import proofs.«01_k».proof.Proof.RefRow
public import proofs.«01_k».proof.Pre_finite
public import Idealize.ShloMosaic.Lib.ReduceAll
@[expose] public section
set_option maxRecDepth 16384
noncomputable section
namespace Cert.Band
open Idealize.ShloMosaic

/-- The precondition's side conditions. -/
instance finiteFacts : Cert.Pre_finite.Facts where
  shapeCasts_S1x16384x11344_S16384x11344 := by decide
  slices_S16384x11344_S16384x3072_0_4176 := by decide
  bcast_S_S16384x3072 := by decide
  reducesTo_S16384x3072_S_d0_1 := by decide
  h_S_ := by decide
  bcast_S_S1x8x257 := by decide
  reducesTo_S1x8x257_S_d0_1_2 := by decide

/-- An extended real below infinity in absolute value is a real. -/
theorem real_of_lt (x : EReal) (h : Ideal.cmp .olt (max x (-x)) (Ideal.ofBits FTy.f32 0x7F800000#32) = 1#1) : x = ((x.toReal : ℝ) : EReal) := by
  have hi : Ideal.ofBits FTy.f32 0x7F800000#32 = ⊤ := by
    simp [Ideal.ofBits, Ideal.ieee]
  rw [hi] at h
  induction x with
  | bot => simp [Ideal.cmp] at h
  | top => simp [Ideal.cmp] at h
  | coe a => rfl

/-- Both bits of a conjunction are set. -/
theorem and_one : ∀ c d : BitVec 1, IntOp.andi c d = 1#1 → c = 1#1 ∧ d = 1#1 := by decide

/-- The shape without axes has one index. -/
instance : Subsingleton Cert.Pre_finite.S_.Idx := ⟨fun a b => funext fun k => k.elim0⟩

/-- The precondition, read: the columns of the queries, keys and values are reals. -/
theorem pre_proj (x0 : FVec Ideal Cert.Pre_finite.S1x16384x11344 .f32) (x1 : FVec Ideal Cert.Pre_finite.S1x8x257 .f32)
    (h : Cert.Pre_finite.fn (F := Ideal) x0 x1 = fun _ => 1#1) (R : Fin 16384) (j : Fin 11344) (h1 : 4176 ≤ j.val) (h2 : j.val < 7248) :
    x0 (ix3 0 R j) = (((x0 (ix3 0 R j) : EReal).toReal : ℝ) : EReal) := by
  refine real_of_lt _ ?_
  have e := (and_one _ _ (congrFun h ix0)).1
  have e2 := Host.reduce_andi_all _ _ _ _ _ e (ix2 R ⟨j.val - 4176, by omega⟩)
  have e3 : extractStridedSlice Cert.Pre_finite.S16384x3072 ![0, 4176] (shapeCast Cert.Pre_finite.S16384x11344 x0 finiteFacts.shapeCasts_S1x16384x11344_S16384x11344)
      finiteFacts.slices_S16384x11344_S16384x3072_0_4176 (ix2 R ⟨j.val - 4176, by omega⟩) = x0 (ix3 0 R j) := by
    rw [extractStridedSlice_apply _ _ _ _ (ix2 R j) (fun a => match a with
      | ⟨0, _⟩ => by show R.val = 0 + R.val; omega
      | ⟨1, _⟩ => by show j.val = 4176 + (j.val - 4176); omega)]
    refine shapeCast_apply _ _ _ _ ?_
    rw [Shape.rowMajor_val_three, Shape.rowMajor_val_two]
    show (0 * 16384 + R.val) * 11344 + j.val = R.val * 11344 + j.val
    omega
  rw [← e3]
  exact e2

/-- The precondition makes the table finite. -/
theorem pre_table (x0 : FVec Ideal Cert.Pre_finite.S1x16384x11344 .f32) (x1 : FVec Ideal Cert.Pre_finite.S1x8x257 .f32)
    (h : Cert.Pre_finite.fn (F := Ideal) x0 x1 = fun _ => 1#1) (g : Fin 8) (n : Fin 257) :
    x1 (ix3 0 g n) = (((x1 (ix3 0 g n) : EReal).toReal : ℝ) : EReal) := by
  refine real_of_lt _ ?_
  have e := (and_one _ _ (congrFun h ix0)).2
  have e2 := Host.reduce_andi_all _ _ _ _ _ e (ix3 0 g n)
  exact e2

open Cert.KernelIdeal.Band in
/-- The two means are one: a query row's band of lanes is its chunk's band of keys. -/
theorem mean_eq (A : Fin 16384 → Fin 11344 → ℝ) (T : Fin 8 → Fin 257 → ℝ) (t : Fin 64) (r : Fin 256) (h : Fin 8) (l : Fin 128) (C : Fin 256) (q : Fin 64)
    (hC : C.val = 4 * t.val + r.val / 64) (hq : q.val = r.val % 64) :
    mean (Lane t r) (scoreAt A T t h r) (fun x => A (pos t x) ⟨6224 + (128 * h.val + l.val), by omega⟩)
      = mean (Cert.ReferenceIdeal.Band.Valid C) (Cert.ReferenceIdeal.Band.scoreAt A T C h q) (Cert.ReferenceIdeal.Band.valueAt A C h l) := by
  have ht := t.isLt
  have hr := r.isLt
  have hpos : ∀ k : Fin 576, Cert.ReferenceIdeal.Band.Valid C k → pos t ⟨64 * (r.val / 64) + k.val, by omega⟩ = Cert.ReferenceIdeal.Band.spot C k := fun k hk => by
    have := k.isLt
    have hk' : 512 ≤ 64 * C.val + k.val := hk
    apply Fin.ext
    show (if 64 * (r.val / 64) + k.val < 256 then 256 * (t.val - 2) + (64 * (r.val / 64) + k.val) else if 64 * (r.val / 64) + k.val - 256 < 256 then 256 * (t.val - 1) + (64 * (r.val / 64) + k.val - 256) else 256 * t.val + (64 * (r.val / 64) + k.val - 256 - 256))
      = 64 * C.val + k.val - 512
    split_ifs <;> omega
  refine mean_embed (fun k : Fin 576 => (⟨64 * (r.val / 64) + k.val, by omega⟩ : Fin 768)) ?_ _ _ _ _ _ _ ?_ ?_ ?_ ?_
  · intro a b e
    have := congrArg Fin.val e
    apply Fin.ext
    show a.val = b.val
    have e' : 64 * (r.val / 64) + a.val = 64 * (r.val / 64) + b.val := this
    omega
  · rintro x ⟨⟨h1, h2⟩, _⟩
    refine ⟨⟨x.val - 64 * (r.val / 64), by omega⟩, Fin.ext ?_⟩
    show 64 * (r.val / 64) + (x.val - 64 * (r.val / 64)) = x.val
    omega
  · intro k
    have := k.isLt
    show ((r.val / 64 ≤ (64 * (r.val / 64) + k.val) / 64 ∧ (64 * (r.val / 64) + k.val) / 64 ≤ r.val / 64 + 8) ∧ 512 ≤ 256 * t.val + (64 * (r.val / 64) + k.val)) ↔ 512 ≤ 64 * C.val + k.val
    omega
  · intro k hk
    unfold scoreAt Cert.ReferenceIdeal.Band.scoreAt
    rw [hpos k hk]
    have e1 : (⟨256 * t.val + r.val, by omega⟩ : Fin 16384) = ⟨64 * C.val + q.val, by omega⟩ := Fin.ext (by show 256 * t.val + r.val = 64 * C.val + q.val; omega)
    have e2 : dist r ⟨64 * (r.val / 64) + k.val, by omega⟩ = ⟨(max 0 (min 256 (640 + (q.val : ℤ) - k.val))).toNat, by omega⟩ := Fin.ext (by
      show (max 0 (min 256 (640 + (r.val : ℤ) - ((64 * (r.val / 64) + k.val : ℕ) : ℤ)))).toNat = (max 0 (min 256 (640 + (q.val : ℤ) - k.val))).toNat
      omega)
    rw [e1, e2]
  · intro k hk
    unfold Cert.ReferenceIdeal.Band.valueAt
    rw [if_pos hk, hpos k hk]

/-- The two results are one array. -/
theorem result_eq (m : (ℓ : Loc Cert.KernelIdeal.nD Cert.KernelIdeal.τ Cert.KernelIdeal.sig) → Buf (Elt Ideal) ℓ) (c : Dev Cert.KernelIdeal.nD)
    (h : Cert.Pre_finite.fn (F := Ideal) (Cert.KernelIdeal.Band.prj m c) (Cert.KernelIdeal.Band.tab m c) = fun _ => 1#1) :
    (Cert.KernelIdeal.Value.G8 m c : Vec Ideal Cert.KernelIdeal.S16384x1024 .bf16)
      = Cert.ReferenceIdeal.Read.val_main_v88 (F := Ideal) (Cert.KernelIdeal.Band.prj m c) (Cert.KernelIdeal.Band.tab m c) := by
  funext i
  obtain ⟨R, j, rfl⟩ : ∃ R j, i = ix2 R j := ⟨i 0, i 1, by funext a; match a with | ⟨0, _⟩ => rfl | ⟨1, _⟩ => rfl⟩
  have hR := R.isLt
  have hj := j.isLt
  have hA := pre_proj _ _ h
  have hT := pre_table _ _ h
  have e := Cert.KernelIdeal.Band.G8_apply m c (fun R j => EReal.toReal (Cert.KernelIdeal.Band.prj m c (ix3 0 R j))) (fun g n => EReal.toReal (Cert.KernelIdeal.Band.tab m c (ix3 0 g n))) hA hT
    ⟨R.val / 256, by omega⟩ ⟨j.val / 128, by omega⟩ ⟨R.val % 256, by omega⟩ ⟨j.val % 128, by omega⟩
  have e' := Cert.ReferenceIdeal.Band.out_at (Cert.KernelIdeal.Band.prj m c) (Cert.KernelIdeal.Band.tab m c) (fun R j => EReal.toReal (Cert.KernelIdeal.Band.prj m c (ix3 0 R j)))
    (fun g n => EReal.toReal (Cert.KernelIdeal.Band.tab m c (ix3 0 g n))) hA hT ⟨R.val / 64, by omega⟩ ⟨R.val % 64, by omega⟩ ⟨j.val / 128, by omega⟩ ⟨j.val % 128, by omega⟩
  have i1 : (⟨256 * (R.val / 256) + R.val % 256, by omega⟩ : Fin 16384) = R := Fin.ext (by show 256 * (R.val / 256) + R.val % 256 = R.val; omega)
  have i2 : (⟨64 * (R.val / 64) + R.val % 64, by omega⟩ : Fin 16384) = R := Fin.ext (by show 64 * (R.val / 64) + R.val % 64 = R.val; omega)
  have i3 : (⟨128 * (j.val / 128) + j.val % 128, by omega⟩ : Fin 1024) = j := Fin.ext (by show 128 * (j.val / 128) + j.val % 128 = j.val; omega)
  rw [mean_eq _ _ _ _ _ _ ⟨R.val / 64, by omega⟩ ⟨R.val % 64, by omega⟩ (by show R.val / 64 = 4 * (R.val / 256) + R.val % 256 / 64; omega) (by show R.val % 64 = R.val % 256 % 64; omega)] at e
  simp only [i1, i2, i3] at e e'
  exact e.trans e'.symm

end Cert.Band
-- ==== Proof.ProjMain.lean ====
/- The columns of the combined input projection that the two mixers' branches read: each block the call writes is the block of the whole product. -/
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit
public import Idealize.ShloMosaic.Lib.StableHlo.ReadAt
@[expose] public section
set_option maxRecDepth 16384
noncomputable section
namespace Cert.Kernel2Ideal.Proj
open Cert.Kernel2Ideal Cert.Kernel2Ideal.Gen Idealize.ShloMosaic Idealize.ShloMosaic.TcCoe Idealize.SL.Sem
variable (m : (ℓ : Loc nD τ sig) → Buf (Elt Ideal) ℓ)

/-- The normed rows. -/
abbrev rows (c : Dev nD) : Vec Ideal S1x16384x2048 .f32 := m ((c : Thread nD τ).loc main_arg0)
/-- The projection's weights. -/
abbrev weights (c : Dev nD) : Vec Ideal S1x2048x11344 .f32 := m ((c : Thread nD τ).loc main_arg1)

/-- The projection's column that the call's column `j` is: all before 4096, then those from 4176 on. -/
abbrev col (j : Fin 7168) : Fin 11344 := ⟨if j.val < 4096 then j.val else j.val + 80, by split <;> omega⟩

/-- The product at those columns. -/
def G (c : Dev nD) : Vec Ideal S16384x7168 .bf16 := fun i =>
  ∑ k : Fin 2048, rows m c (ix3 0 (i 0) k) * weights m c (ix3 0 k (col (i 1)))

/-- The rows the call reads are the normed rows. -/
theorem V_rows (c : Dev nD) (R : Fin 16384) (k : Fin 2048) :
    (V m c main_v25 : Vec Ideal S16384x2048 .bf16) (ix2 R k) = rows m c (ix3 0 R k) := by
  unfold V
  after_reads_at

/-- The weights the call reads are the projection's, at the call's columns. -/
theorem V_weights (c : Dev nD) (k : Fin 2048) (j : Fin 7168) :
    (V m c main_v23 : Vec Ideal S2048x7168 .bf16) (ix2 k j) = weights m c (ix3 0 k (col j)) := by
  unfold V
  after_reads_at
  split_ifs
  all_goals after_reads_at
  all_goals
    refine congrArg (weights m c) (congrArg (ix3 0 k) (Fin.ext ?_))
    show _ = if j.val < 4096 then j.val else j.val + 80
    dsimp only
    split <;> omega

/-- The row block each step reads. -/
theorem index_0 : ∀ t : Fin grid0.N, win0_0.index t 0 = t.val / 7 ∧ win0_0.index t 1 = 0 := by decide +kernel
/-- The column block each step reads. -/
theorem index_1 : ∀ t : Fin grid0.N, win0_1.index t 0 = 0 ∧ win0_1.index t 1 = t.val % 7 := by decide +kernel
/-- The block each step writes. -/
theorem index_2 : ∀ t : Fin grid0.N, win0_2.index t 0 = t.val / 7 ∧ win0_2.index t 1 = t.val % 7 := by decide +kernel

/-- After the call its result is that product. -/
theorem final (c : Dev nD) : (dats m 0 c).arrAt 2 cfg0.N = G m c := by
  refine (dats m 0 c).arrAt_eq_of_covers 2 _ (by decide +kernel) fun t hf y => ?_
  blk_simp
  rw [after0_2]
  frame_out
  pointwise [k0_pay1]
  refine Finset.sum_congr (M := EReal) rfl fun k _ => ?_
  refine congrArg₂ (fun a b : EReal => a * b) (Eq.trans ?_ (V_rows m c _ k)) (Eq.trans ?_ (V_weights m c k _))
  · blk_ext [iblk, index_0 t, index_2 t]
  · blk_ext [iblk, index_1 t, index_2 t]

/-- The reference's whole product, at one index. -/
theorem product_at (c : Dev nD) (i : Cert.Reference2Ideal.S16384x11344.Idx) :
    Cert.Reference2Ideal.Read.val_main_v2 (F := Ideal) (rows m c) (weights m c) i = ∑ k : Fin 2048, rows m c (ix3 0 (i 0) k) * weights m c (ix3 0 k (i 1)) := by
  rw [Cert.Reference2Ideal.Read.val_main_v2_apply, Cert.Reference2Ideal.Read.val_main_v1_apply]
  refine Finset.sum_congr rfl fun k _ => ?_
  rw [Cert.Reference2Ideal.Read.val_main_v0_apply]
  have h0 : (i 0).val < 16384 := (i 0).isLt
  have h1 : (i 1).val < 11344 := (i 1).isLt
  have hk := k.isLt
  congr 1
  · refine congrArg (rows m c) (funext fun a => Fin.ext ?_)
    match a with
    | ⟨0, _⟩ => rfl
    | ⟨1, _⟩ => show ((i 0).val * 11344 + (i 1).val) / 11344 % 16384 = (i 0).val; omega
    | ⟨2, _⟩ => rfl
  · refine congrArg (weights m c) (funext fun a => Fin.ext ?_)
    match a with
    | ⟨0, _⟩ => rfl
    | ⟨1, _⟩ => show (k.val * 11344 + ((i 0).val * 11344 + (i 1).val) % 11344) / 11344 % 2048 = k.val; omega
    | ⟨2, _⟩ => show (k.val * 11344 + ((i 0).val * 11344 + (i 1).val) % 11344) % 11344 = (i 1).val; omega

/-- The index a column of the second slice is taken from. -/
theorem second_at (R : Fin 16384) (n : Nat) (hn : n < 3072) :
    Cert.Reference2Ideal.Read.idx_main_v4 (ix2 R ⟨n, hn⟩) = ix2 R ⟨4176 + n, by omega⟩ := by
  funext a
  match a with
  | ⟨0, _⟩ => rfl
  | ⟨1, _⟩ => rfl

/-- The reference computes the product at those columns. -/
theorem result_eq (c : Dev nD) : G m c = Cert.Reference2Ideal.Read.val_main_v6 (F := Ideal) (rows m c) (weights m c) := by
  funext i
  obtain ⟨R, j, rfl⟩ : ∃ R j, i = ix2 R j := ⟨i 0, i 1, by funext a; match a with | ⟨0, _⟩ => rfl | ⟨1, _⟩ => rfl⟩
  rw [Cert.Reference2Ideal.Read.val_main_v6_apply]
  unfold Cert.Reference2Ideal.Read.val_main_v5
  pointwise
  refine ((product_at m c (ix2 R (col j))).symm).trans ?_
  split
  · rename_i h
    rw [Cert.Reference2Ideal.Read.val_main_v3_apply]
    refine congrArg _ (funext fun a => Fin.ext ?_)
    match a with
    | ⟨0, _⟩ => rfl
    | ⟨1, _⟩ => show (if j.val < 4096 then j.val else j.val + 80) = j.val; rw [if_pos h]
  · rename_i h
    rw [Cert.Reference2Ideal.Read.val_main_v4_apply, second_at]
    refine congrArg _ (congrArg (ix2 R) (Fin.ext ?_))
    unfold col
    dsimp only
    rw [if_neg h]
    omega

end Cert.Kernel2Ideal.Proj
-- ==== Proof.ProjGate.lean ====
/- The gates' columns of the combined input projection: each block the call writes is the block of the whole product. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.StableHlo.ReadAt
@[expose] public section
set_option maxRecDepth 16384
noncomputable section
namespace Cert.Kernel3Ideal.Proj
open Cert.Kernel3Ideal Cert.Kernel3Ideal.Gen Idealize.ShloMosaic Idealize.ShloMosaic.TcCoe Idealize.SL.Sem
variable (m : (ℓ : Loc nD τ sig) → Buf (Elt Ideal) ℓ)

/-- The normed rows. -/
abbrev rows (c : Dev nD) : Vec Ideal S1x16384x2048 .f32 := m ((c : Thread nD τ).loc main_arg0)
/-- The projection's weights. -/
abbrev weights (c : Dev nD) : Vec Ideal S1x2048x11344 .f32 := m ((c : Thread nD τ).loc main_arg1)

/-- The product's columns from 7248 on. -/
def G (c : Dev nD) : Vec Ideal S16384x4096 .f32 := fun i =>
  ∑ k : Fin 2048, rows m c (ix3 0 (i 0) k) * weights m c (ix3 0 k ⟨7248 + (i 1).val, by have h : (i 1).val < 4096 := (i 1).isLt; omega⟩)

/-- The rows the call reads are the normed rows. -/
theorem V_rows (c : Dev nD) (R : Fin 16384) (k : Fin 2048) :
    (V m c main_v7 : Vec Ideal S16384x2048 .bf16) (ix2 R k) = rows m c (ix3 0 R k) := by
  unfold V
  after_reads_at

/-- The weights the call reads are the projection's, at the call's columns. -/
theorem V_weights (c : Dev nD) (k : Fin 2048) (j : Fin 4096) :
    (V m c main_v5 : Vec Ideal S2048x4096 .bf16) (ix2 k j) = weights m c (ix3 0 k ⟨7248 + j.val, by omega⟩) := by
  unfold V
  after_reads_at
  split
  · after_reads_at
  · after_reads_at
    refine congrArg (weights m c) (congrArg (ix3 0 k) (Fin.ext ?_))
    show 9296 + (j.val - 2048) = 7248 + j.val
    omega

/-- The row block each step reads. -/
theorem index_0 : ∀ t : Fin grid0.N, win0_0.index t 0 = t.val / 4 ∧ win0_0.index t 1 = 0 := by decide +kernel
/-- The column block each step reads. -/
theorem index_1 : ∀ t : Fin grid0.N, win0_1.index t 0 = 0 ∧ win0_1.index t 1 = t.val % 4 := by decide +kernel
/-- The block each step writes. -/
theorem index_2 : ∀ t : Fin grid0.N, win0_2.index t 0 = t.val / 4 ∧ win0_2.index t 1 = t.val % 4 := by decide +kernel

/-- After the call its result is that product. -/
theorem final (c : Dev nD) : (dats m 0 c).arrAt 2 cfg0.N = G m c := by
  refine (dats m 0 c).arrAt_eq_of_covers 2 _ (by decide +kernel) fun t hf y => ?_
  blk_simp
  rw [after0_2]
  frame_out
  pointwise [k0_pay1]
  refine Finset.sum_congr (M := EReal) rfl fun k _ => ?_
  refine congrArg₂ (fun a b : EReal => a * b) (Eq.trans ?_ (V_rows m c _ k)) (Eq.trans ?_ (V_weights m c k _))
  · blk_ext [iblk, index_0 t, index_2 t]
  · blk_ext [iblk, index_1 t, index_2 t]

/-- The reference computes the product at those columns. -/
theorem result_eq (c : Dev nD) : G m c = Cert.Reference3Ideal.Read.val_main_v3 (F := Ideal) (rows m c) (weights m c) := by
  funext i
  rw [Cert.Reference3Ideal.Read.val_main_v3_apply, Cert.Reference3Ideal.Read.val_main_v2_apply, Cert.Reference3Ideal.Read.val_main_v1_apply]
  refine Finset.sum_congr rfl fun k _ => ?_
  rw [Cert.Reference3Ideal.Read.val_main_v0_apply]
  have h0 : (i 0).val < 16384 := (i 0).isLt
  have h1 : (i 1).val < 4096 := (i 1).isLt
  have hk := k.isLt
  congr 1
  · refine congrArg (rows m c) (funext fun a => Fin.ext ?_)
    match a with
    | ⟨0, _⟩ => rfl
    | ⟨1, _⟩ => show (i 0).val = ((i 0).val * 11344 + (7248 + (i 1).val)) / 11344 % 16384; omega
    | ⟨2, _⟩ => rfl
  · refine congrArg (weights m c) (funext fun a => Fin.ext ?_)
    match a with
    | ⟨0, _⟩ => rfl
    | ⟨1, _⟩ => show k.val = (k.val * 11344 + ((i 0).val * 11344 + (7248 + (i 1).val)) % 11344) / 11344 % 2048; omega
    | ⟨2, _⟩ => show 7248 + (i 1).val = (k.val * 11344 + ((i 0).val * 11344 + (7248 + (i 1).val)) % 11344) % 11344; omega

end Cert.Kernel3Ideal.Proj
-- ==== Proof.ProjIndex.lean ====
/- The indexer's key and weight columns of the combined input projection, before 48 columns of zeros: each block the call writes is the block of the whole product. -/
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.StableHlo.ReadAt
@[expose] public section
set_option maxRecDepth 16384
noncomputable section
namespace Cert.Kernel4Ideal.Proj
open Cert.Kernel4Ideal Cert.Kernel4Ideal.Gen Idealize.ShloMosaic Idealize.ShloMosaic.TcCoe Idealize.SL.Sem
variable (m : (ℓ : Loc nD τ sig) → Buf (Elt Ideal) ℓ)

/-- The normed rows. -/
abbrev rows (c : Dev nD) : Vec Ideal S1x16384x2048 .f32 := m ((c : Thread nD τ).loc main_arg0)
/-- The projection's weights. -/
abbrev weights (c : Dev nD) : Vec Ideal S1x2048x11344 .f32 := m ((c : Thread nD τ).loc main_arg1)

/-- The product's columns from 4096 to 4176, then zeros. -/
def G (c : Dev nD) : Vec Ideal S16384x128 .f32 := fun i =>
  if h : (i 1).val < 80 then ∑ k : Fin 2048, rows m c (ix3 0 (i 0) k) * weights m c (ix3 0 k ⟨4096 + (i 1).val, by omega⟩) else 0

/-- The rows the call reads are the normed rows. -/
theorem V_rows (c : Dev nD) (R : Fin 16384) (k : Fin 2048) :
    (V m c main_v8 : Vec Ideal S16384x2048 .bf16) (ix2 R k) = rows m c (ix3 0 R k) := by
  unfold V
  after_reads_at

/-- The weights the call reads are the projection's, at the call's columns. -/
theorem V_weights (c : Dev nD) (k : Fin 2048) (j : Fin 128) :
    (V m c main_v6 : Vec Ideal S2048x128 .bf16) (ix2 k j) = if h : j.val < 80 then weights m c (ix3 0 k ⟨4096 + j.val, by omega⟩) else 0 := by
  unfold V
  after_reads_at
  split_ifs
  all_goals after_reads_at
  all_goals
    split
    all_goals first
      | exact absurd (by assumption) (by omega)
      | rfl
      | exact congrArg (weights m c) (congrArg (ix3 0 k) (Fin.ext (by show _ = 4096 + j.val; dsimp only; omega)))
      | skip

/-- The row block each step reads. -/
theorem index_0 : ∀ t : Fin grid0.N, win0_0.index t 0 = t.val ∧ win0_0.index t 1 = 0 := by decide +kernel
/-- The column block each step reads. -/
theorem index_1 : ∀ t : Fin grid0.N, win0_1.index t 0 = 0 ∧ win0_1.index t 1 = 0 := by decide +kernel
/-- The block each step writes. -/
theorem index_2 : ∀ t : Fin grid0.N, win0_2.index t 0 = t.val ∧ win0_2.index t 1 = 0 := by decide +kernel

/-- After the call its result is that product. -/
theorem final (c : Dev nD) : (dats m 0 c).arrAt 2 cfg0.N = G m c := by
  refine (dats m 0 c).arrAt_eq_of_covers 2 _ (by decide +kernel) fun t hf y => ?_
  blk_simp
  rw [after0_2]
  frame_out
  pointwise [k0_pay1]
  refine Eq.trans (b := ∑ k : Fin 2048, rows m c (ix3 0 ((((cfg0.win 2).blk t).view.emb y) 0) k) * (if h : ((((cfg0.win 2).blk t).view.emb y) 1).val < 80 then weights m c (ix3 0 k ⟨4096 + ((((cfg0.win 2).blk t).view.emb y) 1).val, by omega⟩) else 0)) ?_ ?_
  · refine Finset.sum_congr (M := EReal) rfl fun k _ => ?_
    refine congrArg₂ (fun a b : EReal => a * b) (Eq.trans ?_ (V_rows m c _ k)) (Eq.trans ?_ (V_weights m c k _))
    · blk_ext [iblk, index_0 t, index_2 t]
    · blk_ext [iblk, index_1 t, index_2 t]
  · show _ = G m c _
    unfold G
    split
    · rfl
    · simp

/-- The reference computes that product and the zeros. -/
theorem result_eq (c : Dev nD) : G m c = Cert.Reference4Ideal.Read.val_main_v5 (F := Ideal) (rows m c) (weights m c) := by
  funext i
  obtain ⟨R, j, rfl⟩ : ∃ R j, i = ix2 R j := ⟨i 0, i 1, by funext a; match a with | ⟨0, _⟩ => rfl | ⟨1, _⟩ => rfl⟩
  unfold Cert.Reference4Ideal.Read.val_main_v5
  pointwise
  unfold G
  by_cases h : j.val < 80
  · rw [dif_pos h, dif_pos (show ((ix2 R j : S16384x128.Idx) 1).val < 80 from h)]
    rw [Cert.Reference4Ideal.Read.val_main_v3_apply, Cert.Reference4Ideal.Read.val_main_v2_apply, Cert.Reference4Ideal.Read.val_main_v1_apply]
    refine Finset.sum_congr rfl fun k _ => ?_
    rw [Cert.Reference4Ideal.Read.val_main_v0_apply]
    have h0 := R.isLt
    have hk := k.isLt
    congr 1
    · refine congrArg (rows m c) (funext fun a => Fin.ext ?_)
      match a with
      | ⟨0, _⟩ => rfl
      | ⟨1, _⟩ => show R.val = (R.val * 11344 + (4096 + j.val)) / 11344 % 16384; omega
      | ⟨2, _⟩ => rfl
    · refine congrArg (weights m c) (funext fun a => Fin.ext ?_)
      match a with
      | ⟨0, _⟩ => rfl
      | ⟨1, _⟩ => show k.val = (k.val * 11344 + (R.val * 11344 + (4096 + j.val)) % 11344) / 11344 % 2048; omega
      | ⟨2, _⟩ => show 4096 + j.val = (k.val * 11344 + (R.val * 11344 + (4096 + j.val)) % 11344) % 11344; omega
  · rw [dif_neg h, dif_neg (show ¬ ((ix2 R j : S16384x128.Idx) 1).val < 80 from h)]
    exact Ideal.ofBits_zero_f32.symm

end Cert.Kernel4Ideal.Proj
-- ==== Proof.Merge.lean ====
/- The merge of the two mixers' branches: each block of rows the call writes is the two gated projections' sum at those rows. -/
module

public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.StableHlo.ReadAt
@[expose] public section
set_option maxRecDepth 16384
noncomputable section
namespace Cert.Kernel5Ideal.Merge
open Cert.Kernel5Ideal Cert.Kernel5Ideal.Gen Idealize.ShloMosaic Idealize.ShloMosaic.TcCoe Idealize.SL.Sem
variable (m : (ℓ : Loc nD τ sig) → Buf (Elt Ideal) ℓ)

/-- The first mixer's branch. -/
abbrev ya (c : Dev nD) : Vec Ideal S1x16384x1024 .f32 := m ((c : Thread nD τ).loc main_arg0)
/-- The second mixer's branch. -/
abbrev yb (c : Dev nD) : Vec Ideal S1x16384x1024 .f32 := m ((c : Thread nD τ).loc main_arg1)
/-- The gates' logits. -/
abbrev gates (c : Dev nD) : Vec Ideal S1x16384x4096 .f32 := m ((c : Thread nD τ).loc main_arg2)
/-- The first branch's weights. -/
abbrev wa (c : Dev nD) : Vec Ideal S1x1024x2048 .f32 := m ((c : Thread nD τ).loc main_arg3)
/-- The second branch's weights. -/
abbrev wb (c : Dev nD) : Vec Ideal S1x1024x2048 .f32 := m ((c : Thread nD τ).loc main_arg4)

/-- One branch's projection at a row and a column. -/
def proj (y : Vec Ideal S1x16384x1024 .f32) (w : Vec Ideal S1x1024x2048 .f32) (R : Fin 16384) (j : Fin 2048) : EReal :=
  ∑ k : Fin 1024, y (ix3 0 R k) * w (ix3 0 k j)

/-- The gated sum. -/
def G (c : Dev nD) : Vec Ideal S16384x2048 .bf16 := fun i =>
  Ideal.logistic (gates m c (ix3 0 (i 0) ⟨(i 1).val, by have h : (i 1).val < 2048 := (i 1).isLt; omega⟩)) * proj (ya m c) (wa m c) (i 0) (i 1)
    + Ideal.logistic (gates m c (ix3 0 (i 0) ⟨2048 + (i 1).val, by have h : (i 1).val < 2048 := (i 1).isLt; omega⟩)) * proj (yb m c) (wb m c) (i 0) (i 1)

/-- The rows the call reads for the first branch. -/
theorem V_ya (c : Dev nD) (R : Fin 16384) (k : Fin 1024) : (V m c main_v1 : Vec Ideal S16384x1024 .bf16) (ix2 R k) = ya m c (ix3 0 R k) := by
  unfold V
  after_reads_at
/-- The rows the call reads for the second branch. -/
theorem V_yb (c : Dev nD) (R : Fin 16384) (k : Fin 1024) : (V m c main_v3 : Vec Ideal S16384x1024 .bf16) (ix2 R k) = yb m c (ix3 0 R k) := by
  unfold V
  after_reads_at
/-- The gates' logits the call reads. -/
theorem V_gates (c : Dev nD) (R : Fin 16384) (k : Fin 4096) : (V m c main_v4 : Vec Ideal S16384x4096 .f32) (ix2 R k) = gates m c (ix3 0 R k) := by
  unfold V
  after_reads_at
/-- The first branch's weights the call reads. -/
theorem V_wa (c : Dev nD) (k : Fin 1024) (j : Fin 2048) : (V m c main_v6 : Vec Ideal S1024x2048 .bf16) (ix2 k j) = wa m c (ix3 0 k j) := by
  unfold V
  after_reads_at
/-- The second branch's weights the call reads. -/
theorem V_wb (c : Dev nD) (k : Fin 1024) (j : Fin 2048) : (V m c main_v8 : Vec Ideal S1024x2048 .bf16) (ix2 k j) = wb m c (ix3 0 k j) := by
  unfold V
  after_reads_at

/-- The block each step reads of the first branch. -/
theorem index_0 : ∀ t : Fin grid0.N, win0_0.index t 0 = t.val ∧ win0_0.index t 1 = 0 := by decide +kernel
/-- The block each step reads of the second branch. -/
theorem index_1 : ∀ t : Fin grid0.N, win0_1.index t 0 = t.val ∧ win0_1.index t 1 = 0 := by decide +kernel
/-- The block each step reads of the first gate. -/
theorem index_2 : ∀ t : Fin grid0.N, win0_2.index t 0 = t.val ∧ win0_2.index t 1 = 0 := by decide +kernel
/-- The block each step reads of the second gate. -/
theorem index_3 : ∀ t : Fin grid0.N, win0_3.index t 0 = t.val ∧ win0_3.index t 1 = 1 := by decide +kernel
/-- The first weights are read whole. -/
theorem index_4 : ∀ t : Fin grid0.N, win0_4.index t 0 = 0 ∧ win0_4.index t 1 = 0 := by decide +kernel
/-- The second weights are read whole. -/
theorem index_5 : ∀ t : Fin grid0.N, win0_5.index t 0 = 0 ∧ win0_5.index t 1 = 0 := by decide +kernel
/-- The block each step writes. -/
theorem index_6 : ∀ t : Fin grid0.N, win0_6.index t 0 = t.val ∧ win0_6.index t 1 = 0 := by decide +kernel

/-- After the call its result is the gated sum. -/
theorem final (c : Dev nD) : (dats m 0 c).arrAt 6 cfg0.N = G m c := by
  refine (dats m 0 c).arrAt_eq_of_covers 6 _ (by decide +kernel) fun t hf y => ?_
  blk_simp
  rw [after0_6]
  frame_out
  pointwise [k0_pay1]
  refine congrArg₂ (fun a b : EReal => a + b) (congrArg₂ (fun a b : EReal => a * b) (congrArg Ideal.logistic (Eq.trans ?_ (V_gates m c _ _))) (Finset.sum_congr (M := EReal) rfl fun k _ => ?_))
    (congrArg₂ (fun a b : EReal => a * b) (congrArg Ideal.logistic (Eq.trans ?_ (V_gates m c _ _))) (Finset.sum_congr (M := EReal) rfl fun k _ => ?_))
  · blk_ext [iblk, index_2 t, index_6 t]
  · refine congrArg₂ (fun a b : EReal => a * b) (Eq.trans ?_ (V_ya m c _ k)) (Eq.trans ?_ (V_wa m c k _))
    · blk_ext [iblk, index_0 t, index_6 t]
    · blk_ext [iblk, index_4 t, index_6 t]
  · blk_ext [iblk, index_3 t, index_6 t]
  · refine congrArg₂ (fun a b : EReal => a * b) (Eq.trans ?_ (V_yb m c _ k)) (Eq.trans ?_ (V_wb m c k _))
    · blk_ext [iblk, index_1 t, index_6 t]
    · blk_ext [iblk, index_5 t, index_6 t]

/-- The reference computes that sum: it spells the logistic function out. -/
theorem result_eq (c : Dev nD) : G m c = Cert.Reference5Ideal.Read.val_main_v22 (F := Ideal) (ya m c) (yb m c) (gates m c) (wa m c) (wb m c) := by
  funext i
  obtain ⟨R, j, rfl⟩ : ∃ R j, i = ix2 R j := ⟨i 0, i 1, by funext a; match a with | ⟨0, _⟩ => rfl | ⟨1, _⟩ => rfl⟩
  unfold Cert.Reference5Ideal.Read.val_main_v22 Cert.Reference5Ideal.Read.val_main_v21 Cert.Reference5Ideal.Read.val_main_v20 Cert.Reference5Ideal.Read.val_main_v19 Cert.Reference5Ideal.Read.val_main_v18 Cert.Reference5Ideal.Read.val_main_v17 Cert.Reference5Ideal.Read.val_main_v16 Cert.Reference5Ideal.Read.val_main_v15 Cert.Reference5Ideal.Read.val_main_v14 Cert.Reference5Ideal.Read.val_main_v13 Cert.Reference5Ideal.Read.val_main_v12 Cert.Reference5Ideal.Read.val_main_v11 Cert.Reference5Ideal.Read.val_main_v10 Cert.Reference5Ideal.Read.val_main_v9 Cert.Reference5Ideal.Read.val_main_v8 Cert.Reference5Ideal.Read.val_main_v7 Cert.Reference5Ideal.Read.val_main_v6 Cert.Reference5Ideal.Read.val_main_v5 Cert.Reference5Ideal.Read.val_main_v4 Cert.Reference5Ideal.Read.val_main_v3 Cert.Reference5Ideal.Read.val_main_v2 Cert.Reference5Ideal.Read.val_main_v1 Cert.Reference5Ideal.Read.val_main_v0 Cert.Reference5Ideal.Read.val_main_cst Cert.Reference5Ideal.Read.val_main_cst_0 Cert.Reference5Ideal.Read.val_main_cst_1 Cert.Reference5Ideal.Read.val_main_cst_2
  pointwise
  rfl

end Cert.Kernel5Ideal.Merge
-- ==== Proof.Norm.lean ====
/- The norm before the mixers with its scale and shift: each block of rows the call writes is those rows normed. -/
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Lib.StableHlo.ReadAt
@[expose] public section
set_option maxRecDepth 16384
noncomputable section
namespace Cert.Kernel7Ideal.Norm
open Cert.Kernel7Ideal Cert.Kernel7Ideal.Gen Idealize.ShloMosaic Idealize.ShloMosaic.TcCoe Idealize.SL.Sem
variable (m : (ℓ : Loc nD τ sig) → Buf (Elt Ideal) ℓ)

/-- The layer's input. -/
abbrev x (c : Dev nD) : Vec Ideal S1x16384x2048 .f32 := m ((c : Thread nD τ).loc main_arg0)
/-- The modulation. -/
abbrev mod (c : Dev nD) : Vec Ideal S1x12288 .f32 := m ((c : Thread nD τ).loc main_arg1)
/-- The norm's weights. -/
abbrev g (c : Dev nD) : Vec Ideal S1x2048 .f32 := m ((c : Thread nD τ).loc main_arg2)

/-- The rows the call reads. -/
theorem V_x (c : Dev nD) (R : Fin 16384) (k : Fin 2048) : (V m c main_v2 : Vec Ideal S16384x2048 .f32) (ix2 R k) = x m c (ix3 0 R k) := by
  unfold V
  after_reads_at
/-- The norm's weights the call reads. -/
theorem V_g (c : Dev nD) (j : Fin 2048) : (V m c main_v4 : Vec Ideal S1x2048 .f32) (ix2 0 j) = g m c (ix2 0 j) := by
  unfold V
  after_reads_at
/-- The scale the call reads. -/
theorem V_sc (c : Dev nD) (j : Fin 2048) : (V m c main_v1 : Vec Ideal S1x2048 .f32) (ix2 0 j) = mod m c (ix2 0 ⟨2048 + j.val, by omega⟩) := by
  unfold V
  after_reads_at
/-- The shift the call reads. -/
theorem V_sh (c : Dev nD) (j : Fin 2048) : (V m c main_v0 : Vec Ideal S1x2048 .f32) (ix2 0 j) = mod m c (ix2 0 ⟨j.val, by omega⟩) := by
  unfold V
  after_reads_at

/-- The block of rows each step reads. -/
theorem index_0 : ∀ t : Fin grid0.N, win0_0.index t 0 = t.val ∧ win0_0.index t 1 = 0 := by decide +kernel
/-- The weights are read whole. -/
theorem index_1 : ∀ t : Fin grid0.N, win0_1.index t 0 = 0 ∧ win0_1.index t 1 = 0 := by decide +kernel
/-- The scale is read whole. -/
theorem index_2 : ∀ t : Fin grid0.N, win0_2.index t 0 = 0 ∧ win0_2.index t 1 = 0 := by decide +kernel
/-- The shift is read whole. -/
theorem index_3 : ∀ t : Fin grid0.N, win0_3.index t 0 = 0 ∧ win0_3.index t 1 = 0 := by decide +kernel
/-- The block each step writes. -/
theorem index_4 : ∀ t : Fin grid0.N, win0_4.index t 0 = t.val ∧ win0_4.index t 1 = 0 := by decide +kernel

/-- One row and one column of the normed input. -/
def at_ (c : Dev nD) (R : Fin 16384) (j : Fin 2048) : EReal :=
  x m c (ix3 0 R j) * Ideal.rsqrt (Ideal.div (∑ k : Fin 2048, x m c (ix3 0 R k) * x m c (ix3 0 R k)) (Ideal.ofBits FTy.f32 1157627904#32) + Ideal.ofBits FTy.f32 897988541#32)
    * g m c (ix2 0 j) * (1 + mod m c (ix2 0 ⟨2048 + j.val, by omega⟩)) + mod m c (ix2 0 ⟨j.val, by omega⟩)

/-- The normed input. -/
def G (c : Dev nD) : Vec Ideal S16384x2048 .bf16 := fun i => at_ m c (i 0) (i 1)

/-- After the call its result is the normed input. -/
theorem final (c : Dev nD) : (dats m 0 c).arrAt 4 cfg0.N = G m c := by
  refine (dats m 0 c).arrAt_eq_of_covers 4 _ (by decide +kernel) fun t hf y => ?_
  blk_simp
  rw [after0_4]
  frame_out
  pointwise [k0_pay1]
  have row : ∀ k : Fin 2048, iblk m c 0 t (ix2 (y 0) k) = x m c (ix3 0 ((((cfg0.win 4).blk t).view.emb y) 0) k) := fun k => by
    refine Eq.trans ?_ (V_x m c _ k)
    blk_ext [iblk, index_0 t, index_4 t]
  have e0 : iblk m c 0 t y = x m c (ix3 0 ((((cfg0.win 4).blk t).view.emb y) 0) ((((cfg0.win 4).blk t).view.emb y) 1)) := by
    refine Eq.trans ?_ (V_x m c _ _)
    blk_ext [iblk, index_0 t, index_4 t]
  have e1 : iblk m c 1 t (ix2 0 (y 1)) = g m c (ix2 0 ((((cfg0.win 4).blk t).view.emb y) 1)) := by
    refine Eq.trans ?_ (V_g m c _)
    blk_ext [iblk, index_1 t, index_4 t]
  have e2 := fun h => Eq.trans (a := iblk m c 2 t (ix2 0 (y 1))) h (V_sc m c ((((cfg0.win 4).blk t).view.emb y) 1))
  have e3 := fun h => Eq.trans (a := iblk m c 3 t (ix2 0 (y 1))) h (V_sh m c ((((cfg0.win 4).blk t).view.emb y) 1))
  simp only [row]
  rw [e0, e1, e2 (by blk_ext [iblk, index_2 t, index_4 t]), e3 (by blk_ext [iblk, index_3 t, index_4 t])]
  rfl

/-- The reference norms the input the same way. -/
theorem result_eq (c : Dev nD) : G m c = Cert.Reference7Ideal.Read.val_main_v25 (F := Ideal) (x m c) (mod m c) (g m c) := by
  funext i
  obtain ⟨R, j, rfl⟩ : ∃ R j, i = ix2 R j := ⟨i 0, i 1, by funext a; match a with | ⟨0, _⟩ => rfl | ⟨1, _⟩ => rfl⟩
  unfold Cert.Reference7Ideal.Read.val_main_v25 Cert.Reference7Ideal.Read.val_main_v24 Cert.Reference7Ideal.Read.val_main_v23 Cert.Reference7Ideal.Read.val_main_v22 Cert.Reference7Ideal.Read.val_main_v21 Cert.Reference7Ideal.Read.val_main_v20 Cert.Reference7Ideal.Read.val_main_v19 Cert.Reference7Ideal.Read.val_main_v18 Cert.Reference7Ideal.Read.val_main_v17 Cert.Reference7Ideal.Read.val_main_v16 Cert.Reference7Ideal.Read.val_main_v15 Cert.Reference7Ideal.Read.val_main_v14 Cert.Reference7Ideal.Read.val_main_v13 Cert.Reference7Ideal.Read.val_main_v12 Cert.Reference7Ideal.Read.val_main_v11 Cert.Reference7Ideal.Read.val_main_v10 Cert.Reference7Ideal.Read.val_main_v9 Cert.Reference7Ideal.Read.val_main_v8 Cert.Reference7Ideal.Read.val_main_v7 Cert.Reference7Ideal.Read.val_main_v6 Cert.Reference7Ideal.Read.val_main_v5 Cert.Reference7Ideal.Read.val_main_v4 Cert.Reference7Ideal.Read.val_main_v3 Cert.Reference7Ideal.Read.val_main_v2 Cert.Reference7Ideal.Read.val_main_v1 Cert.Reference7Ideal.Read.val_main_v0 Cert.Reference7Ideal.Read.val_main_cst Cert.Reference7Ideal.Read.val_main_cst_0 Cert.Reference7Ideal.Read.val_main_cst_1 Cert.Reference7Ideal.Read.val_main_cst_2
  pointwise
  rfl

end Cert.Kernel7Ideal.Norm
-- ==== Proof.Lanes.lean ====
/- An array of rows of 2048 held as sixteen rows of 128 lanes to a row: the reads of every sixteenth row, side by side, are its rows. -/
module

public import Idealize.ShloMosaic.Lib.Pointwise
public import Idealize.ShloMosaic.Lib.Pipeline.ValueKit
public import Idealize.ShloMosaic.Lib.Pipeline.Value
@[expose] public section
noncomputable section
namespace Cert.Lanes
open Idealize.ShloMosaic Idealize.ShloMosaic.TcCoe

variable {n N : ℕ}

/-- Every sixteenth row from row `k` on lies in the block. -/
theorem starts (hN : N = 16 * n) (hn : 0 < n) (k : Fin 16) (a : Fin 2) :
    ![n, 128] a = 0 ∨ ![k.val, 0] a + ![16, 1] a * (![n, 128] a - 1) < ![N, 128] a := by
  have := k.isLt
  match a with
  | ⟨0, _⟩ => exact Or.inr (show k.val + 16 * (n - 1) < N by omega)
  | ⟨1, _⟩ => exact Or.inr (show 0 + 1 * 127 < 128 by decide)

/-- The rows of such an array. -/
def rows (hN : N = 16 * n) (z : Vec Ideal ⟨2, ![N, 128]⟩ .f32) : Vec Ideal ⟨2, ![n, 2048]⟩ .f32 := fun y =>
  z (ix2 ⟨16 * (y 0).val + (y 1).val / 128, by have h0 : (y 0).val < n := (y 0).isLt; have h1 : (y 1).val < 2048 := (y 1).isLt; omega⟩
    ⟨(y 1).val % 128, Nat.mod_lt _ (by decide)⟩)

/-- A read of every sixteenth row. -/
theorem read_part {sig : RefSig} (M : Memref sig .tc .vmem ⟨2, ![N, 128]⟩ .f32) (hM : M.IsWhole) (X : Vec Ideal ⟨2, ![N, 128]⟩ .f32) (k : ℕ)
    (inb : ∀ a : Fin 2, ![n, 128] a = 0 ∨ ![k, 0] a + ![16, 1] a * (![n, 128] a - 1) < ![N, 128] a) (r : Fin n) (j : Fin 128)
    (h : k + 16 * r.val < N) :
    View.readAt (Elt Ideal) M.view (⟨![k, 0], ![n, 128], ![16, 1], inb⟩ : LoadRect ⟨2, ![N, 128]⟩) (hM.unread X) (ix2 r j) = X (ix2 ⟨k + 16 * r.val, h⟩ j) := by
  rw [View.readAt_apply, hM.read_unread]
  refine congrArg X (funext fun a => Fin.ext ?_)
  match a with
  | ⟨0, _⟩ => rfl
  | ⟨1, _⟩ => exact (Nat.zero_add _).trans (Nat.one_mul _)

/-- The sixteen reads side by side are the rows. -/
theorem join {sig : RefSig} (hN : N = 16 * n) (hn : 0 < n) (M : Memref sig .tc .vmem ⟨2, ![N, 128]⟩ .f32) (hM : M.IsWhole) (X : Vec Ideal ⟨2, ![N, 128]⟩ .f32)
    (h : Shape.Concatenates [⟨2, ![n, 128]⟩, ⟨2, ![n, 128]⟩, ⟨2, ![n, 128]⟩, ⟨2, ![n, 128]⟩, ⟨2, ![n, 128]⟩, ⟨2, ![n, 128]⟩, ⟨2, ![n, 128]⟩, ⟨2, ![n, 128]⟩, ⟨2, ![n, 128]⟩, ⟨2, ![n, 128]⟩, ⟨2, ![n, 128]⟩, ⟨2, ![n, 128]⟩, ⟨2, ![n, 128]⟩, ⟨2, ![n, 128]⟩, ⟨2, ![n, 128]⟩, ⟨2, ![n, 128]⟩] ⟨2, ![n, 2048]⟩ 1) :
    concatenate ⟨2, ![n, 2048]⟩ 1 [⟨⟨2, ![n, 128]⟩, View.readAt (Elt Ideal) M.view (⟨![0, 0], ![n, 128], ![16, 1], starts hN hn 0⟩ : LoadRect ⟨2, ![N, 128]⟩) (hM.unread X)⟩, ⟨⟨2, ![n, 128]⟩, View.readAt (Elt Ideal) M.view (⟨![1, 0], ![n, 128], ![16, 1], starts hN hn 1⟩ : LoadRect ⟨2, ![N, 128]⟩) (hM.unread X)⟩, ⟨⟨2, ![n, 128]⟩, View.readAt (Elt Ideal) M.view (⟨![2, 0], ![n, 128], ![16, 1], starts hN hn 2⟩ : LoadRect ⟨2, ![N, 128]⟩) (hM.unread X)⟩, ⟨⟨2, ![n, 128]⟩, View.readAt (Elt Ideal) M.view (⟨![3, 0], ![n, 128], ![16, 1], starts hN hn 3⟩ : LoadRect ⟨2, ![N, 128]⟩) (hM.unread X)⟩, ⟨⟨2, ![n, 128]⟩, View.readAt (Elt Ideal) M.view (⟨![4, 0], ![n, 128], ![16, 1], starts hN hn 4⟩ : LoadRect ⟨2, ![N, 128]⟩) (hM.unread X)⟩, ⟨⟨2, ![n, 128]⟩, View.readAt (Elt Ideal) M.view (⟨![5, 0], ![n, 128], ![16, 1], starts hN hn 5⟩ : LoadRect ⟨2, ![N, 128]⟩) (hM.unread X)⟩, ⟨⟨2, ![n, 128]⟩, View.readAt (Elt Ideal) M.view (⟨![6, 0], ![n, 128], ![16, 1], starts hN hn 6⟩ : LoadRect ⟨2, ![N, 128]⟩) (hM.unread X)⟩, ⟨⟨2, ![n, 128]⟩, View.readAt (Elt Ideal) M.view (⟨![7, 0], ![n, 128], ![16, 1], starts hN hn 7⟩ : LoadRect ⟨2, ![N, 128]⟩) (hM.unread X)⟩, ⟨⟨2, ![n, 128]⟩, View.readAt (Elt Ideal) M.view (⟨![8, 0], ![n, 128], ![16, 1], starts hN hn 8⟩ : LoadRect ⟨2, ![N, 128]⟩) (hM.unread X)⟩, ⟨⟨2, ![n, 128]⟩, View.readAt (Elt Ideal) M.view (⟨![9, 0], ![n, 128], ![16, 1], starts hN hn 9⟩ : LoadRect ⟨2, ![N, 128]⟩) (hM.unread X)⟩, ⟨⟨2, ![n, 128]⟩, View.readAt (Elt Ideal) M.view (⟨![10, 0], ![n, 128], ![16, 1], starts hN hn 10⟩ : LoadRect ⟨2, ![N, 128]⟩) (hM.unread X)⟩, ⟨⟨2, ![n, 128]⟩, View.readAt (Elt Ideal) M.view (⟨![11, 0], ![n, 128], ![16, 1], starts hN hn 11⟩ : LoadRect ⟨2, ![N, 128]⟩) (hM.unread X)⟩, ⟨⟨2, ![n, 128]⟩, View.readAt (Elt Ideal) M.view (⟨![12, 0], ![n, 128], ![16, 1], starts hN hn 12⟩ : LoadRect ⟨2, ![N, 128]⟩) (hM.unread X)⟩, ⟨⟨2, ![n, 128]⟩, View.readAt (Elt Ideal) M.view (⟨![13, 0], ![n, 128], ![16, 1], starts hN hn 13⟩ : LoadRect ⟨2, ![N, 128]⟩) (hM.unread X)⟩, ⟨⟨2, ![n, 128]⟩, View.readAt (Elt Ideal) M.view (⟨![14, 0], ![n, 128], ![16, 1], starts hN hn 14⟩ : LoadRect ⟨2, ![N, 128]⟩) (hM.unread X)⟩, ⟨⟨2, ![n, 128]⟩, View.readAt (Elt Ideal) M.view (⟨![15, 0], ![n, 128], ![16, 1], starts hN hn 15⟩ : LoadRect ⟨2, ![N, 128]⟩) (hM.unread X)⟩] h = rows hN X := by
  funext y
  have h1 : (y 1).val < 2048 := (y 1).isLt
  have h0 : (y 0).val < n := (y 0).isLt
  refine (concatenate_ofFn_apply (N := 16) 1 (fun k => View.readAt (Elt Ideal) M.view (⟨![k.val, 0], ![n, 128], ![16, 1], starts hN hn k⟩ : LoadRect ⟨2, ![N, 128]⟩) (hM.unread X))
    h rfl 128 rfl y ⟨(y 1).val / 128, by omega⟩ rfl (ix2 ⟨(y 0).val, h0⟩ ⟨(y 1).val % 128, Nat.mod_lt _ (by decide)⟩) rfl fun b hb => ?_).trans ?_
  · match b with
    | ⟨0, _⟩ => rfl
    | ⟨1, _⟩ => exact absurd rfl hb
  · exact (read_part M hM X _ _ ⟨(y 0).val, h0⟩ _ (show (y 1).val / 128 + 16 * (y 0).val < N by omega)).trans
      (congrArg X (congrArg (fun r => ix2 r _) (Fin.ext (Nat.add_comm _ _))))

end Cert.Lanes
-- ==== Proof.Final.lean ====
/- The last residual and the last norm: the two experts' rows of a position are weighted and added, and the sum is scaled, added
to the layer's stream and normed. -/
module

public import proofs.«01_k».proof.Proof.Gen.Kernel8Ideal.Value
public import proofs.«01_k».proof.Proof.Gen.Reference8Ideal.Read
public import proofs.«01_k».proof.Proof.Lanes
public import Idealize.ShloMosaic.Lib.Pointwise
public import Idealize.ShloMosaic.Lib.Pipeline.ValueKit
public import Idealize.ShloMosaic.Lib.StableHlo.ReadAt
@[expose] public section
set_option maxRecDepth 16384
noncomputable section
namespace Cert.Kernel8Ideal.Final
open Cert.Kernel8Ideal Cert.Kernel8Ideal.Gen Idealize.ShloMosaic Idealize.ShloMosaic.TcCoe Idealize.SL.Sem
variable (m : (ℓ : Loc nD τ sig) → Buf (Elt Ideal) ℓ)

/-- The stream the experts' result is added to. -/
abbrev x (c : Dev nD) : Vec Ideal S1x16384x2048 .f32 := m ((c : Thread nD τ).loc main_arg0)
/-- The experts' rows, sixteen lanes of 128 to a row: first every position's first expert, then every position's second. -/
abbrev z (c : Dev nD) : Vec Ideal S528384x128 .f32 := m ((c : Thread nD τ).loc main_arg1)
/-- The two weights of each position. -/
abbrev wt (c : Dev nD) : Vec Ideal S16384x2 .f32 := m ((c : Thread nD τ).loc main_arg2)
/-- The modulation. -/
abbrev mod (c : Dev nD) : Vec Ideal S1x12288 .f32 := m ((c : Thread nD τ).loc main_arg3)
/-- The norm's weights. -/
abbrev g (c : Dev nD) : Vec Ideal S2048 .f32 := m ((c : Thread nD τ).loc main_arg4)

/-- The stream's rows the call reads. -/
theorem V_x (c : Dev nD) (R : Fin 16384) (k : Fin 2048) : (V m c main_v1 : Vec Ideal S16384x2048 .f32) (ix2 R k) = x m c (ix3 0 R k) := by
  unfold V
  after_reads_at
/-- The norm's weights the call reads. -/
theorem V_g (c : Dev nD) (j : Fin 2048) : (V m c main_v2 : Vec Ideal S1x2048 .f32) (ix2 0 j) = g m c (ix1 j) := by
  unfold V
  after_reads_at
/-- The gate the call reads. -/
theorem V_gate (c : Dev nD) (j : Fin 2048) : (V m c main_v0 : Vec Ideal S1x2048 .f32) (ix2 0 j) = mod m c (ix2 0 ⟨10240 + j.val, by omega⟩) := by
  unfold V
  after_reads_at

/-- The block of rows each step reads. -/
theorem index_0 : ∀ t : Fin grid0.N, win0_0.index t 0 = t.val ∧ win0_0.index t 1 = 0 := by decide +kernel
/-- The first experts' rows each step reads. -/
theorem index_1 : ∀ t : Fin grid0.N, win0_1.index t 0 = t.val ∧ win0_1.index t 1 = 0 := by decide +kernel
/-- The second experts' rows each step reads. -/
theorem index_2 : ∀ t : Fin grid0.N, win0_2.index t 0 = 64 + t.val ∧ win0_2.index t 1 = 0 := by decide +kernel
/-- The weights each step reads. -/
theorem index_3 : ∀ t : Fin grid0.N, win0_3.index t 0 = t.val ∧ win0_3.index t 1 = 0 := by decide +kernel
/-- The gate is read whole. -/
theorem index_4 : ∀ t : Fin grid0.N, win0_4.index t 0 = 0 ∧ win0_4.index t 1 = 0 := by decide +kernel
/-- The norm's weights are read whole. -/
theorem index_5 : ∀ t : Fin grid0.N, win0_5.index t 0 = 0 ∧ win0_5.index t 1 = 0 := by decide +kernel
/-- The block each step writes. -/
theorem index_6 : ∀ t : Fin grid0.N, win0_6.index t 0 = t.val ∧ win0_6.index t 1 = 0 := by decide +kernel

/-- A block of sixteen rows of lanes to a row, row by row. -/
abbrev rows (z : Vec Ideal S4096x128 .f32) : Vec Ideal S256x2048 .f32 := Lanes.rows (n := 256) (N := 4096) rfl z

/-- The block a step computes. -/
def block (x0 : Vec Ideal S256x2048 .f32) (x1 x2 : Vec Ideal S4096x128 .f32) (x3 : Vec Ideal S256x2 .f32) (x4 x5 : Vec Ideal S1x2048 .f32) : Vec Ideal S256x2048 .f32 :=
  k0_pay1 (k0_pay3 x0) (k0_pay4 (k0_pay2 (View.ld x3 (Rect.unit ![0, 0] S256x1.size inb_S256x2_S256x1_0_0)) (rows x1))
    (View.ld x3 (Rect.unit ![0, 1] S256x1.size inb_S256x2_S256x1_0_1)) (rows x2) x4) x5

/-- What a step leaves in the output's buffer. -/
theorem outs (c : Dev nD) (t : Fin cfg0.N) :
    outsAt0 m c t = block (iblk m c 0 t) (iblk m c 1 t) (iblk m c 2 t) (iblk m c 3 t) (iblk m c 4 t) (iblk m c 5 t) := by
  unfold outsAt0
  frame_out
  rw [Lanes.join (n := 256) (N := 4096) rfl (by decide), Lanes.join (n := 256) (N := 4096) rfl (by decide)]
  rfl

/-- The position of row `r` of the block of step `t`. -/
def pos (t : Fin cfg0.N) (r : Fin 256) : Fin 16384 := ⟨256 * t.val + r.val, by have : t.val < 64 := t.isLt.trans_eq N_0; omega⟩

/-- The row of lanes that holds lane `k` of position `R`. -/
def lane (R : Fin 16384) (k : Fin 2048) : Fin 262144 := ⟨R.val * 16 + k.val / 128, by omega⟩

/-- The stream's rows a step reads. -/
theorem row_x (c : Dev nD) (t : Fin cfg0.N) (r : Fin 256) (k : Fin 2048) : iblk m c 0 t (ix2 r k) = x m c (ix3 0 (pos t r) k) := by
  refine Eq.trans ?_ (V_x m c _ k)
  blk_ext [iblk, index_0 t, pos]

/-- The first experts' rows a step reads. -/
theorem row_z0 (c : Dev nD) (t : Fin cfg0.N) (r : Fin 256) (k : Fin 2048) :
    rows (iblk m c 1 t) (ix2 r k) = z m c (ix2 ⟨(lane (pos t r) k).val, by have := (lane (pos t r) k).isLt; omega⟩ ⟨k.val % 128, Nat.mod_lt _ (by decide)⟩) := by
  refine Eq.trans ?_ (congrFun (V_main_arg1 m c) _)
  unfold rows Lanes.rows
  blk_ext [iblk, index_1 t, pos, lane]

/-- The second experts' rows a step reads. -/
theorem row_z1 (c : Dev nD) (t : Fin cfg0.N) (r : Fin 256) (k : Fin 2048) :
    rows (iblk m c 2 t) (ix2 r k) = z m c (ix2 ⟨262144 + (lane (pos t r) k).val, by have := (lane (pos t r) k).isLt; omega⟩ ⟨k.val % 128, Nat.mod_lt _ (by decide)⟩) := by
  refine Eq.trans ?_ (congrFun (V_main_arg1 m c) _)
  unfold rows Lanes.rows
  blk_ext [iblk, index_2 t, pos, lane]

/-- The weights a step reads. -/
theorem row_w (c : Dev nD) (t : Fin cfg0.N) (r : Fin 256) (k : Fin 2) : iblk m c 3 t (ix2 r k) = wt m c (ix2 (pos t r) k) := by
  refine Eq.trans ?_ (congrFun (V_main_arg2 m c) _)
  blk_ext [iblk, index_3 t, pos]

/-- The gate a step reads. -/
theorem row_gate (c : Dev nD) (t : Fin cfg0.N) (k : Fin 2048) : iblk m c 4 t (ix2 0 k) = mod m c (ix2 0 ⟨10240 + k.val, by omega⟩) := by
  refine Eq.trans ?_ (V_gate m c k)
  blk_ext [iblk, index_4 t]

/-- The norm's weights a step reads. -/
theorem row_g (c : Dev nD) (t : Fin cfg0.N) (k : Fin 2048) : iblk m c 5 t (ix2 0 k) = g m c (ix1 k) := by
  refine Eq.trans ?_ (V_g m c k)
  blk_ext [iblk, index_5 t]

/-- The stream with the experts' weighted rows added. -/
def sum (c : Dev nD) (R : Fin 16384) (k : Fin 2048) : EReal :=
  x m c (ix3 0 R k) + mod m c (ix2 0 ⟨10240 + k.val, by omega⟩)
    * (wt m c (ix2 R 0) * z m c (ix2 ⟨(lane R k).val, by have := (lane R k).isLt; omega⟩ ⟨k.val % 128, Nat.mod_lt _ (by decide)⟩)
      + wt m c (ix2 R 1) * z m c (ix2 ⟨262144 + (lane R k).val, by have := (lane R k).isLt; omega⟩ ⟨k.val % 128, Nat.mod_lt _ (by decide)⟩))

/-- One row and one column of the result. -/
def at_ (c : Dev nD) (R : Fin 16384) (j : Fin 2048) : EReal :=
  sum m c R j * Ideal.rsqrt (Ideal.div (∑ k : Fin 2048, sum m c R k * sum m c R k) (Ideal.ofBits FTy.f32 1157627904#32) + Ideal.ofBits FTy.f32 897988541#32)
    * g m c (ix1 j)

/-- The layer's result. -/
def G (c : Dev nD) : Vec Ideal S16384x2048 .f32 := fun i => at_ m c (i 0) (i 1)

/-- A step's block holds the result's rows. -/
theorem block_at (c : Dev nD) (t : Fin cfg0.N) (r : Fin 256) (j : Fin 2048) :
    block (iblk m c 0 t) (iblk m c 1 t) (iblk m c 2 t) (iblk m c 3 t) (iblk m c 4 t) (iblk m c 5 t) (ix2 r j) = at_ m c (pos t r) j := by
  unfold block
  pointwise [k0_pay1, k0_pay2, k0_pay3, k0_pay4]
  simp only [row_x, row_z0, row_z1, row_w, row_gate, row_g]
  rfl

/-- After the call its result is the layer's. -/
theorem final (c : Dev nD) : (dats m 0 c).arrAt 6 cfg0.N = G m c := by
  refine (dats m 0 c).arrAt_eq_of_covers 6 _ (by decide +kernel) fun t hf y => ?_
  blk_simp
  rw [after0_6, outs]
  obtain ⟨r, j, rfl⟩ : ∃ r j, y = ix2 r j := ⟨y 0, y 1, by funext a; match a with | ⟨0, _⟩ => rfl | ⟨1, _⟩ => rfl⟩
  refine (block_at m c t r j).trans ?_
  refine Eq.trans (b := G m c (ix2 (pos t r) j)) rfl ?_
  blk_ext [index_6 t, pos]

/-- The reference computes the same. -/
theorem result_eq (c : Dev nD) : G m c = Cert.Reference8Ideal.Read.val_main_v30 (F := Ideal) (x m c) (z m c) (wt m c) (mod m c) (g m c) := by
  funext i
  obtain ⟨R, j, rfl⟩ : ∃ R j, i = ix2 R j := ⟨i 0, i 1, by funext a; match a with | ⟨0, _⟩ => rfl | ⟨1, _⟩ => rfl⟩
  unfold Cert.Reference8Ideal.Read.val_main_v30 Cert.Reference8Ideal.Read.val_main_v29 Cert.Reference8Ideal.Read.val_main_v28 Cert.Reference8Ideal.Read.val_main_v27 Cert.Reference8Ideal.Read.val_main_v26 Cert.Reference8Ideal.Read.val_main_v25 Cert.Reference8Ideal.Read.val_main_v24 Cert.Reference8Ideal.Read.val_main_v23 Cert.Reference8Ideal.Read.val_main_v22 Cert.Reference8Ideal.Read.val_main_v21 Cert.Reference8Ideal.Read.val_main_v20 Cert.Reference8Ideal.Read.val_main_v19 Cert.Reference8Ideal.Read.val_main_v18 Cert.Reference8Ideal.Read.val_main_v17 Cert.Reference8Ideal.Read.val_main_v16 Cert.Reference8Ideal.Read.val_main_v15 Cert.Reference8Ideal.Read.val_main_v14 Cert.Reference8Ideal.Read.val_main_v13 Cert.Reference8Ideal.Read.val_main_v12 Cert.Reference8Ideal.Read.val_main_v11 Cert.Reference8Ideal.Read.val_main_v10 Cert.Reference8Ideal.Read.val_main_v9 Cert.Reference8Ideal.Read.val_main_v8 Cert.Reference8Ideal.Read.val_main_v7 Cert.Reference8Ideal.Read.val_main_v6 Cert.Reference8Ideal.Read.val_main_v5 Cert.Reference8Ideal.Read.val_main_v4 Cert.Reference8Ideal.Read.val_main_v3 Cert.Reference8Ideal.Read.val_main_v2 Cert.Reference8Ideal.Read.val_main_v1 Cert.Reference8Ideal.Read.val_main_v0 Cert.Reference8Ideal.Read.val_main_cst Cert.Reference8Ideal.Read.val_main_cst_0 Cert.Reference8Ideal.Read.val_main_cst_1
  pointwise
  rfl

end Cert.Kernel8Ideal.Final
-- ==== Proof.Router.lean ====
/- The router's logits: each block of rows the call writes holds those rows' products with the groups' and the experts' columns,
with their biases, and zeros in the lanes left over. -/
module

public import proofs.«01_k».proof.Proof.Gen.Kernel9Ideal.Value
public import proofs.«01_k».proof.Proof.Gen.Reference9Ideal.Read
public import proofs.«01_k».proof.Proof.Lanes
public import Idealize.ShloMosaic.Lib.Pointwise
public import Idealize.ShloMosaic.Lib.Pipeline.ValueKit
public import Idealize.ShloMosaic.Lib.StableHlo.ReadAt
@[expose] public section
set_option maxRecDepth 16384
noncomputable section
namespace Cert.Kernel9Ideal.Router
open Cert.Kernel9Ideal Cert.Kernel9Ideal.Gen Idealize.ShloMosaic Idealize.ShloMosaic.TcCoe Idealize.SL.Sem
variable (m : (ℓ : Loc nD τ sig) → Buf (Elt Ideal) ℓ)

/-- The normed rows, sixteen rows of lanes to a row. -/
abbrev x (c : Dev nD) : Vec Ideal S262144x128 .f32 := m ((c : Thread nD τ).loc main_arg0)
/-- The groups' weights. -/
abbrev wg (c : Dev nD) : Vec Ideal S1x2048x8 .f32 := m ((c : Thread nD τ).loc main_arg1)
/-- The groups' biases. -/
abbrev bg (c : Dev nD) : Vec Ideal S1x8 .f32 := m ((c : Thread nD τ).loc main_arg2)
/-- The experts' weights. -/
abbrev we (c : Dev nD) : Vec Ideal S1x2048x64 .f32 := m ((c : Thread nD τ).loc main_arg3)
/-- The experts' biases. -/
abbrev be (c : Dev nD) : Vec Ideal S1x64 .f32 := m ((c : Thread nD τ).loc main_arg4)

/-- The weights side by side, then zeros. -/
def weight (wg : Vec Ideal S1x2048x8 .f32) (we : Vec Ideal S1x2048x64 .f32) (k : Fin 2048) (j : Fin 128) : EReal :=
  if h : j.val < 8 then wg (ix3 0 k ⟨j.val, h⟩) else if h' : j.val - 8 < 64 then we (ix3 0 k ⟨j.val - 8, h'⟩) else 0
/-- The biases side by side, then zeros. -/
def bias (bg : Vec Ideal S1x8 .f32) (be : Vec Ideal S1x64 .f32) (j : Fin 128) : EReal :=
  if h : j.val < 8 then bg (ix2 0 ⟨j.val, h⟩) else if h' : j.val - 8 < 64 then be (ix2 0 ⟨j.val - 8, h'⟩) else 0

/-- The weights the call reads. -/
theorem V_w (c : Dev nD) (k : Fin 2048) (j : Fin 128) : (V m c main_v3 : Vec Ideal S2048x128 .f32) (ix2 k j) = weight (wg m c) (we m c) k j := by
  unfold V weight
  after_reads_at
  by_cases h : j.val < 8
  · rw [dif_pos h, dif_pos h]
    after_reads_at
  · rw [dif_neg h, dif_neg h]
    by_cases h' : j.val - 8 < 64
    · rw [dif_pos h', dif_pos h']
      after_reads_at
    · rw [dif_neg h', dif_neg h']
      after_reads_at
/-- The biases the call reads. -/
theorem V_b (c : Dev nD) (j : Fin 128) : (V m c main_v8 : Vec Ideal S1x128 .f32) (ix2 0 j) = bias (bg m c) (be m c) j := by
  unfold V bias
  after_reads_at
  by_cases h : j.val < 8
  · rw [dif_pos h, dif_pos h]
    after_reads_at
  · rw [dif_neg h, dif_neg h]
    by_cases h' : j.val - 8 < 64
    · rw [dif_pos h', dif_pos h']
      after_reads_at
    · rw [dif_neg h', dif_neg h']
      after_reads_at

/-- The block of rows each step reads. -/
theorem index_0 : ∀ t : Fin grid0.N, win0_0.index t 0 = t.val ∧ win0_0.index t 1 = 0 := by decide +kernel
/-- The weights are read whole. -/
theorem index_1 : ∀ t : Fin grid0.N, win0_1.index t 0 = 0 ∧ win0_1.index t 1 = 0 := by decide +kernel
/-- The biases are read whole. -/
theorem index_2 : ∀ t : Fin grid0.N, win0_2.index t 0 = 0 ∧ win0_2.index t 1 = 0 := by decide +kernel
/-- The block each step writes. -/
theorem index_3 : ∀ t : Fin grid0.N, win0_3.index t 0 = t.val ∧ win0_3.index t 1 = 0 := by decide +kernel

/-- A block of sixteen rows of lanes to a row, row by row. -/
abbrev rows (z : Vec Ideal S8192x128 .f32) : Vec Ideal S512x2048 .f32 := Lanes.rows (n := 512) (N := 8192) rfl z

/-- The block a step computes. -/
def block (x0 : Vec Ideal S8192x128 .f32) (x1 : Vec Ideal S2048x128 .f32) (x2 : Vec Ideal S1x128 .f32) : Vec Ideal S512x128 .f32 :=
  k0_pay1 (k0_pay2 (rows x0) x1) (k0_pay3 x2)

/-- What a step leaves in the output's buffer. -/
theorem outs (c : Dev nD) (t : Fin cfg0.N) : outsAt0 m c t = block (iblk m c 0 t) (iblk m c 1 t) (iblk m c 2 t) := by
  unfold outsAt0
  frame_out
  rw [Lanes.join (n := 512) (N := 8192) rfl (by decide)]
  rfl

/-- The position of row `r` of the block of step `t`. -/
def pos (t : Fin 32) (r : Fin 512) : Fin 16384 := ⟨512 * t.val + r.val, by omega⟩

/-- The row of lanes that holds lane `k` of position `R`. -/
def lane (R : Fin 16384) (k : Fin 2048) : Fin 262144 := ⟨R.val * 16 + k.val / 128, by omega⟩

/-- The normed rows a step reads. -/
theorem row_x (c : Dev nD) (t : Fin cfg0.N) (r : Fin 512) (k : Fin 2048) :
    rows (iblk m c 0 t) (ix2 r k) = x m c (ix2 (lane (pos t r) k) ⟨k.val % 128, Nat.mod_lt _ (by decide)⟩) := by
  refine Eq.trans ?_ (congrFun (V_main_arg0 m c) _)
  unfold rows Lanes.rows
  blk_ext [iblk, index_0 t, pos, lane]

/-- The weights a step reads. -/
theorem row_w (c : Dev nD) (t : Fin cfg0.N) (k : Fin 2048) (j : Fin 128) : iblk m c 1 t (ix2 k j) = weight (wg m c) (we m c) k j := by
  refine Eq.trans ?_ (V_w m c k j)
  blk_ext [iblk, index_1 t]

/-- The biases a step reads. -/
theorem row_b (c : Dev nD) (t : Fin cfg0.N) (j : Fin 128) : iblk m c 2 t (ix2 0 j) = bias (bg m c) (be m c) j := by
  refine Eq.trans ?_ (V_b m c j)
  blk_ext [iblk, index_2 t]

/-- One row and one column of the logits. -/
def at_ (x : Vec Ideal S262144x128 .f32) (wg : Vec Ideal S1x2048x8 .f32) (bg : Vec Ideal S1x8 .f32) (we : Vec Ideal S1x2048x64 .f32)
    (be : Vec Ideal S1x64 .f32) (R : Fin 16384) (j : Fin 128) : EReal :=
  (∑ k : Fin 2048, x (ix2 (lane R k) ⟨k.val % 128, Nat.mod_lt _ (by decide)⟩) * weight wg we k j) + bias bg be j

/-- The logits. -/
def G (x : Vec Ideal S262144x128 .f32) (wg : Vec Ideal S1x2048x8 .f32) (bg : Vec Ideal S1x8 .f32) (we : Vec Ideal S1x2048x64 .f32)
    (be : Vec Ideal S1x64 .f32) : Vec Ideal S16384x128 .f32 := fun i => at_ x wg bg we be (i 0) (i 1)

/-- A step's block holds the logits' rows, when the blocks it reads hold theirs. -/
theorem block_of (x : Vec Ideal S262144x128 .f32) (wg : Vec Ideal S1x2048x8 .f32) (bg : Vec Ideal S1x8 .f32) (we : Vec Ideal S1x2048x64 .f32)
    (be : Vec Ideal S1x64 .f32) (x0 : Vec Ideal S8192x128 .f32) (x1 : Vec Ideal S2048x128 .f32) (x2 : Vec Ideal S1x128 .f32) (t : Fin 32)
    (h0 : ∀ r k, rows x0 (ix2 r k) = x (ix2 (lane (pos t r) k) ⟨k.val % 128, Nat.mod_lt _ (by decide)⟩))
    (h1 : ∀ k j, x1 (ix2 k j) = weight wg we k j) (h2 : ∀ j, x2 (ix2 0 j) = bias bg be j) (r : Fin 512) (j : Fin 128) :
    block x0 x1 x2 (ix2 r j) = at_ x wg bg we be (pos t r) j := by
  unfold block
  pointwise [k0_pay1, k0_pay2, k0_pay3]
  simp only [h0, h1, h2]
  rfl

/-- A step's block holds the logits' rows. -/
theorem block_at (c : Dev nD) (t : Fin cfg0.N) (r : Fin 512) (j : Fin 128) :
    block (iblk m c 0 t) (iblk m c 1 t) (iblk m c 2 t) (ix2 r j) = at_ (x m c) (wg m c) (bg m c) (we m c) (be m c) (pos t r) j :=
  block_of _ _ _ _ _ _ _ _ t (row_x m c t) (row_w m c t) (row_b m c t) r j

/-- After the call its result is the logits. -/
theorem final (c : Dev nD) : (dats m 0 c).arrAt 3 cfg0.N = G (x m c) (wg m c) (bg m c) (we m c) (be m c) := by
  refine (dats m 0 c).arrAt_eq_of_covers 3 _ (by decide +kernel) fun t hf y => ?_
  blk_simp
  rw [after0_3, outs]
  obtain ⟨r, j, rfl⟩ : ∃ r j, y = ix2 r j := ⟨y 0, y 1, by funext a; match a with | ⟨0, _⟩ => rfl | ⟨1, _⟩ => rfl⟩
  refine (block_at m c t r j).trans ?_
  refine Eq.trans (b := G (x m c) (wg m c) (bg m c) (we m c) (be m c) (ix2 (pos t r) j)) rfl ?_
  blk_ext [index_3 t, pos]

/-- The reference computes the same. -/
theorem result_eq (x : Vec Ideal S262144x128 .f32) (wg : Vec Ideal S1x2048x8 .f32) (bg : Vec Ideal S1x8 .f32) (we : Vec Ideal S1x2048x64 .f32)
    (be : Vec Ideal S1x64 .f32) : G x wg bg we be = Cert.Reference9Ideal.Read.val_main_v14 (F := Ideal) x wg bg we be := by
  funext i
  obtain ⟨R, j, rfl⟩ : ∃ R j, i = ix2 R j := ⟨i 0, i 1, by funext a; match a with | ⟨0, _⟩ => rfl | ⟨1, _⟩ => rfl⟩
  refine Eq.trans (b := at_ x wg bg we be R j) rfl ?_
  unfold at_ weight bias
  unfold Cert.Reference9Ideal.Read.val_main_v14 Cert.Reference9Ideal.Read.val_main_v13 Cert.Reference9Ideal.Read.val_main_v12 Cert.Reference9Ideal.Read.val_main_v11 Cert.Reference9Ideal.Read.val_main_v10 Cert.Reference9Ideal.Read.val_main_v9 Cert.Reference9Ideal.Read.val_main_v8 Cert.Reference9Ideal.Read.val_main_v7 Cert.Reference9Ideal.Read.val_main_v6 Cert.Reference9Ideal.Read.val_main_v5 Cert.Reference9Ideal.Read.val_main_v4 Cert.Reference9Ideal.Read.val_main_v3 Cert.Reference9Ideal.Read.val_main_v2 Cert.Reference9Ideal.Read.val_main_v1 Cert.Reference9Ideal.Read.val_main_v0 Cert.Reference9Ideal.Read.val_main_cst
  pointwise
  by_cases h : j.val < 8
  · simp only [h, ↓reduceDIte]
    rfl
  · simp only [h, ↓reduceDIte]
    by_cases h' : j.val - 8 < 64
    · simp only [h', ↓reduceDIte]
      rfl
    · simp only [h', ↓reduceDIte, mul_zero, Finset.sum_const_zero, add_zero]

end Cert.Kernel9Ideal.Router
-- ==== Proof.Choose.lean ====
/- The choice of a group and of two of its experts for each position, from the router's logits, and the run of the reference that makes it. -/
module

public import proofs.«01_k».proof.Proof.Gen.Reference11Ideal
public import Idealize.ShloMosaic.Lib.StableHlo.Run
@[expose] public section
set_option maxRecDepth 8192
noncomputable section
namespace Cert.Reference11Ideal.Choose
open Cert.Reference11Ideal Cert.Reference11Ideal.Gen Idealize.ShloMosaic Idealize.ShloMosaic.TcCoe Idealize.SL.Sem Idealize.ShloMosaic.StableHlo

variable {F : FTy → Type} [FloatOps F]

/-! ## The choice -/

/-- A number to each position as a column. -/
abbrev col {α : Type} (x : S16384.Idx → α) : S16384x1.Idx → α := broadcastInDim S16384x1 ![0] bcast_S16384_S16384x1_0 x
/-- A column, eight times over. -/
abbrev wide8 {α : Type} (x : S16384x1.Idx → α) : S16384x8.Idx → α := broadcastInDim S16384x8 ![0, 1] bcast_S16384x1_S16384x8_0_1 x
/-- A column, twice over. -/
abbrev wide2 {α : Type} (x : S16384x1.Idx → α) : S16384x2.Idx → α := broadcastInDim S16384x2 ![0, 1] bcast_S16384x1_S16384x2_0_1 x
/-- Minus infinity to each position. -/
abbrev low : Vec F S16384 .f32 := broadcastInDim S16384 ![] bcast_S_S16384 (constant S_ .f32 0xFF800000#32)

/-- The exponentials of a row of eight, the greatest entry taken off. -/
def exps8 (x : Vec F S16384x8 .f32) : Vec F S16384x8 .f32 :=
  Host.exp (subf x (wide8 (col (maximumf low (Host.reduce FloatOps.maximumf x (constant S_ .f32 0xFF800000#32) reducesTo_S16384x8_S16384_d1 h_S_)))))
/-- The softmax of a row of eight. -/
def soft8 (x : Vec F S16384x8 .f32) : Vec F S16384x8 .f32 :=
  Host.divf (exps8 x) (wide8 (col (Host.reduceAdd (exps8 x) (constant S_ .f32 0x00000000#32) reducesTo_S16384x8_S16384_d1 h_S_)))
/-- The exponentials of a pair, the greater taken off. -/
def exps2 (x : Vec F S16384x2 .f32) : Vec F S16384x2 .f32 :=
  Host.exp (subf x (wide2 (col (maximumf low (Host.reduce FloatOps.maximumf x (constant S_ .f32 0xFF800000#32) reducesTo_S16384x2_S16384_d1 h_S_)))))
/-- The softmax of a pair. -/
def soft2 (x : Vec F S16384x2 .f32) : Vec F S16384x2 .f32 :=
  Host.divf (exps2 x) (wide2 (col (Host.reduceAdd (exps2 x) (constant S_ .f32 0x00000000#32) reducesTo_S16384x2_S16384_d1 h_S_)))

/-- The group of each position: the place of the greatest of its eight logits. -/
def group (gl : Vec F S16384x8 .f32) : Vec F S16384 .i32 := fun j =>
  (Host.argReduce reducer_argmax_f32_i32 gl (iotaInDim S16384x8 32 1) (constant S_ .f32 0xFF800000#32) (constantI S_ 32 0#32) reducesTo_S16384x8_S16384_d1 h_S_ j).2

/-- Places within eight, those below zero counted from the end. -/
def place1 (i : Vec F S16384x1 .i32) : Vec F S16384x1x1 .i32 :=
  shapeCast S16384x1x1 (select (cmpi .slt i (broadcastInDim S16384x1 ![] bcast_S_S16384x1 (constantI S_ 32 0#32)))
    (addi i (broadcastInDim S16384x1 ![] bcast_S_S16384x1 (constantI S_ 32 8#32))) i) shapeCasts_S16384x1_S16384x1x1
/-- The same of places in a row of rows. -/
def place2 (i : Vec F S16384x1x1 .i32) : Vec F S16384x1x1 .i32 :=
  select (cmpi .slt i (broadcastInDim S16384x1x1 ![] bcast_S_S16384x1x1 (constantI S_ 32 0#32)))
    (addi i (broadcastInDim S16384x1x1 ![] bcast_S_S16384x1x1 (constantI S_ 32 8#32))) i
/-- Whether the places lie within eight. -/
def within (i : Vec F S16384x1x1 .i32) : Vec F S16384x1 .i1 :=
  Host.reduce IntOp.andi (andi (cmpi .sge i (broadcastInDim S16384x1x1 ![] bcast_S_S16384x1x1 (constantI S_ 32 0#32)))
    (cmpi .sle i (broadcastInDim S16384x1x1 ![0, 1, 2] bcast_S1x1x1_S16384x1x1_0_1_2 (broadcastInDim S1x1x1 ![2] bcast_S1_S1x1x1_2 (constantI S1 32 7#32)))))
    (constantI S_ 1 1#1) reducesTo_S16384x1x1_S16384x1_d2 h_S_
/-- The entry at its place, of each row. -/
def take1 (p : Vec F S16384x8 .f32) (i : Vec F S16384x1 .i32) : Vec F S16384x1 .f32 :=
  select (within (place1 i)) (Host.gather gather_S16384x8_S16384x1x1_S16384x1_n_1_0_0_1_2_11 p (place1 i))
    (broadcastInDim S16384x1 ![] bcast_S_S16384x1 (constant S_ .f32 0x7FC00000#32))
/-- The row at its place, of each position's rows. -/
def take2 (p : Vec F S16384x8x8 .f32) (i : Vec F S16384x1x1 .i32) : Vec F S16384x1x8 .f32 :=
  select (broadcastInDim S16384x1x8 ![0, 1] bcast_S16384x1_S16384x1x8_0_1 (within (place2 i)))
    (Host.gather gather_S16384x8x8_S16384x1x1_S16384x1x8_2_1_0_0_1_2_118 p (place2 i))
    (broadcastInDim S16384x1x8 ![] bcast_S_S16384x1x8 (constant S_ .f32 0x7FC00000#32))

/-- The logits of the experts of the chosen group. -/
def inGroup (gl : Vec F S16384x8 .f32) (el : Vec F S16384x8x8 .f32) : Vec F S16384x8 .f32 :=
  shapeCast S16384x8 (take2 el (broadcastInDim S16384x1x1 ![0] bcast_S16384_S16384x1x1_0 (group gl))) shapeCasts_S16384x1x8_S16384x8
/-- The two greatest of them, and their places. -/
def best (gl : Vec F S16384x8 .f32) (el : Vec F S16384x8x8 .f32) : Vec F S16384x2 .f32 × Vec F S16384x2 .i32 :=
  Host.topK S16384x2 1 (FloatOps.cmpfTotal .gt) (inGroup gl el) sliceFits_S16384x8_S16384x2

/-- The two experts of each position. -/
def expert (gl : Vec F S16384x8 .f32) (el : Vec F S16384x8x8 .f32) : Vec F S16384x2 .i32 :=
  addi (wide2 (muli (col (group gl)) (broadcastInDim S16384x1 ![] bcast_S_S16384x1 (constantI S_ 32 8#32)))) (best gl el).2
/-- Their weights: the group's times the experts' within it. -/
def weight (gl : Vec F S16384x8 .f32) (el : Vec F S16384x8x8 .f32) : Vec F S16384x2 .f32 :=
  mulf (wide2 (col (shapeCast S16384 (take1 (soft8 gl) (col (group gl))) shapeCasts_S16384x1_S16384))) (soft2 (best gl el).1)

/-! ## The reference's run -/

/-- The lines that find each row's greatest entry's place. -/
abbrev ops_argmax (arg0 : TRef sig ⟨S16384x8, .f32⟩) (φ : fn_argmax.Bufs) : List (HloOp τ sig (Elt F)) :=
  [ TRef.nullary φ.v0 (iotaInDim S16384x8 32 1),
    TRef.nullary φ.cst (constant S_ .f32 0xFF800000#32),
    TRef.nullary φ.c (constantI S_ 32 0#32),
    TRef.quaternary arg0 φ.v0 φ.cst φ.c φ.v1_0 (fun x y u v j => (Host.argReduce reducer_argmax_f32_i32 x y u v reducesTo_S16384x8_S16384_d1 h_S_ j).1),
    TRef.quaternary arg0 φ.v0 φ.cst φ.c φ.v1_1 (fun x y u v j => (Host.argReduce reducer_argmax_f32_i32 x y u v reducesTo_S16384x8_S16384_d1 h_S_ j).2) ]
/-- The lines that take one entry of each row. -/
abbrev ops_take_along_axis (arg0 : TRef sig ⟨S16384x8, .f32⟩) (arg1 : TRef sig ⟨S16384x1, .i32⟩) (φ : fn_take_along_axis.Bufs) : List (HloOp τ sig (Elt F)) :=
  [ TRef.nullary φ.c (constantI S_ 32 0#32),
    TRef.unary φ.c φ.v0 (broadcastInDim S16384x1 ![] bcast_S_S16384x1),
    TRef.binary arg1 φ.v0 φ.v1 (cmpi .slt),
    TRef.nullary φ.c_0 (constantI S_ 32 8#32),
    TRef.unary φ.c_0 φ.v2 (broadcastInDim S16384x1 ![] bcast_S_S16384x1),
    TRef.binary arg1 φ.v2 φ.v3 addi,
    TRef.ternary φ.v1 φ.v3 arg1 φ.v4 select,
    TRef.reshape φ.v4 φ.v5 (rfl : (.i32 : EltTy) = .i32) shapeCasts_S16384x1_S16384x1x1,
    TRef.nullary φ.c_1 (constantI S1 32 7#32),
    TRef.nullary φ.c_2 (constantI S_ 32 0#32),
    TRef.unary φ.c_2 φ.v6 (broadcastInDim S16384x1x1 ![] bcast_S_S16384x1x1),
    TRef.binary φ.v5 φ.v6 φ.v7 (cmpi .sge),
    TRef.unary φ.c_1 φ.v8 (broadcastInDim S1x1x1 ![2] bcast_S1_S1x1x1_2),
    TRef.unary φ.v8 φ.v9 (broadcastInDim S16384x1x1 ![0, 1, 2] bcast_S1x1x1_S16384x1x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1x1_S16384x1_d2 h_S_),
    TRef.binary arg0 φ.v5 φ.v13 (fun x i => Host.gather gather_S16384x8_S16384x1x1_S16384x1_n_1_0_0_1_2_11 x i),
    TRef.nullary φ.cst (constant S_ .f32 0x7FC00000#32),
    TRef.unary φ.cst φ.v14 (broadcastInDim S16384x1 ![] bcast_S_S16384x1),
    TRef.ternary φ.v12 φ.v13 φ.v14 φ.v15 select ]
/-- The lines that take one row of each position's. -/
abbrev ops_take_along_axis_0 (arg0 : TRef sig ⟨S16384x8x8, .f32⟩) (arg1 : TRef sig ⟨S16384x1x1, .i32⟩) (φ : fn_take_along_axis_0.Bufs) : List (HloOp τ sig (Elt F)) :=
  [ TRef.nullary φ.c (constantI S_ 32 0#32),
    TRef.unary φ.c φ.v0 (broadcastInDim S16384x1x1 ![] bcast_S_S16384x1x1),
    TRef.binary arg1 φ.v0 φ.v1 (cmpi .slt),
    TRef.nullary φ.c_0 (constantI S_ 32 8#32),
    TRef.unary φ.c_0 φ.v2 (broadcastInDim S16384x1x1 ![] bcast_S_S16384x1x1),
    TRef.binary arg1 φ.v2 φ.v3 addi,
    TRef.ternary φ.v1 φ.v3 arg1 φ.v4 select,
    TRef.nullary φ.c_1 (constantI S1 32 7#32),
    TRef.nullary φ.c_2 (constantI S_ 32 0#32),
    TRef.unary φ.c_2 φ.v5 (broadcastInDim S16384x1x1 ![] bcast_S_S16384x1x1),
    TRef.binary φ.v4 φ.v5 φ.v6 (cmpi .sge),
    TRef.unary φ.c_1 φ.v7 (broadcastInDim S1x1x1 ![2] bcast_S1_S1x1x1_2),
    TRef.unary φ.v7 φ.v8 (broadcastInDim S16384x1x1 ![0, 1, 2] bcast_S1x1x1_S16384x1x1_0_1_2),
    TRef.binary φ.v4 φ.v8 φ.v9 (cmpi .sle),
    TRef.binary φ.v6 φ.v9 φ.v10 andi,
    TRef.nullary φ.c_3 (constantI S_ 1 1#1),
    TRef.binary φ.v10 φ.c_3 φ.v11 (fun x v => Host.reduce IntOp.andi x v reducesTo_S16384x1x1_S16384x1_d2 h_S_),
    TRef.binary arg0 φ.v4 φ.v12 (fun x i => Host.gather gather_S16384x8x8_S16384x1x1_S16384x1x8_2_1_0_0_1_2_118 x i),
    TRef.unary φ.v11 φ.v13 (broadcastInDim S16384x1x8 ![0, 1] bcast_S16384x1_S16384x1x8_0_1),
    TRef.nullary φ.cst (constant S_ .f32 0x7FC00000#32),
    TRef.unary φ.cst φ.v14 (broadcastInDim S16384x1x8 ![] bcast_S_S16384x1x8),
    TRef.ternary φ.v13 φ.v12 φ.v14 φ.v15 select ]
/-- The two products, and the groups' softmax. -/
abbrev ops0 : List (HloOp τ sig (Elt F)) :=
  [ reshape main_arg0 main_v0 (rfl : (.f32 : EltTy) = .f32) shapeCasts_S262144x128_S16384x2048,
    reshape main_arg1 main_v1 (rfl : (.f32 : EltTy) = .f32) shapeCasts_S1x2048x8_S2048x8,
    binary main_v0 main_v1 main_v2 ((fun l r => Host.dotGeneral dot_S16384x2048_S2048x8_S16384x8_1_0_0_1_n_n none l r) : (⟨S16384x2048, .f32⟩ : BufTy).Contents (Elt F) → (⟨S2048x8, .f32⟩ : BufTy).Contents (Elt F) → (⟨S16384x8, .f32⟩ : BufTy).Contents (Elt F)),
    reshape main_arg2 main_v3 (rfl : (.f32 : EltTy) = .f32) shapeCasts_S1x8_S8,
    unary main_v3 main_v4 (broadcastInDim S1x8 ![1] bcast_S8_S1x8_1 : (⟨S8, .f32⟩ : BufTy).Contents (Elt F) → (⟨S1x8, .f32⟩ : BufTy).Contents (Elt F)),
    unary main_v4 main_v5 (broadcastInDim S16384x8 ![0, 1] bcast_S1x8_S16384x8_0_1 : (⟨S1x8, .f32⟩ : BufTy).Contents (Elt F) → (⟨S16384x8, .f32⟩ : BufTy).Contents (Elt F)),
    binary main_v2 main_v5 main_v6 (addf : (⟨S16384x8, .f32⟩ : BufTy).Contents (Elt F) → (⟨S16384x8, .f32⟩ : BufTy).Contents (Elt F) → (⟨S16384x8, .f32⟩ : BufTy).Contents (Elt F)),
    nullary main_cst (constant S_ .f32 0xFF800000#32),
    binary main_v6 main_cst main_v7 ((fun x v => Host.reduce FloatOps.maximumf x v reducesTo_S16384x8_S16384_d1 h_S_) : (⟨S16384x8, .f32⟩ : BufTy).Contents (Elt F) → (⟨S_, .f32⟩ : BufTy).Contents (Elt F) → (⟨S16384, .f32⟩ : BufTy).Contents (Elt F)),
    nullary main_cst_0 (constant S_ .f32 0xFF800000#32),
    unary main_cst_0 main_v8 (broadcastInDim S16384 ![] bcast_S_S16384 : (⟨S_, .f32⟩ : BufTy).Contents (Elt F) → (⟨S16384, .f32⟩ : BufTy).Contents (Elt F)),
    binary main_v8 main_v7 main_v9 (maximumf : (⟨S16384, .f32⟩ : BufTy).Contents (Elt F) → (⟨S16384, .f32⟩ : BufTy).Contents (Elt F) → (⟨S16384, .f32⟩ : BufTy).Contents (Elt F)),
    unary main_v9 main_v10 (broadcastInDim S16384x1 ![0] bcast_S16384_S16384x1_0 : (⟨S16384, .f32⟩ : BufTy).Contents (Elt F) → (⟨S16384x1, .f32⟩ : BufTy).Contents (Elt F)),
    unary main_v10 main_v11 (broadcastInDim S16384x8 ![0, 1] bcast_S16384x1_S16384x8_0_1 : (⟨S16384x1, .f32⟩ : BufTy).Contents (Elt F) → (⟨S16384x8, .f32⟩ : BufTy).Contents (Elt F)),
    binary main_v6 main_v11 main_v12 (subf : (⟨S16384x8, .f32⟩ : BufTy).Contents (Elt F) → (⟨S16384x8, .f32⟩ : BufTy).Contents (Elt F) → (⟨S16384x8, .f32⟩ : BufTy).Contents (Elt F)),
    unary main_v12 main_v13 (Host.exp : (⟨S16384x8, .f32⟩ : BufTy).Contents (Elt F) → (⟨S16384x8, .f32⟩ : BufTy).Contents (Elt F)),
    nullary main_cst_1 (constant S_ .f32 0x00000000#32),
    binary main_v13 main_cst_1 main_v14 ((fun x v => Host.reduceAdd x v reducesTo_S16384x8_S16384_d1 h_S_) : (⟨S16384x8, .f32⟩ : BufTy).Contents (Elt F) → (⟨S_, .f32⟩ : BufTy).Contents (Elt F) → (⟨S16384, .f32⟩ : BufTy).Contents (Elt F)),
    unary main_v14 main_v15 (broadcastInDim S16384x1 ![0] bcast_S16384_S16384x1_0 : (⟨S16384, .f32⟩ : BufTy).Contents (Elt F) → (⟨S16384x1, .f32⟩ : BufTy).Contents (Elt F)),
    unary main_v15 main_v16 (broadcastInDim S16384x8 ![0, 1] bcast_S16384x1_S16384x8_0_1 : (⟨S16384x1, .f32⟩ : BufTy).Contents (Elt F) → (⟨S16384x8, .f32⟩ : BufTy).Contents (Elt F)),
    binary main_v13 main_v16 main_v17 (Host.divf : (⟨S16384x8, .f32⟩ : BufTy).Contents (Elt F) → (⟨S16384x8, .f32⟩ : BufTy).Contents (Elt F) → (⟨S16384x8, .f32⟩ : BufTy).Contents (Elt F)) ]
/-- The groups' places as a column. -/
abbrev ops1 : List (HloOp τ sig (Elt F)) :=
  [ unary main_v18 main_v19 (broadcastInDim S16384x1 ![0] bcast_S16384_S16384x1_0 : (⟨S16384, .i32⟩ : BufTy).Contents (Elt F) → (⟨S16384x1, .i32⟩ : BufTy).Contents (Elt F)) ]
/-- The weight as a vector, the experts' logits. -/
abbrev ops2 : List (HloOp τ sig (Elt F)) :=
  [ reshape main_v20 main_v21 (rfl : (.f32 : EltTy) = .f32) shapeCasts_S16384x1_S16384,
    reshape main_arg3 main_v22 (rfl : (.f32 : EltTy) = .f32) shapeCasts_S1x2048x64_S2048x64,
    binary main_v0 main_v22 main_v23 ((fun l r => Host.dotGeneral dot_S16384x2048_S2048x64_S16384x64_1_0_0_1_n_n none l r) : (⟨S16384x2048, .f32⟩ : BufTy).Contents (Elt F) → (⟨S2048x64, .f32⟩ : BufTy).Contents (Elt F) → (⟨S16384x64, .f32⟩ : BufTy).Contents (Elt F)),
    reshape main_arg4 main_v24 (rfl : (.f32 : EltTy) = .f32) shapeCasts_S1x64_S64,
    unary main_v24 main_v25 (broadcastInDim S1x64 ![1] bcast_S64_S1x64_1 : (⟨S64, .f32⟩ : BufTy).Contents (Elt F) → (⟨S1x64, .f32⟩ : BufTy).Contents (Elt F)),
    unary main_v25 main_v26 (broadcastInDim S16384x64 ![0, 1] bcast_S1x64_S16384x64_0_1 : (⟨S1x64, .f32⟩ : BufTy).Contents (Elt F) → (⟨S16384x64, .f32⟩ : BufTy).Contents (Elt F)),
    binary main_v23 main_v26 main_v27 (addf : (⟨S16384x64, .f32⟩ : BufTy).Contents (Elt F) → (⟨S16384x64, .f32⟩ : BufTy).Contents (Elt F) → (⟨S16384x64, .f32⟩ : BufTy).Contents (Elt F)),
    reshape main_v27 main_v28 (rfl : (.f32 : EltTy) = .f32) shapeCasts_S16384x64_S16384x8x8,
    unary main_v18 main_v29 (broadcastInDim S16384x1x1 ![0] bcast_S16384_S16384x1x1_0 : (⟨S16384, .i32⟩ : BufTy).Contents (Elt F) → (⟨S16384x1x1, .i32⟩ : BufTy).Contents (Elt F)) ]
/-- The two greatest, their softmax, the results. -/
abbrev ops3 : List (HloOp τ sig (Elt F)) :=
  [ reshape main_v30 main_v31 (rfl : (.f32 : EltTy) = .f32) shapeCasts_S16384x1x8_S16384x8,
    unary main_v31 main_values ((fun x => (Host.topK S16384x2 1 (FloatOps.cmpfTotal .gt) x sliceFits_S16384x8_S16384x2).1) : (⟨S16384x8, .f32⟩ : BufTy).Contents (Elt F) → (⟨S16384x2, .f32⟩ : BufTy).Contents (Elt F)),
    unary main_v31 main_indices ((fun x => (Host.topK S16384x2 1 (FloatOps.cmpfTotal .gt) x sliceFits_S16384x8_S16384x2).2) : (⟨S16384x8, .f32⟩ : BufTy).Contents (Elt F) → (⟨S16384x2, .i32⟩ : BufTy).Contents (Elt F)),
    nullary main_cst_2 (constant S_ .f32 0xFF800000#32),
    binary main_values main_cst_2 main_v32 ((fun x v => Host.reduce FloatOps.maximumf x v reducesTo_S16384x2_S16384_d1 h_S_) : (⟨S16384x2, .f32⟩ : BufTy).Contents (Elt F) → (⟨S_, .f32⟩ : BufTy).Contents (Elt F) → (⟨S16384, .f32⟩ : BufTy).Contents (Elt F)),
    nullary main_cst_3 (constant S_ .f32 0xFF800000#32),
    unary main_cst_3 main_v33 (broadcastInDim S16384 ![] bcast_S_S16384 : (⟨S_, .f32⟩ : BufTy).Contents (Elt F) → (⟨S16384, .f32⟩ : BufTy).Contents (Elt F)),
    binary main_v33 main_v32 main_v34 (maximumf : (⟨S16384, .f32⟩ : BufTy).Contents (Elt F) → (⟨S16384, .f32⟩ : BufTy).Contents (Elt F) → (⟨S16384, .f32⟩ : BufTy).Contents (Elt F)),
    unary main_v34 main_v35 (broadcastInDim S16384x1 ![0] bcast_S16384_S16384x1_0 : (⟨S16384, .f32⟩ : BufTy).Contents (Elt F) → (⟨S16384x1, .f32⟩ : BufTy).Contents (Elt F)),
    unary main_v35 main_v36 (broadcastInDim S16384x2 ![0, 1] bcast_S16384x1_S16384x2_0_1 : (⟨S16384x1, .f32⟩ : BufTy).Contents (Elt F) → (⟨S16384x2, .f32⟩ : BufTy).Contents (Elt F)),
    binary main_values main_v36 main_v37 (subf : (⟨S16384x2, .f32⟩ : BufTy).Contents (Elt F) → (⟨S16384x2, .f32⟩ : BufTy).Contents (Elt F) → (⟨S16384x2, .f32⟩ : BufTy).Contents (Elt F)),
    unary main_v37 main_v38 (Host.exp : (⟨S16384x2, .f32⟩ : BufTy).Contents (Elt F) → (⟨S16384x2, .f32⟩ : BufTy).Contents (Elt F)),
    nullary main_cst_4 (constant S_ .f32 0x00000000#32),
    binary main_v38 main_cst_4 main_v39 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_v39 main_v40 (broadcastInDim S16384x1 ![0] bcast_S16384_S16384x1_0 : (⟨S16384, .f32⟩ : BufTy).Contents (Elt F) → (⟨S16384x1, .f32⟩ : BufTy).Contents (Elt F)),
    unary main_v40 main_v41 (broadcastInDim S16384x2 ![0, 1] bcast_S16384x1_S16384x2_0_1 : (⟨S16384x1, .f32⟩ : BufTy).Contents (Elt F) → (⟨S16384x2, .f32⟩ : BufTy).Contents (Elt F)),
    binary main_v38 main_v41 main_v42 (Host.divf : (⟨S16384x2, .f32⟩ : BufTy).Contents (Elt F) → (⟨S16384x2, .f32⟩ : BufTy).Contents (Elt F) → (⟨S16384x2, .f32⟩ : BufTy).Contents (Elt F)),
    unary main_v18 main_v43 (broadcastInDim S16384x1 ![0] bcast_S16384_S16384x1_0 : (⟨S16384, .i32⟩ : BufTy).Contents (Elt F) → (⟨S16384x1, .i32⟩ : BufTy).Contents (Elt F)),
    nullary main_c (constantI S_ 32 8#32),
    unary main_c main_v44 (broadcastInDim S16384x1 ![] bcast_S_S16384x1 : (⟨S_, .i32⟩ : BufTy).Contents (Elt F) → (⟨S16384x1, .i32⟩ : BufTy).Contents (Elt F)),
    binary main_v43 main_v44 main_v45 (muli : (⟨S16384x1, .i32⟩ : BufTy).Contents (Elt F) → (⟨S16384x1, .i32⟩ : BufTy).Contents (Elt F) → (⟨S16384x1, .i32⟩ : BufTy).Contents (Elt F)),
    unary main_v45 main_v46 (broadcastInDim S16384x2 ![0, 1] bcast_S16384x1_S16384x2_0_1 : (⟨S16384x1, .i32⟩ : BufTy).Contents (Elt F) → (⟨S16384x2, .i32⟩ : BufTy).Contents (Elt F)),
    binary main_v46 main_indices main_v47 (addi : (⟨S16384x2, .i32⟩ : BufTy).Contents (Elt F) → (⟨S16384x2, .i32⟩ : BufTy).Contents (Elt F) → (⟨S16384x2, .i32⟩ : BufTy).Contents (Elt F)),
    unary main_v21 main_v48 (broadcastInDim S16384x1 ![0] bcast_S16384_S16384x1_0 : (⟨S16384, .f32⟩ : BufTy).Contents (Elt F) → (⟨S16384x1, .f32⟩ : BufTy).Contents (Elt F)),
    unary main_v48 main_v49 (broadcastInDim S16384x2 ![0, 1] bcast_S16384x1_S16384x2_0_1 : (⟨S16384x1, .f32⟩ : BufTy).Contents (Elt F) → (⟨S16384x2, .f32⟩ : BufTy).Contents (Elt F)),
    binary main_v49 main_v42 main_v50 (mulf : (⟨S16384x2, .f32⟩ : BufTy).Contents (Elt F) → (⟨S16384x2, .f32⟩ : BufTy).Contents (Elt F) → (⟨S16384x2, .f32⟩ : BufTy).Contents (Elt F)) ]
/-- The reference's lines, in order. -/
abbrev ops : List (HloOp τ sig (Elt F)) :=
  ops0 ++ (ops_argmax (.of main_v6) main_call0 ++ (ops1 ++ (ops_take_along_axis (.of main_v17) (.of main_v19) main_call1 ++ (ops2 ++ (ops_take_along_axis_0 (.of main_v28) (.of main_v29) main_call2 ++ (ops3))))))

set_option maxHeartbeats 4000000 in
/-- The reference is these lines. -/
theorem main_eq (c : Dev nD) : main (F := F) c = seq ops := rfl
/-- Nothing of the reference lives in a scope. -/
theorem scopedRefs_eq : (Finset.univ.filter fun b : Ref sig .tc => b.isScoped) = ∅ := by decide
/-- Nor any counter. -/
theorem scopedSems_eq : (Finset.univ.filter fun sm : SemLoc sig => sm.isScoped .tc) = ∅ := by decide
/-- Each line reads and writes what the core holds. -/
theorem ops_sub : (ops : List (HloOp τ sig (Elt F))).Forall fun op => op.bufs ⊆ tcRefs τ sig := by
  simp only [List.forall_append, List.Forall, nullary_bufs_sub, unary_bufs_sub, binary_bufs_sub, ternary_bufs_sub, quaternary_bufs_sub, reshape_bufs_sub, and_self]

/-- The groups' logits. -/
def gl (x : Vec F S262144x128 .f32) (wg : Vec F S1x2048x8 .f32) (bg : Vec F S1x8 .f32) : Vec F S16384x8 .f32 :=
  addf (Host.dotGeneral dot_S16384x2048_S2048x8_S16384x8_1_0_0_1_n_n none (shapeCast S16384x2048 x shapeCasts_S262144x128_S16384x2048) (shapeCast S2048x8 wg shapeCasts_S1x2048x8_S2048x8))
    (broadcastInDim S16384x8 ![0, 1] bcast_S1x8_S16384x8_0_1 (broadcastInDim S1x8 ![1] bcast_S8_S1x8_1 (shapeCast S8 bg shapeCasts_S1x8_S8)))
/-- The experts' logits. -/
def flat (x : Vec F S262144x128 .f32) (we : Vec F S1x2048x64 .f32) (be : Vec F S1x64 .f32) : Vec F S16384x64 .f32 :=
  addf (Host.dotGeneral dot_S16384x2048_S2048x64_S16384x64_1_0_0_1_n_n none (shapeCast S16384x2048 x shapeCasts_S262144x128_S16384x2048) (shapeCast S2048x64 we shapeCasts_S1x2048x64_S2048x64))
    (broadcastInDim S16384x64 ![0, 1] bcast_S1x64_S16384x64_0_1 (broadcastInDim S1x64 ![1] bcast_S64_S1x64_1 (shapeCast S64 be shapeCasts_S1x64_S64)))
/-- The experts' logits, by their groups. -/
def el (x : Vec F S262144x128 .f32) (we : Vec F S1x2048x64 .f32) (be : Vec F S1x64 .f32) : Vec F S16384x8x8 .f32 :=
  shapeCast S16384x8x8 (flat x we be) shapeCasts_S16384x64_S16384x8x8

set_option maxHeartbeats 40000000 in
/-- The reference's first result. -/
theorem read_expert (V : Valuation τ sig (Elt F)) : after ops V (Proc.devRef .tc main_v47)
    = expert (gl (V (Proc.devRef .tc main_arg0)) (V (Proc.devRef .tc main_arg1)) (V (Proc.devRef .tc main_arg2)))
        (el (V (Proc.devRef .tc main_arg0)) (V (Proc.devRef .tc main_arg3)) (V (Proc.devRef .tc main_arg4))) := by
  simp only [ops, ops0, ops1, ops2, ops3, ops_argmax, ops_take_along_axis, ops_take_along_axis_0, List.cons_append, List.nil_append,
    TRef.binary, TRef.nullary, TRef.ternary, TRef.quaternary, TRef.reshape, TRef.unary, TRef.toBuf, TRef.ofBuf, cast_eq]
  after_results_simp
  rfl

set_option maxHeartbeats 40000000 in
/-- The reference's second result. -/
theorem read_weight (V : Valuation τ sig (Elt F)) : after ops V (Proc.devRef .tc main_v50)
    = weight (gl (V (Proc.devRef .tc main_arg0)) (V (Proc.devRef .tc main_arg1)) (V (Proc.devRef .tc main_arg2)))
        (el (V (Proc.devRef .tc main_arg0)) (V (Proc.devRef .tc main_arg3)) (V (Proc.devRef .tc main_arg4))) := by
  simp only [ops, ops0, ops1, ops2, ops3, ops_argmax, ops_take_along_axis, ops_take_along_axis_0, List.cons_append, List.nil_append,
    TRef.binary, TRef.nullary, TRef.ternary, TRef.quaternary, TRef.reshape, TRef.unary, TRef.toBuf, TRef.ofBuf, cast_eq]
  after_results_simp
  rfl

/-- What the reference's lines write. -/
abbrev written : List (Ref sig .tc) := [main_v0, main_v1, main_v2, main_v3, main_v4, main_v5, main_v6, main_cst, main_v7, main_cst_0, main_v8, main_v9, main_v10, main_v11, main_v12, main_v13, main_cst_1, main_v14, main_v15, main_v16, main_v17, main_call0_v0, main_call0_cst, main_call0_c, main_call0_v1_0, main_v18, main_v19, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v20, main_v21, main_v22, main_v23, main_v24, main_v25, main_v26, main_v27, main_v28, main_v29, main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v30, main_v31, main_values, main_indices, main_cst_2, main_v32, main_cst_3, main_v33, main_v34, main_v35, main_v36, main_v37, main_v38, main_cst_4, main_v39, main_v40, main_v41, main_v42, main_v43, main_c, main_v44, main_v45, main_v46, main_v47, main_v48, main_v49, main_v50]
/-- They write nothing else. -/
theorem ops_writes : (ops : List (HloOp τ sig (Elt F))).Forall fun op => op.writes ⊆ (written.map (Proc.devRef (τ := τ) .tc)).toFinset :=
  forall_writes_sub_of_map rfl

/-- The reference's run: it ends with the two experts and their weights, its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = expert (gl (m ((c.tc : Thread nD τ).loc main_arg0)) (m ((c.tc : Thread nD τ).loc main_arg1)) (m ((c.tc : Thread nD τ).loc main_arg2)))
        (el (m ((c.tc : Thread nD τ).loc main_arg0)) (m ((c.tc : Thread nD τ).loc main_arg3)) (m ((c.tc : Thread nD τ).loc main_arg4)))
      ∧ r.2.mem ((c.tc : Thread nD τ).loc main_v50) = weight (gl (m ((c.tc : Thread nD τ).loc main_arg0)) (m ((c.tc : Thread nD τ).loc main_arg1)) (m ((c.tc : Thread nD τ).loc main_arg2)))
        (el (m ((c.tc : Thread nD τ).loc main_arg0)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v47).trans (read_expert _), (h c main_v50).trans (read_weight _),
      (h c main_arg0).trans (after_of_writes_sub (r := main_arg0) ops _ ops_writes (by decide +kernel)),
      (h c main_arg1).trans (after_of_writes_sub (r := main_arg1) ops _ ops_writes (by decide +kernel)),
      (h c main_arg2).trans (after_of_writes_sub (r := main_arg2) ops _ ops_writes (by decide +kernel)),
      (h c main_arg3).trans (after_of_writes_sub (r := main_arg3) ops _ ops_writes (by decide +kernel)),
      (h c main_arg4).trans (after_of_writes_sub (r := main_arg4) ops _ ops_writes (by decide +kernel))⟩)
    (run_seq scopedRefs_eq scopedSems_eq defs main (fun _ => ops) main_eq (fun _ => ops_sub) m ρ)

end Cert.Reference11Ideal.Choose
-- ==== Proof.Choice.lean ====
/- The router's call with the lines after it: the logits' first columns are the groups' and the next the experts', so the lines after the call, which are
the reference's, choose the same experts with the same weights. -/
module

public import proofs.«01_k».proof.Proof.Gen.Kernel11Ideal.Frame
public import proofs.«01_k».proof.Proof.Choose
public import proofs.«01_k».proof.Proof.Router
@[expose] public section
set_option maxRecDepth 16384
noncomputable section
namespace Cert.Kernel11Ideal.Choice
open Cert.Kernel11Ideal Cert.Kernel11Ideal.Gen Idealize.ShloMosaic Idealize.ShloMosaic.TcCoe Idealize.SL.Sem Idealize.ShloMosaic.StableHlo
open Cert.Kernel9Ideal.Router (weight bias rows block pos lane at_ G block_of)
open Cert.Reference11Ideal.Choose (gl flat el expert)
variable (m : (ℓ : Loc nD τ sig) → Buf (Elt Ideal) ℓ)

/-- The normed rows, sixteen rows of lanes to a row. -/
abbrev x (c : Dev nD) : Vec Ideal S262144x128 .f32 := m ((c : Thread nD τ).loc main_arg0)
/-- The groups' weights. -/
abbrev wg (c : Dev nD) : Vec Ideal S1x2048x8 .f32 := m ((c : Thread nD τ).loc main_arg1)
/-- The groups' biases. -/
abbrev bg (c : Dev nD) : Vec Ideal S1x8 .f32 := m ((c : Thread nD τ).loc main_arg2)
/-- The experts' weights. -/
abbrev we (c : Dev nD) : Vec Ideal S1x2048x64 .f32 := m ((c : Thread nD τ).loc main_arg3)
/-- The experts' biases. -/
abbrev be (c : Dev nD) : Vec Ideal S1x64 .f32 := m ((c : Thread nD τ).loc main_arg4)

/-- The weights the call reads. -/
theorem V_w (c : Dev nD) (k : Fin 2048) (j : Fin 128) : (V m c main_v3 : Vec Ideal S2048x128 .f32) (ix2 k j) = weight (wg m c) (we m c) k j := by
  unfold V weight
  after_reads_at
  by_cases h : j.val < 8
  · rw [dif_pos h, dif_pos h]
    after_reads_at
  · rw [dif_neg h, dif_neg h]
    by_cases h' : j.val - 8 < 64
    · rw [dif_pos h', dif_pos h']
      after_reads_at
    · rw [dif_neg h', dif_neg h']
      after_reads_at
/-- The biases the call reads. -/
theorem V_b (c : Dev nD) (j : Fin 128) : (V m c main_v8 : Vec Ideal S1x128 .f32) (ix2 0 j) = bias (bg m c) (be m c) j := by
  unfold V bias
  after_reads_at
  by_cases h : j.val < 8
  · rw [dif_pos h, dif_pos h]
    after_reads_at
  · rw [dif_neg h, dif_neg h]
    by_cases h' : j.val - 8 < 64
    · rw [dif_pos h', dif_pos h']
      after_reads_at
    · rw [dif_neg h', dif_neg h']
      after_reads_at

/-- The block of rows each step reads. -/
theorem index_0 : ∀ t : Fin grid0.N, win0_0.index t 0 = t.val ∧ win0_0.index t 1 = 0 := by decide +kernel
/-- The weights are read whole. -/
theorem index_1 : ∀ t : Fin grid0.N, win0_1.index t 0 = 0 ∧ win0_1.index t 1 = 0 := by decide +kernel
/-- The biases are read whole. -/
theorem index_2 : ∀ t : Fin grid0.N, win0_2.index t 0 = 0 ∧ win0_2.index t 1 = 0 := by decide +kernel
/-- The block each step writes. -/
theorem index_3 : ∀ t : Fin grid0.N, win0_3.index t 0 = t.val ∧ win0_3.index t 1 = 0 := by decide +kernel

/-- What a step leaves in the output's buffer. -/
theorem outs (c : Dev nD) (t : Fin cfg0.N) : outsAt0 m c t = block (iblk m c 0 t) (iblk m c 1 t) (iblk m c 2 t) := by
  unfold outsAt0
  frame_out
  rw [Lanes.join (n := 512) (N := 8192) rfl (by decide)]
  rfl

/-- The normed rows a step reads. -/
theorem row_x (c : Dev nD) (t : Fin cfg0.N) (r : Fin 512) (k : Fin 2048) :
    rows (iblk m c 0 t) (ix2 r k) = x m c (ix2 (lane (pos t r) k) ⟨k.val % 128, Nat.mod_lt _ (by decide)⟩) := by
  refine Eq.trans ?_ (congrFun (V_main_arg0 m c) _)
  unfold rows Lanes.rows
  blk_ext [iblk, index_0 t, pos, lane]

/-- The weights a step reads. -/
theorem row_w (c : Dev nD) (t : Fin cfg0.N) (k : Fin 2048) (j : Fin 128) : iblk m c 1 t (ix2 k j) = weight (wg m c) (we m c) k j := by
  refine Eq.trans ?_ (V_w m c k j)
  blk_ext [iblk, index_1 t]

/-- The biases a step reads. -/
theorem row_b (c : Dev nD) (t : Fin cfg0.N) (j : Fin 128) : iblk m c 2 t (ix2 0 j) = bias (bg m c) (be m c) j := by
  refine Eq.trans ?_ (V_b m c j)
  blk_ext [iblk, index_2 t]

/-- After the call its result is the logits. -/
theorem final (c : Dev nD) : (dats m 0 c).arrAt 3 cfg0.N = G (x m c) (wg m c) (bg m c) (we m c) (be m c) := by
  refine (dats m 0 c).arrAt_eq_of_covers 3 _ (by decide +kernel) fun t hf y => ?_
  blk_simp
  rw [after0_3, outs]
  obtain ⟨r, j, rfl⟩ : ∃ r j, y = ix2 r j := ⟨y 0, y 1, by funext a; match a with | ⟨0, _⟩ => rfl | ⟨1, _⟩ => rfl⟩
  refine (block_of (x m c) (wg m c) (bg m c) (we m c) (be m c) _ _ _ t (row_x m c t) (row_w m c t) (row_b m c t) r j).trans ?_
  refine Eq.trans (b := G (x m c) (wg m c) (bg m c) (we m c) (be m c) (ix2 (pos t r) j)) rfl ?_
  blk_ext [index_3 t, pos]

/-- The logits' first columns are the groups'. -/
theorem cut_gl (x : Vec Ideal S262144x128 .f32) (wg : Vec Ideal S1x2048x8 .f32) (bg : Vec Ideal S1x8 .f32) (we : Vec Ideal S1x2048x64 .f32)
    (be : Vec Ideal S1x64 .f32) : extractStridedSlice S16384x8 ![0, 0] (G x wg bg we be) slices_S16384x128_S16384x8_0_0 = gl x wg bg := by
  funext i
  obtain ⟨R, j, rfl⟩ : ∃ R j, i = ix2 R j := ⟨i 0, i 1, by funext a; match a with | ⟨0, _⟩ => rfl | ⟨1, _⟩ => rfl⟩
  unfold G at_ weight bias gl
  pointwise
  rfl

/-- The next are the experts'. -/
theorem cut_el (x : Vec Ideal S262144x128 .f32) (wg : Vec Ideal S1x2048x8 .f32) (bg : Vec Ideal S1x8 .f32) (we : Vec Ideal S1x2048x64 .f32)
    (be : Vec Ideal S1x64 .f32) : extractStridedSlice S16384x64 ![0, 8] (G x wg bg we be) slices_S16384x128_S16384x64_0_8 = flat x we be := by
  funext i
  obtain ⟨R, j, rfl⟩ : ∃ R j, i = ix2 R j := ⟨i 0, i 1, by funext a; match a with | ⟨0, _⟩ => rfl | ⟨1, _⟩ => rfl⟩
  unfold G at_ weight bias flat
  pointwise
  rfl

/-- The lines after the call. -/
abbrev tail : List (List (HloOp τ sig (Elt Ideal))) := [hostOps1, hostOps1_1, hostOps1_2, hostOps1_3, hostOps1_4, hostOps1_5, hostOps1_6]

set_option maxHeartbeats 40000000 in
/-- The experts the lines after the call choose. -/
theorem read_expert (W : Valuation τ sig (Elt Ideal)) : after tail.flatten W (Proc.devRef .tc main_v46)
    = expert (extractStridedSlice S16384x8 ![0, 0] (W (Proc.devRef .tc main_v9)) slices_S16384x128_S16384x8_0_0)
        (shapeCast S16384x8x8 (extractStridedSlice S16384x64 ![0, 8] (W (Proc.devRef .tc main_v9)) slices_S16384x128_S16384x64_0_8) shapeCasts_S16384x64_S16384x8x8) := by
  simp only [tail, hostOps1, hostOps1_1, hostOps1_2, hostOps1_3, hostOps1_4, hostOps1_5, hostOps1_6, List.flatten_cons, List.flatten_nil, List.cons_append,
    List.nil_append, List.append_nil, TRef.binary, TRef.nullary, TRef.ternary, TRef.quaternary, TRef.reshape, TRef.unary, TRef.toBuf, TRef.ofBuf, cast_eq]
  after_results_simp
  rfl

set_option maxHeartbeats 40000000 in
/-- The weights the lines after the call give them. -/
theorem read_weight (W : Valuation τ sig (Elt Ideal)) : after tail.flatten W (Proc.devRef .tc main_v49)
    = Cert.Reference11Ideal.Choose.weight (extractStridedSlice S16384x8 ![0, 0] (W (Proc.devRef .tc main_v9)) slices_S16384x128_S16384x8_0_0)
        (shapeCast S16384x8x8 (extractStridedSlice S16384x64 ![0, 8] (W (Proc.devRef .tc main_v9)) slices_S16384x128_S16384x64_0_8) shapeCasts_S16384x64_S16384x8x8) := by
  simp only [tail, hostOps1, hostOps1_1, hostOps1_2, hostOps1_3, hostOps1_4, hostOps1_5, hostOps1_6, List.flatten_cons, List.flatten_nil, List.cons_append,
    List.nil_append, List.append_nil, TRef.binary, TRef.nullary, TRef.ternary, TRef.quaternary, TRef.reshape, TRef.unary, TRef.toBuf, TRef.ofBuf, cast_eq]
  after_results_simp
  rfl

/-- The lines after the call find the logits in its result. -/
theorem logits (c : Dev nD) : Pipeline.withArrays (cfgs 0).spec c (V0 m c) (fun w => (dats m 0 c).arrAt w (cfgs 0).N) (Proc.devRef .tc main_v9)
    = G (x m c) (wg m c) (bg m c) (we m c) (be m c) :=
  (Pipeline.withArrays_arr (cfgs 0).spec (by decide) c (V0 m c) (fun w => (dats m 0 c).arrAt w (cfgs 0).N) 3).trans (final m c)

/-- The first result after the run. -/
theorem end_expert (c : Dev nD) (r : PUnit × MemSt nD τ sig (Elt Ideal)) (h : Pipeline.FramePost cfgs (dats m) 0 (Pipeline.afterTail₀ cfgs (dats m) 0 (V0 m) tail) r) :
    r.2.mem ((c.tc : Thread nD τ).loc main_v46) = expert (gl (x m c) (wg m c) (bg m c)) (el (x m c) (we m c) (be m c)) := by
  refine ((h c).2 main_v46 (Pipeline.mem_restRefs_of main_v46 (by decide) (by decide))).trans ?_
  unfold Pipeline.afterTail₀
  rw [read_expert, logits, cut_gl, cut_el]
  rfl

/-- The second result after the run. -/
theorem end_weight (c : Dev nD) (r : PUnit × MemSt nD τ sig (Elt Ideal)) (h : Pipeline.FramePost cfgs (dats m) 0 (Pipeline.afterTail₀ cfgs (dats m) 0 (V0 m) tail) r) :
    r.2.mem ((c.tc : Thread nD τ).loc main_v49) = Cert.Reference11Ideal.Choose.weight (gl (x m c) (wg m c) (bg m c)) (el (x m c) (we m c) (be m c)) := by
  refine ((h c).2 main_v49 (Pipeline.mem_restRefs_of main_v49 (by decide) (by decide))).trans ?_
  unfold Pipeline.afterTail₀
  rw [read_weight, logits, cut_gl, cut_el]
  rfl

/-- The run: it ends with the two experts and their weights, its arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v46) = expert (gl (x m c) (wg m c) (bg m c)) (el (x m c) (we m c) (be m c))
      ∧ r.2.mem ((c.tc : Thread nD τ).loc main_v49) = Cert.Reference11Ideal.Choose.weight (gl (x m c) (wg m c) (bg m c)) (el (x m c) (we m c) (be m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨end_expert m c r h.1, end_weight m c r h.1, h.2 c⟩) (θ_run_and (run_main m ρ) (unchanged m ρ))

end Cert.Kernel11Ideal.Choice
-- ==== Proof.PostRun.lean ====
/- The run of the call that multiplies by the output weights, adds the residual and norms the rows: what it leaves in each block of its two results, and
   its frame. The second result is stored as sixteen rows of 128 lanes to a row, every sixteenth row at a time. -/
module

public import proofs.«01_k».proof.Proof.Gen.Kernel6Ideal.Frame
public import proofs.«01_k».proof.Proof.Lanes
public import Idealize.ShloMosaic.Lib.Claim
public import Idealize.ShloMosaic.Lib.Pipeline.ValueKit
@[expose] public section
set_option maxRecDepth 16384
noncomputable section
namespace Cert.Kernel6Ideal.Post
open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The whole of a block of 256 rows. -/
def whole : Rect S256x2048 := Rect.unit (s := S256x2048) ![0, 0] S256x2048.size inb_S256x2048_S256x2048_0_0
/-- The whole of the weights. -/
def wholeW : Rect S2048x2048 := Rect.unit (s := S2048x2048) ![0, 0] S2048x2048.size inb_S2048x2048_S2048x2048_0_0
/-- The whole of a row. -/
def wholeR : Rect S1x2048 := Rect.unit (s := S1x2048) ![0, 0] S1x2048.size inb_S1x2048_S1x2048_0_0

/-- The residual with the gated product added, from the blocks' rows, the weights and the gate. -/
def sumOf (x : Vec F S256x2048 .f32) (a : Vec F S256x2048 .bf16) (w : Vec F S2048x2048 .bf16) (g1 : Vec F S1x2048 .f32) : FVec F S256x2048 .f32 :=
  addf (shapeCast S256x2048 x shapeCasts_S256x2048_S256x2048)
    (mulf (broadcastTo S256x2048 (shapeCast S1x2048 g1 shapeCasts_S1x2048_S1x2048) broadcasts_S1x2048_S256x2048)
      (matmul dot_S256x2048_S2048x2048_S256x2048_1_0_0_1_n_n none (shapeCast S256x2048 a shapeCasts_S256x2048_S256x2048)
        (shapeCast S2048x2048 w shapeCasts_S2048x2048_S2048x2048) (constant S256x2048 .f32 0x00000000#32)))

/-- Rows normed, scaled and shifted. -/
def normOf (v : FVec F S256x2048 .f32) (gn sc sh : Vec F S1x2048 .f32) : FVec F S256x2048 .f32 :=
  addf (mulf (mulf (mulf v (broadcastTo S256x2048 (rsqrt (addf (divf
      (shapeCast S256x1 (multiReduction .add [1] S256 (mulf v v) 0x00000000#32 reduces_S256x2048_S256 (.inl rfl) rfl) shapeCasts_S256_S256x1)
      (broadcast S256x1 (Scalar.ofBits .f32 0x45000000#32))) (broadcast S256x1 (Scalar.ofBits .f32 0x358637BD#32)))) broadcasts_S256x1_S256x2048))
      (broadcastTo S256x2048 (shapeCast S1x2048 gn shapeCasts_S1x2048_S1x2048) broadcasts_S1x2048_S256x2048))
      (broadcastTo S256x2048 (addf (broadcast S1x2048 (Scalar.ofBits .f32 0x3F800000#32)) (shapeCast S1x2048 sc shapeCasts_S1x2048_S1x2048)) broadcasts_S1x2048_S256x2048))
    (broadcastTo S256x2048 (shapeCast S1x2048 sh shapeCasts_S1x2048_S1x2048) broadcasts_S1x2048_S256x2048)

/-- Every sixteenth row from row `k` on. -/
def lane (k : Fin 16) : Rect S4096x128 := ⟨⟨![k.val, 0], S256x128.size, ![16, 1], Cert.Lanes.starts (n := 256) (N := 4096) rfl (by decide) k⟩,
  fun a => match a with
    | ⟨0, _⟩ => (show 0 < 16 by decide)
    | ⟨1, _⟩ => (show 0 < 1 by decide)⟩

/-- The columns stored there. -/
theorem columns (k : Fin 16) : S256x2048.Slices ![0, 128 * k.val] S256x128 := by
  refine ⟨rfl, fun a => ?_⟩
  have := k.isLt
  match a with
  | ⟨0, _⟩ => exact Nat.le_refl 256
  | ⟨1, _⟩ => exact (show 128 * k.val + 128 ≤ 2048 by omega)

/-- The sixteen stores of a block of rows, the last first. -/
def stores (v : FVec F S256x2048 .f32) : List (View.Piece (Elt F) S4096x128 .f32) :=
  List.ofFn fun k : Fin 16 => ⟨lane k.rev, extractStridedSlice S256x128 ![0, 128 * k.rev.val] v (columns k.rev)⟩

/-- They fill the block. -/
theorem cover (v : FVec F S256x2048 .f32) (y : S4096x128.Idx) : ∃ p ∈ stores v, y ∈ p.1.set := by
  have h0 : (y 0).val < 4096 := (y 0).isLt
  refine ⟨_, (List.mem_ofFn).mpr ⟨Fin.rev ⟨(y 0).val % 16, Nat.mod_lt _ (by decide)⟩, rfl⟩, ?_⟩
  show y ∈ (lane (Fin.rev (Fin.rev _))).set
  rw [Fin.rev_rev]
  refine (LoadRect.mem_set _).mpr fun a => ?_
  match a with
  | ⟨0, _⟩ => exact ⟨(y 0).val / 16, (show (y 0).val / 16 < 256 by omega), (show (y 0).val = (y 0).val % 16 + 16 * ((y 0).val / 16) by omega)⟩
  | ⟨1, _⟩ => exact ⟨(y 1).val, (y 1).isLt, (show (y 1).val = 0 + 1 * (y 1).val by omega)⟩

/-- What the first result's block holds after a step. -/
def out7 (x0 : Vec F S256x2048 .f32) (x1 : Vec F S256x2048 .bf16) (x2 : Vec F S2048x2048 .bf16) (x3 : Vec F S1x2048 .f32) : Vec F S256x2048 .f32 :=
  View.canon [⟨whole, sumOf (View.ld x0 whole) (View.ld x1 whole) (View.ld x2 wholeW) (View.ld x3 wholeR)⟩]

/-- What the second result's block holds after a step. -/
def out8 (x0 : Vec F S256x2048 .f32) (x1 : Vec F S256x2048 .bf16) (x2 : Vec F S2048x2048 .bf16) (x3 x4 x5 x6 : Vec F S1x2048 .f32) : Vec F S4096x128 .f32 :=
  View.canon (stores (normOf (sumOf (View.ld x0 whole) (View.ld x1 whole) (View.ld x2 wholeW) (View.ld x3 wholeR))
    (View.ld x4 wholeR) (View.ld x5 wholeR) (View.ld x6 wholeR)))

/-- The first result's store fills its block. -/
theorem cover7 (p : Vec F S256x2048 .f32) (y : S256x2048.Idx) :
    ∃ pc ∈ ([⟨whole, p⟩] : List (View.Piece (Elt F) S256x2048 .f32)), y ∈ pc.1.set :=
  View.cover_of_tiled [⟨whole, p⟩] S256x2048.size (by rfl) y

set_option maxHeartbeats 1000000 in
/-- One step of the call, from what its blocks hold. -/
theorem sound_kernel (c : Dev nD) (i : grid0.Coords) (E : Set ℕ)
    (arg1 : Memref sig .tc .vmem S256x2048 .f32) (harg1 : arg1.IsWhole) (arg2 : Memref sig .tc .vmem S256x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S256x2048 .f32) (harg8 : arg8.IsWhole)
    (arg9 : Memref sig .tc .vmem S4096x128 .f32) (harg9 : arg9.IsWhole)
    (x0 : Vec F S256x2048 .f32) (x1 : Vec F S256x2048 .bf16) (x2 : Vec F S2048x2048 .bf16) (x3 x4 x5 x6 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6 ∗ owns (c : Thread nD τ) arg8 fullShare (out7 x0 x1 x2 x3)
          ∗ owns (c : Thread nD τ) arg9 fullShare (out8 x0 x1 x2 x3 x4 x5 x6)) -∗ K ⟨⟩))
      ⊢ wp frame (wpE (defs₀ (F := F)) Variants.none c none) E
        (cc0_post i arg1 harg1 arg2 harg2 arg3 harg3 arg4 harg4 arg5 harg5 arg6 harg6 arg7 harg7 arg8 harg8 arg9 harg9) K := by
  unfold cc0_post k0_part1 k0_part2
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro; exact View.read_writes_eq_canon _ _ _ (cover7 _)
  · iexists _; isplitr
    swap; · iexact H8
    ipureintro; exact View.read_writes_eq_canon _ _ (stores _) (cover _)

variable (m : (ℓ : Loc nD τ sig) → Buf (Elt F) ℓ) (ρ : Dev nD → PrngReg)

/-- What each window's block holds after a step: the inputs' as they were, the two results' as the step leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t)
    | ⟨8, _⟩ => out8 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The arrays are as the call finds them. -/
theorem A_eq (c : Dev nD) (w : Fin cfg0.W) : (dats m 0 c).A w = V m c (Pipeline.arrRef spec0 w) := by
  dsimp only [dats]

/-- The first result's block after a step. -/
theorem after_7 (c : Dev nD) (t : Fin cfg0.N) :
    (dats m 0 c).after 7 t = out7 (iblk m c 0 t) (iblk m c 1 t) (iblk m c 2 t) (iblk m c 3 t) := by dsimp only [dats]
/-- The second result's block after a step. -/
theorem after_8 (c : Dev nD) (t : Fin cfg0.N) :
    (dats m 0 c).after 8 t = out8 (iblk m c 0 t) (iblk m c 1 t) (iblk m c 2 t) (iblk m c 3 t) (iblk m c 4 t) (iblk m c 5 t) (iblk m c 6 t) := by
  dsimp only [dats]

/-- What a step begins with: each window's block. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- A step, at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl)]
  rw [show (dats m 0 c).Φ t.succ = (dats m 0 c).Φ t.castSucc from rfl,
    show (dats m 0 c).owesAt () t.succ = (dats m 0 c).owesAt () t.castSucc from rfl]
  dsimp only [dats]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c (grid0.coords t) Set.univ _ _ _ _ _ _ _ _ _ _ _ _ _ _ _ _ _ _
    (iblk m c 0 t) (iblk m c 1 t) (iblk m c 2 t) (iblk m c 3 t) (iblk m c 4 t) (iblk m c 5 t) (iblk m c 6 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The same, as the launch asks for it. -/
theorem body_obligation (c : Dev nD) : BodyObligation (dats (F := F) m 0 c) (defs₀ (F := F)) Variants.none () Set.univ := fun t => by
  have row : defs₀ (F := F) .tc cfg0.body (cfg0.bodyArgs t (cfg0.slots t)) = bodyAt0 t := by
    unfold defs₀; rw [Defs.onTc_tc]
  rw [bigSep_W0, bigSep_W0, row]
  exact triple_restated (sound_body m c t) rfl .rfl fun _ => .rfl

set_option backward.isDefEq.respectTransparency.types false in
/-- The call's run: its arrays end at what `dats` says, and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arrays alone. -/
theorem arrays : θ_run defs (onTc (τ := τ) (main (F := F))) (s₀ m ρ) (Pipeline.FramePost cfgs (dats m) 0 (V m)) :=
  (θ_run defs _ _).mono (fun _ h => h.1) (run m ρ)

/-- The arguments and the counters end as they were. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (arrays m ρ)) ((θ_run defs _ _).mono (fun _ h => h.2) (run m ρ))

/-- The two results after the run, and the arguments as they were. -/
theorem results : θ_run defs (onTc (τ := τ) (main (F := F))) ⟨m, fun _ => 0, ρ⟩ fun r => ∀ c : Dev nD,
      r.2.mem ((c : Thread nD τ).loc main_v10_0) = (dats m 0 c).arrAt 7 cfg0.N
      ∧ r.2.mem ((c : Thread nD τ).loc main_v10_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).1 7, (h.1 c).1 8, h.2 c⟩)
    (θ_run_and (arrays m ρ) (frame_of m ρ (dats m) (A_eq m) (arrays m ρ)))

end Cert.Kernel6Ideal.Post
-- ==== Proof.Post.lean ====
/- The call that multiplies by the output weights, adds the residual and norms the rows: its two results are the reference's. -/
module

public import proofs.«01_k».proof.Proof.PostRun
public import proofs.«01_k».proof.Proof.Gen.Reference6Ideal.Read
public import Idealize.ShloMosaic.Lib.Pointwise
public import Idealize.ShloMosaic.Lib.Pipeline.ValueKit
public import Idealize.ShloMosaic.Lib.StableHlo.ReadAt
@[expose] public section
set_option maxRecDepth 16384
noncomputable section
namespace Cert.Kernel6Ideal.Post
open Cert.Kernel6Ideal Cert.Kernel6Ideal.Gen Idealize.ShloMosaic Idealize.ShloMosaic.TcCoe Idealize.SL.Sem
variable (m : (ℓ : Loc nD τ sig) → Buf (Elt Ideal) ℓ)

/-- The layer's stream. -/
abbrev x (c : Dev nD) : Vec Ideal S1x16384x2048 .f32 := m ((c : Thread nD τ).loc main_arg0)
/-- The merged branches. -/
abbrev merged (c : Dev nD) : Vec Ideal S1x16384x2048 .f32 := m ((c : Thread nD τ).loc main_arg1)
/-- The output weights. -/
abbrev wo (c : Dev nD) : Vec Ideal S1x2048x2048 .f32 := m ((c : Thread nD τ).loc main_arg2)
/-- The modulation. -/
abbrev mod (c : Dev nD) : Vec Ideal S1x12288 .f32 := m ((c : Thread nD τ).loc main_arg3)
/-- The norm's weights. -/
abbrev g (c : Dev nD) : Vec Ideal S1x2048 .f32 := m ((c : Thread nD τ).loc main_arg4)

/-- The stream's rows the call reads. -/
theorem V_x (c : Dev nD) (R : Fin 16384) (k : Fin 2048) : (V m c main_v3 : Vec Ideal S16384x2048 .f32) (ix2 R k) = x m c (ix3 0 R k) := by
  unfold V
  after_reads_at
/-- The merged rows the call reads. -/
theorem V_merged (c : Dev nD) (R : Fin 16384) (k : Fin 2048) : (V m c main_v5 : Vec Ideal S16384x2048 .bf16) (ix2 R k) = merged m c (ix3 0 R k) := by
  unfold V
  after_reads_at
/-- The output weights the call reads. -/
theorem V_wo (c : Dev nD) (k j : Fin 2048) : (V m c main_v7 : Vec Ideal S2048x2048 .bf16) (ix2 k j) = wo m c (ix3 0 k j) := by
  unfold V
  after_reads_at
/-- The gate the call reads. -/
theorem V_gate (c : Dev nD) (j : Fin 2048) : (V m c main_v0 : Vec Ideal S1x2048 .f32) (ix2 0 j) = mod m c (ix2 0 ⟨4096 + j.val, by omega⟩) := by
  unfold V
  after_reads_at
/-- The norm's weights the call reads. -/
theorem V_g (c : Dev nD) (j : Fin 2048) : (V m c main_v9 : Vec Ideal S1x2048 .f32) (ix2 0 j) = g m c (ix2 0 j) := by
  unfold V
  after_reads_at
/-- The scale the call reads. -/
theorem V_sc (c : Dev nD) (j : Fin 2048) : (V m c main_v2 : Vec Ideal S1x2048 .f32) (ix2 0 j) = mod m c (ix2 0 ⟨8192 + j.val, by omega⟩) := by
  unfold V
  after_reads_at
/-- The shift the call reads. -/
theorem V_sh (c : Dev nD) (j : Fin 2048) : (V m c main_v1 : Vec Ideal S1x2048 .f32) (ix2 0 j) = mod m c (ix2 0 ⟨6144 + j.val, by omega⟩) := by
  unfold V
  after_reads_at

/-- The stream's block each step reads. -/
theorem index_0 : ∀ t : Fin grid0.N, win0_0.index t 0 = t.val ∧ win0_0.index t 1 = 0 := by decide +kernel
/-- The merged block each step reads. -/
theorem index_1 : ∀ t : Fin grid0.N, win0_1.index t 0 = t.val ∧ win0_1.index t 1 = 0 := by decide +kernel
/-- The weights are read whole. -/
theorem index_2 : ∀ t : Fin grid0.N, win0_2.index t 0 = 0 ∧ win0_2.index t 1 = 0 := by decide +kernel
/-- The gate is read whole. -/
theorem index_3 : ∀ t : Fin grid0.N, win0_3.index t 0 = 0 ∧ win0_3.index t 1 = 0 := by decide +kernel
/-- The norm's weights are read whole. -/
theorem index_4 : ∀ t : Fin grid0.N, win0_4.index t 0 = 0 ∧ win0_4.index t 1 = 0 := by decide +kernel
/-- The scale is read whole. -/
theorem index_5 : ∀ t : Fin grid0.N, win0_5.index t 0 = 0 ∧ win0_5.index t 1 = 0 := by decide +kernel
/-- The shift is read whole. -/
theorem index_6 : ∀ t : Fin grid0.N, win0_6.index t 0 = 0 ∧ win0_6.index t 1 = 0 := by decide +kernel
/-- The first result's block each step writes. -/
theorem index_7 : ∀ t : Fin grid0.N, win0_7.index t 0 = t.val ∧ win0_7.index t 1 = 0 := by decide +kernel
/-- The second result's block each step writes. -/
theorem index_8 : ∀ t : Fin grid0.N, win0_8.index t 0 = t.val ∧ win0_8.index t 1 = 0 := by decide +kernel

/-- The position of row `r` of the block of step `t`. -/
def pos (t : Fin cfg0.N) (r : Fin 256) : Fin 16384 := ⟨256 * t.val + r.val, by have : t.val < 64 := t.isLt.trans_eq N_0; omega⟩

/-- The stream's rows a step reads. -/
theorem row_x (c : Dev nD) (t : Fin cfg0.N) (r : Fin 256) (k : Fin 2048) : iblk m c 0 t (ix2 r k) = x m c (ix3 0 (pos t r) k) := by
  refine Eq.trans ?_ (V_x m c _ k)
  blk_ext [iblk, index_0 t, pos]
/-- The merged rows a step reads. -/
theorem row_merged (c : Dev nD) (t : Fin cfg0.N) (r : Fin 256) (k : Fin 2048) : iblk m c 1 t (ix2 r k) = merged m c (ix3 0 (pos t r) k) := by
  refine Eq.trans ?_ (V_merged m c _ k)
  blk_ext [iblk, index_1 t, pos]
/-- The weights a step reads. -/
theorem row_wo (c : Dev nD) (t : Fin cfg0.N) (k j : Fin 2048) : iblk m c 2 t (ix2 k j) = wo m c (ix3 0 k j) := by
  refine Eq.trans ?_ (V_wo m c k j)
  blk_ext [iblk, index_2 t]
/-- The gate a step reads. -/
theorem row_gate (c : Dev nD) (t : Fin cfg0.N) (j : Fin 2048) : iblk m c 3 t (ix2 0 j) = mod m c (ix2 0 ⟨4096 + j.val, by omega⟩) := by
  refine Eq.trans ?_ (V_gate m c j)
  blk_ext [iblk, index_3 t]
/-- The norm's weights a step reads. -/
theorem row_g (c : Dev nD) (t : Fin cfg0.N) (j : Fin 2048) : iblk m c 4 t (ix2 0 j) = g m c (ix2 0 j) := by
  refine Eq.trans ?_ (V_g m c j)
  blk_ext [iblk, index_4 t]
/-- The scale a step reads. -/
theorem row_sc (c : Dev nD) (t : Fin cfg0.N) (j : Fin 2048) : iblk m c 5 t (ix2 0 j) = mod m c (ix2 0 ⟨8192 + j.val, by omega⟩) := by
  refine Eq.trans ?_ (V_sc m c j)
  blk_ext [iblk, index_5 t]
/-- The shift a step reads. -/
theorem row_sh (c : Dev nD) (t : Fin cfg0.N) (j : Fin 2048) : iblk m c 6 t (ix2 0 j) = mod m c (ix2 0 ⟨6144 + j.val, by omega⟩) := by
  refine Eq.trans ?_ (V_sh m c j)
  blk_ext [iblk, index_6 t]

/-- The stream with the gated projection added. -/
def sum (c : Dev nD) (R : Fin 16384) (j : Fin 2048) : EReal :=
  x m c (ix3 0 R j) + mod m c (ix2 0 ⟨4096 + j.val, by omega⟩) * ∑ k : Fin 2048, merged m c (ix3 0 R k) * wo m c (ix3 0 k j)

/-- One row and one column of it, normed, scaled and shifted. -/
def at_ (c : Dev nD) (R : Fin 16384) (j : Fin 2048) : EReal :=
  sum m c R j * Ideal.rsqrt (Ideal.div (∑ k : Fin 2048, sum m c R k * sum m c R k) (Ideal.ofBits FTy.f32 1157627904#32) + Ideal.ofBits FTy.f32 897988541#32)
    * g m c (ix2 0 j) * (1 + mod m c (ix2 0 ⟨8192 + j.val, by omega⟩)) + mod m c (ix2 0 ⟨6144 + j.val, by omega⟩)

/-- The first result. -/
def G7 (c : Dev nD) : Vec Ideal S16384x2048 .f32 := fun i => sum m c (i 0) (i 1)

/-- The second result: sixteen rows of 128 lanes to a position. -/
def G8 (c : Dev nD) : Vec Ideal S262144x128 .f32 := fun i =>
  at_ m c ⟨(i 0).val / 16, by have h : (i 0).val < 262144 := (i 0).isLt; omega⟩
    ⟨128 * ((i 0).val % 16) + (i 1).val, by have h : (i 1).val < 128 := (i 1).isLt; omega⟩

/-- The sum a step forms. -/
abbrev sumBlk (c : Dev nD) (t : Fin cfg0.N) : Vec Ideal S256x2048 .f32 := sumOf (iblk m c 0 t) (iblk m c 1 t) (iblk m c 2 t) (iblk m c 3 t)

/-- A step's sums are those of its positions. -/
theorem sum_at (c : Dev nD) (t : Fin cfg0.N) (r : Fin 256) (j : Fin 2048) : sumBlk m c t (ix2 r j) = sum m c (pos t r) j := by
  unfold sumBlk
  pointwise [sumOf]
  simp only [row_x, row_merged, row_wo, row_gate]
  rfl

/-- A row normed, scaled and shifted. -/
theorem norm_at (v : Vec Ideal S256x2048 .f32) (gn sc sh : Vec Ideal S1x2048 .f32) (r : Fin 256) (j : Fin 2048) :
    normOf v gn sc sh (ix2 r j)
      = v (ix2 r j) * Ideal.rsqrt (Ideal.div (∑ k : Fin 2048, v (ix2 r k) * v (ix2 r k)) (Ideal.ofBits FTy.f32 1157627904#32) + Ideal.ofBits FTy.f32 897988541#32)
        * gn (ix2 0 j) * (1 + sc (ix2 0 j)) + sh (ix2 0 j) := by
  pointwise [normOf]

/-- After a step the first result's block holds its sums. -/
theorem out7_at (x0 : Vec Ideal S256x2048 .f32) (x1 : Vec Ideal S256x2048 .bf16) (x2 : Vec Ideal S2048x2048 .bf16) (x3 : Vec Ideal S1x2048 .f32) :
    out7 x0 x1 x2 x3 = sumOf x0 x1 x2 x3 := by
  unfold out7 whole wholeW wholeR
  frame_out

/-- Where a block's stores leave a row's columns. -/
theorem stores_at (v : FVec Ideal S256x2048 .f32) (y : S4096x128.Idx) :
    View.canon (stores v) y = v (ix2 ⟨(y 0).val / 16, by have h : (y 0).val < 4096 := (y 0).isLt; omega⟩
      ⟨128 * ((y 0).val % 16) + (y 1).val, by have h : (y 1).val < 128 := (y 1).isLt; omega⟩) := by
  unfold stores
  refine View.canon_ofFn_eq_of_forall (fun k : Fin 16 => lane k.rev) _ y _ ?_ ?_
  · obtain ⟨p, hp, hy⟩ := cover v y
    obtain ⟨k, rfl⟩ := (List.mem_ofFn).mp hp
    exact ⟨k, hy⟩
  · intro k z hz
    have h0 : (y 0).val = k.rev.val + 16 * (z 0).val := by rw [← hz]; rfl
    have h1 : (y 1).val = 0 + 1 * (z 1).val := by rw [← hz]; rfl
    have hk := k.rev.isLt
    show v _ = v _
    refine congrArg v (funext fun a => Fin.ext ?_)
    match a with
    | ⟨0, _⟩ => exact (show 0 + (z 0).val = (y 0).val / 16 by omega)
    | ⟨1, _⟩ => exact (show 128 * k.rev.val + (z 1).val = 128 * ((y 0).val % 16) + (y 1).val by omega)

/-- After a step the second result's block holds the normed sums. -/
theorem out8_at (x0 : Vec Ideal S256x2048 .f32) (x1 : Vec Ideal S256x2048 .bf16) (x2 : Vec Ideal S2048x2048 .bf16) (x3 x4 x5 x6 : Vec Ideal S1x2048 .f32) :
    out8 x0 x1 x2 x3 x4 x5 x6 = View.canon (stores (normOf (sumOf x0 x1 x2 x3) x4 x5 x6)) := by
  unfold out8 whole wholeW wholeR
  frame_out

/-- After the call its first result is the stream with the gated projection added. -/
theorem final7 (c : Dev nD) : (dats m 0 c).arrAt 7 cfg0.N = G7 m c := by
  refine (dats m 0 c).arrAt_eq_of_covers 7 _ (by decide +kernel) fun t hf y => ?_
  blk_simp
  rw [after_7, out7_at]
  obtain ⟨r, j, rfl⟩ : ∃ r j, y = ix2 r j := ⟨y 0, y 1, by funext a; match a with | ⟨0, _⟩ => rfl | ⟨1, _⟩ => rfl⟩
  refine (sum_at m c t r j).trans ?_
  refine Eq.trans (b := G7 m c (ix2 (pos t r) j)) rfl ?_
  blk_ext [index_7 t, pos]

/-- A step's normed row. -/
theorem block_at (c : Dev nD) (t : Fin cfg0.N) (r : Fin 256) (j : Fin 2048) :
    normOf (sumBlk m c t) (iblk m c 4 t) (iblk m c 5 t) (iblk m c 6 t) (ix2 r j) = at_ m c (pos t r) j := by
  rw [norm_at]
  simp only [sum_at, row_g, row_sc, row_sh]
  rfl

/-- After the call its second result is that sum normed, scaled and shifted. -/
theorem final8 (c : Dev nD) : (dats m 0 c).arrAt 8 cfg0.N = G8 m c := by
  refine (dats m 0 c).arrAt_eq_of_covers 8 _ (by decide +kernel) fun t hf y => ?_
  blk_simp
  rw [after_8, out8_at, stores_at]
  refine (block_at m c t _ _).trans ?_
  obtain ⟨r, j, rfl⟩ : ∃ r j, y = ix2 r j := ⟨y 0, y 1, by funext a; match a with | ⟨0, _⟩ => rfl | ⟨1, _⟩ => rfl⟩
  have ht : t.val < 64 := t.isLt.trans_eq N_0
  refine Eq.trans (b := G8 m c (ix2 ⟨4096 * t.val + r.val, by omega⟩ j)) (congrArg₂ (at_ m c) (Fin.ext ?_) (Fin.ext ?_)) ?_
  · show 256 * t.val + r.val / 16 = (4096 * t.val + r.val) / 16
    omega
  · show 128 * (r.val % 16) + j.val = 128 * ((4096 * t.val + r.val) % 16) + j.val
    omega
  · blk_ext [index_8 t]

/-- The reference's sum, before it is laid out in rows. -/
theorem sum_eq (c : Dev nD) (R : Fin 16384) (j : Fin 2048) :
    Cert.Reference6Ideal.Read.val_main_v10 (F := Ideal) (x m c) (merged m c) (wo m c) (mod m c) (ix3 0 R j) = sum m c R j := by
  unfold Cert.Reference6Ideal.Read.val_main_v10 Cert.Reference6Ideal.Read.val_main_v9 Cert.Reference6Ideal.Read.val_main_v8 Cert.Reference6Ideal.Read.val_main_v7 Cert.Reference6Ideal.Read.val_main_v6 Cert.Reference6Ideal.Read.val_main_v1 Cert.Reference6Ideal.Read.val_main_v0
  pointwise
  rfl

/-- The reference computes the first result. -/
theorem result7_eq (c : Dev nD) : G7 m c = Cert.Reference6Ideal.Read.val_main_v31 (F := Ideal) (x m c) (merged m c) (wo m c) (mod m c) := by
  funext i
  obtain ⟨R, j, rfl⟩ : ∃ R j, i = ix2 R j := ⟨i 0, i 1, by funext a; match a with | ⟨0, _⟩ => rfl | ⟨1, _⟩ => rfl⟩
  refine (sum_eq m c R j).symm.trans ?_
  unfold Cert.Reference6Ideal.Read.val_main_v31
  pointwise

/-- The reference's normed rows, before they are laid out in lanes. -/
theorem norm_eq (c : Dev nD) (R : Fin 16384) (j : Fin 2048) :
    Cert.Reference6Ideal.Read.val_main_v30 (F := Ideal) (x m c) (merged m c) (wo m c) (mod m c) (g m c) (ix3 0 R j) = at_ m c R j := by
  unfold Cert.Reference6Ideal.Read.val_main_v30 Cert.Reference6Ideal.Read.val_main_v29 Cert.Reference6Ideal.Read.val_main_v28 Cert.Reference6Ideal.Read.val_main_v27 Cert.Reference6Ideal.Read.val_main_v26 Cert.Reference6Ideal.Read.val_main_v25 Cert.Reference6Ideal.Read.val_main_v24 Cert.Reference6Ideal.Read.val_main_v23 Cert.Reference6Ideal.Read.val_main_v22 Cert.Reference6Ideal.Read.val_main_v21 Cert.Reference6Ideal.Read.val_main_v20 Cert.Reference6Ideal.Read.val_main_v19 Cert.Reference6Ideal.Read.val_main_v18 Cert.Reference6Ideal.Read.val_main_v17 Cert.Reference6Ideal.Read.val_main_v16 Cert.Reference6Ideal.Read.val_main_v15 Cert.Reference6Ideal.Read.val_main_v14 Cert.Reference6Ideal.Read.val_main_v13 Cert.Reference6Ideal.Read.val_main_v12 Cert.Reference6Ideal.Read.val_main_v11 Cert.Reference6Ideal.Read.val_main_v5 Cert.Reference6Ideal.Read.val_main_v4 Cert.Reference6Ideal.Read.val_main_v3 Cert.Reference6Ideal.Read.val_main_v2 Cert.Reference6Ideal.Read.val_main_cst Cert.Reference6Ideal.Read.val_main_cst_0 Cert.Reference6Ideal.Read.val_main_cst_1 Cert.Reference6Ideal.Read.val_main_cst_2
  pointwise
  simp only [sum_eq]
  rfl

/-- The reference computes the second result. -/
theorem result8_eq (c : Dev nD) : G8 m c = Cert.Reference6Ideal.Read.val_main_v33 (F := Ideal) (x m c) (merged m c) (wo m c) (mod m c) (g m c) := by
  funext i
  refine (norm_eq m c _ _).symm.trans ?_
  rw [Cert.Reference6Ideal.Read.val_main_v33_apply, Cert.Reference6Ideal.Read.val_main_v32_apply]
  have h0 : (i 0).val < 262144 := (i 0).isLt
  have h1 : (i 1).val < 128 := (i 1).isLt
  refine congrArg _ (funext fun a => Fin.ext ?_)
  match a with
  | ⟨0, _⟩ => rfl
  | ⟨1, _⟩ => exact (show (i 0).val / 16 = (((i 0).val * 128 + (i 1).val) / 2048 * 2048 + ((i 0).val * 128 + (i 1).val) % 2048) / 2048 % 16384 by omega)
  | ⟨2, _⟩ => exact (show 128 * ((i 0).val % 16) + (i 1).val = (((i 0).val * 128 + (i 1).val) / 2048 * 2048 + ((i 0).val * 128 + (i 1).val) % 2048) % 2048 by omega)

end Cert.Kernel6Ideal.Post
-- ==== Proof.Ada.lean ====
/- The modulation: a row times a matrix, eight blocks of the row at a time, and a bias. -/
module

public import proofs.«01_k».proof.Proof.Gen.Kernel10Ideal.Value
public import proofs.«01_k».proof.Proof.Gen.Reference10Ideal.Read
public import Idealize.ShloMosaic.Lib.Pointwise
public import Idealize.ShloMosaic.Lib.Pipeline.ValueKit
public import Idealize.ShloMosaic.Lib.StableHlo.ReadAt
@[expose] public section
set_option maxRecDepth 16384
noncomputable section
namespace Cert.Kernel10Ideal.Ada
open Cert.Kernel10Ideal Cert.Kernel10Ideal.Gen Idealize.ShloMosaic Idealize.ShloMosaic.TcCoe Idealize.SL.Sem
variable (m : (ℓ : Loc nD τ sig) → Buf (Elt Ideal) ℓ)

/-- The conditioning row. -/
abbrev cond (c : Dev nD) : Vec Ideal S1x2048 .f32 := m ((c : Thread nD τ).loc main_arg0)
/-- The weights. -/
abbrev w (c : Dev nD) : Vec Ideal S1x2048x12288 .f32 := m ((c : Thread nD τ).loc main_arg1)
/-- The bias. -/
abbrev b (c : Dev nD) : Vec Ideal S1x12288 .f32 := m ((c : Thread nD τ).loc main_arg2)

/-- The conditioning column the call reads. -/
theorem V_cond (c : Dev nD) (k : Fin 2048) : (V m c main_v0 : Vec Ideal S2048x1 .f32) (ix2 k 0) = cond m c (ix2 0 k) := by
  unfold V
  after_reads_at
/-- The weights the call reads. -/
theorem V_w (c : Dev nD) (k : Fin 2048) (j : Fin 12288) : (V m c main_v1 : Vec Ideal S2048x12288 .f32) (ix2 k j) = w m c (ix3 0 k j) := by
  unfold V
  after_reads_at
/-- The bias the call reads. -/
theorem V_b (c : Dev nD) (j : Fin 12288) : (V m c main_v3 : Vec Ideal S1x12288 .f32) (ix2 0 j) = b m c (ix2 0 j) := by
  unfold V
  after_reads_at

/-- The conditioning column is read whole. -/
theorem index_0 : ∀ t : Fin grid0.N, win0_0.index t 0 = 0 ∧ win0_0.index t 1 = 0 := by decide +kernel
/-- The block of the weights each step reads. -/
theorem index_1 : ∀ t : Fin grid0.N, win0_1.index t 0 = 0 ∧ win0_1.index t 1 = t.val := by decide +kernel
/-- The block of the bias each step reads. -/
theorem index_2 : ∀ t : Fin grid0.N, win0_2.index t 0 = 0 ∧ win0_2.index t 1 = t.val := by decide +kernel
/-- The block each step writes. -/
theorem index_3 : ∀ t : Fin grid0.N, win0_3.index t 0 = 0 ∧ win0_3.index t 1 = t.val := by decide +kernel

/-- The column of the block of step `t`. -/
def col (t : Fin cfg0.N) (j : Fin 1024) : Fin 12288 := ⟨1024 * t.val + j.val, by have : t.val < 12 := t.isLt.trans_eq N_0; omega⟩

/-- The conditioning column a step reads. -/
theorem row_cond (c : Dev nD) (t : Fin cfg0.N) (k : Fin 2048) : iblk m c 0 t (ix2 k 0) = cond m c (ix2 0 k) := by
  refine Eq.trans ?_ (V_cond m c k)
  blk_ext [iblk, index_0 t]
/-- The weights a step reads. -/
theorem row_w (c : Dev nD) (t : Fin cfg0.N) (k : Fin 2048) (j : Fin 1024) : iblk m c 1 t (ix2 k j) = w m c (ix3 0 k (col t j)) := by
  refine Eq.trans ?_ (V_w m c k _)
  blk_ext [iblk, index_1 t, col]
/-- The bias a step reads. -/
theorem row_b (c : Dev nD) (t : Fin cfg0.N) (j : Fin 1024) : iblk m c 2 t (ix2 0 j) = b m c (ix2 0 (col t j)) := by
  refine Eq.trans ?_ (V_b m c _)
  blk_ext [iblk, index_2 t, col]

section
variable (c : Dev nD) (i : grid0.Coords) (a1 : Memref sig .tc .vmem S2048x1 .f32) (h1 : a1.IsWhole) (a2 : Memref sig .tc .vmem S2048x1024 .f32) (h2 : a2.IsWhole)
  (a3 : Memref sig .tc .vmem S1x1024 .f32) (h3 : a3.IsWhole) (a4 : Memref sig .tc .vmem S1x1024 .f32) (h4 : a4.IsWhole)
  (x0 : Vec Ideal S2048x1 .f32) (x1 : Vec Ideal S2048x1024 .f32) (x2 : Vec Ideal S1x1024 .f32)

/-- What one trip adds. -/
theorem trip_eq (k : Fin k0_t1_loop.trips) (acc : FVec Ideal S1x1024 .f32) :
    tripR_k0_t1 Variants.none c none i a1 h1 a2 h2 a3 h3 a4 h4 (h1.unread x0) (h2.unread x1) k acc
      = k0_pay2 acc (View.ld x0 (Rect.unit (s := S2048x1) (k0_off1 k) S256x1.size (k0_off1_inb k)))
          (View.ld x1 (Rect.unit (s := S2048x1024) (k0_off2 k) S256x1024.size (k0_off2_inb k))) := by
  refine Eq.trans (b := k0_pay2 acc (View.ld (a1.view.read (Elt Ideal) (h1.unread x0)) (Rect.unit (s := S2048x1) (k0_off1 k) S256x1.size (k0_off1_inb k)))
          (View.ld (a2.view.read (Elt Ideal) (h2.unread x1)) (Rect.unit (s := S2048x1024) (k0_off2 k) S256x1024.size (k0_off2_inb k)))) ?_ ?_
  · unfold tripR_k0_t1 trip_k0_t1
    rfl
  · rw [h1.read_unread, h2.read_unread]

/-- What the run of a step stores. -/
theorem out_eq : out0_A_3 c i a1 h1 a2 h2 a3 h3 a4 h4 x0 x1 x2
    = k0_pay3 (st_k0_t1 Variants.none c none i a1 h1 a2 h2 a3 h3 a4 h4 (h1.unread x0) (h2.unread x1) (k0_pay1 (F := Ideal)) k0_t1_loop.trips) x2 := by
  unfold out0_A_3
  rw [View.read_writes_junk_eq_canon]
  unfold kernelRun0_A
  refine (View.canon_cons_unit_lit _ _ _ (by decide)).trans (congrArg (k0_pay3 _) ?_)
  rw [View.readAt_eq_ld, h3.read_unread]
  exact View.ld_unit_lit _ _ (by decide)

/-- One product of the sum a column holds, zero beyond the row's end. -/
def term (j : Fin 1024) (k : ℕ) : EReal :=
  if h : k < 2048 then x1 (ix2 ⟨k, h⟩ j) * (x0 (ix2 ⟨k, h⟩ 0) * Ideal.logistic (x0 (ix2 ⟨k, h⟩ 0))) else 0

/-- There are eight trips. -/
theorem trips_eq : k0_t1_loop.trips = 8 := by decide +kernel

/-- One trip at a column. -/
theorem trip_at (k : Fin k0_t1_loop.trips) (acc : FVec Ideal S1x1024 .f32) (j : Fin 1024) :
    tripR_k0_t1 Variants.none c none i a1 h1 a2 h2 a3 h3 a4 h4 (h1.unread x0) (h2.unread x1) k acc (ix2 0 j)
      = acc (ix2 0 j) + ∑ r ∈ Finset.range 256, term x0 x1 j (256 * k.val + r) := by
  have hk : k.val < 8 := k.isLt.trans_eq trips_eq
  rw [trip_eq, Finset.sum_range (M := EReal)]
  pointwise [k0_pay2]
  refine congrArg (fun a : EReal => acc (ix2 0 j) + a) (Finset.sum_congr (M := EReal) rfl fun r _ => ?_)
  unfold term
  rw [dif_pos (show 256 * k.val + r.val < 2048 by omega)]
  have o0 : k0_off1 k 0 = 256 * k.val := congrFun (k0_off1_eq k) 0
  have p0 : k0_off2 k 0 = 256 * k.val := congrFun (k0_off2_eq k) 0
  have p1 : k0_off2 k 1 = 0 := congrFun (k0_off2_eq k) 1
  have e0 {a : Fin 2048} {z : Fin 1} (ha : a.val = 256 * k.val + r.val) : x0 (ix2 a z) = x0 (ix2 ⟨256 * k.val + r.val, by omega⟩ 0) :=
    congrArg x0 (congrArg₂ ix2 (Fin.ext ha) (Subsingleton.elim z 0))
  have e1 {a : Fin 2048} {q : Fin 1024} (ha : a.val = 256 * k.val + r.val) (hq : q.val = j.val) : x1 (ix2 a q) = x1 (ix2 ⟨256 * k.val + r.val, by omega⟩ j) :=
    congrArg x1 (congrArg₂ ix2 (Fin.ext ha) (Fin.ext hq))
  refine congrArg₂ (fun u v : EReal => u * v) (e1 ?_ ?_) (congrArg (fun u : EReal => u * Ideal.logistic u) (e0 ?_))
  · show k0_off2 k 0 + r.val = _
    rw [p0]
  · show k0_off2 k 1 + j.val = _
    rw [p1, Nat.zero_add]
  · show k0_off1 k 0 + r.val = _
    rw [o0]

/-- What the trips have summed before trip `n`. -/
theorem st_at (n : ℕ) (hn : n ≤ k0_t1_loop.trips) (j : Fin 1024) :
    st_k0_t1 Variants.none c none i a1 h1 a2 h2 a3 h3 a4 h4 (h1.unread x0) (h2.unread x1) (k0_pay1 (F := Ideal)) n (ix2 0 j)
      = ∑ k ∈ Finset.range (256 * n), term x0 x1 j k := by
  induction n with
  | zero =>
    rw [st_k0_t1_zero]
    pointwise [k0_pay1]
    rfl
  | succ n ih =>
    rw [show n + 1 = (⟨n, hn⟩ : Fin k0_t1_loop.trips).val + 1 from rfl, st_k0_t1_succ, trip_at]
    show _ + _ = _
    rw [ih (Nat.le_of_succ_le hn), Nat.mul_succ, Finset.sum_range_add (M := EReal)]

/-- What a step stores, at a column. -/
theorem out_at (j : Fin 1024) : out0_A_3 c i a1 h1 a2 h2 a3 h3 a4 h4 x0 x1 x2 (ix2 0 j)
    = (∑ k : Fin 2048, x1 (ix2 k j) * (x0 (ix2 k 0) * Ideal.logistic (x0 (ix2 k 0)))) + x2 (ix2 0 j) := by
  rw [out_eq]
  pointwise [k0_pay3]
  rw [st_at c i a1 h1 a2 h2 a3 h3 a4 h4 x0 x1 _ (Nat.le_refl _), trips_eq, Finset.sum_range (M := EReal)]
  refine congrArg (fun a : EReal => a + x2 (ix2 0 j)) (Finset.sum_congr (M := EReal) rfl fun k _ => ?_)
  unfold term
  rw [dif_pos k.isLt]
end

/-- The modulation. -/
def G (c : Dev nD) : Vec Ideal S1x12288 .f32 := fun i =>
  (∑ k : Fin 2048, w m c (ix3 0 k (i 1)) * (cond m c (ix2 0 k) * Ideal.logistic (cond m c (ix2 0 k)))) + b m c (ix2 0 (i 1))

/-- After the call its result is the modulation. -/
theorem final (c : Dev nD) : (dats m 0 c).arrAt 3 cfg0.N = G m c := by
  refine (dats m 0 c).arrAt_eq_of_covers 3 _ (by decide +kernel) fun t hf y => ?_
  blk_simp
  rw [after0_3]
  obtain ⟨j, rfl⟩ : ∃ j, y = ix2 0 j := ⟨y 1, by funext a; match a with | ⟨0, _⟩ => exact Subsingleton.elim (α := Fin 1) _ _ | ⟨1, _⟩ => rfl⟩
  unfold outsAt0
  refine (out_at c _ _ _ _ _ _ _ _ _ _ _ _ j).trans ?_
  simp only [row_cond, row_w, row_b]
  refine Eq.trans (b := G m c (ix2 0 (col t j))) rfl ?_
  blk_ext [index_3 t, col]

/-- The reference computes the same. -/
theorem result_eq (c : Dev nD) : G m c = Cert.Reference10Ideal.Read.val_main_v5 (F := Ideal) (cond m c) (w m c) (b m c) := by
  funext i
  obtain ⟨j, rfl⟩ : ∃ j, i = ix2 0 j := ⟨i 1, by funext a; match a with | ⟨0, _⟩ => exact Subsingleton.elim (α := Fin 1) _ _ | ⟨1, _⟩ => rfl⟩
  unfold Cert.Reference10Ideal.Read.val_main_v5 Cert.Reference10Ideal.Read.val_main_v4 Cert.Reference10Ideal.Read.val_main_v3 Cert.Reference10Ideal.Read.val_main_v2 Cert.Reference10Ideal.Read.val_main_v1 Cert.Reference10Ideal.Read.val_main_v0 Cert.Reference10Ideal.Read.val_main_call0_v5 Cert.Reference10Ideal.Read.val_main_call0_v4 Cert.Reference10Ideal.Read.val_main_call0_cst_0 Cert.Reference10Ideal.Read.val_main_call0_v3 Cert.Reference10Ideal.Read.val_main_call0_v2 Cert.Reference10Ideal.Read.val_main_call0_cst Cert.Reference10Ideal.Read.val_main_call0_v1 Cert.Reference10Ideal.Read.val_main_call0_v0
  pointwise
  exact congrArg (fun a : EReal => a + b m c (ix2 0 j)) (Finset.sum_congr (M := EReal) rfl fun k _ => mul_comm (G := EReal) _ _)

end Cert.Kernel10Ideal.Ada
-- ==== Proof.lean ====
/- The claims of this certificate. The frames are the generated modules', but for the output projection's (Proof/PostRun.lean). The band attention's value
   claim is `Cert.Band.result_eq` (Proof/Join.lean): the kernel's rows (Proof/Row.lean) and the reference's (Proof/RefRow.lean) are the same weighted mean of
   the same values. Each other call has a module of its own. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel10
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Frame
public import proofs.«01_k».proof.Proof.Gen.Reference11Ideal
public import proofs.«01_k».proof.Proof.Join
public import proofs.«01_k».proof.Proof.ProjMain
public import proofs.«01_k».proof.Proof.ProjGate
public import proofs.«01_k».proof.Proof.ProjIndex
public import proofs.«01_k».proof.Proof.Merge
public import proofs.«01_k».proof.Proof.Norm
public import proofs.«01_k».proof.Proof.Final
public import proofs.«01_k».proof.Proof.Router
public import proofs.«01_k».proof.Proof.Choice
public import proofs.«01_k».proof.Proof.PostRun
public import proofs.«01_k».proof.Proof.Post
public import proofs.«01_k».proof.Proof.Ada
public import Idealize.ShloMosaic.Adequacy
public import Idealize.ShloMosaic.Init

@[expose] public section

noncomputable section

namespace Cert.Proof

open Idealize.ShloMosaic Idealize.SL.Sem

/-- The kernel runs, leaves its arguments and every counter as they were. -/
theorem frame_k : Cert.quiescent_Kernel := fun m ρ _ => Cert.Kernel.Gen.frame m ρ

/-- So does the idealized kernel. -/
theorem frame_ki : Cert.quiescent_KernelIdeal := fun m ρ _ => Cert.KernelIdeal.Gen.frame m ρ

/-- And the reference, which declares no counter. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each named constant is the value its name states. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl,
    IdealRules.named_const.statement Cert.KernelIdeal.κ "qscale" .f32 0x3E0293EE#32 (((Real.log 2)⁻¹ * (Real.sqrt 128)⁻¹ : ℝ) : EReal) rfl⟩

/-- On real queries, keys, values and biases the two results are one array. -/
theorem algebraic : Cert.algebraic_KernelIdeal_ReferenceIdeal_pre_finite := by
  intro m g m' g' hpre hagree
  refine ⟨fun c => Cert.KernelIdeal.Value.G8 m c, Cert.KernelIdeal.Value.run m g, ?_⟩
  refine (θ_run Cert.ReferenceIdeal.defs _ _).mono (fun r h c => ⟨?_, (h c).2⟩) (Cert.ReferenceIdeal.Value.run (F := Ideal) m' g')
  refine ((h c).1.trans (Cert.ReferenceIdeal.Read.val_main_v88_eq m' c)).trans ?_
  rw [(hagree c).1, (hagree c).2]
  exact (Cert.Band.result_eq m c (hpre c)).symm

/-! ## The combined projection without the gates and the indexer's columns -/

/-- The two programs' bodies have one text. -/
theorem bodies2 : Cert.Kernel2.defs₀ (F := Bits) = Cert.Kernel2Ideal.defs₀ (F := Bits) := by
  refine congrArg Defs.onTc (funext fun l => ?_)
  match l with
  | 0 => rfl
  | ⟨_ + 1, h⟩ => exact absurd h (Nat.not_lt.2 (Nat.le_add_left _ _))

/-- So have their definitions. -/
theorem table2 : Cert.Kernel2.defs (F := Bits) = Cert.Kernel2Ideal.defs (F := Bits) :=
  congrArg (Pipeline.defs (Cert.Kernel2Ideal.pcfgs (F := Bits))) bodies2

/-- The kernel runs, leaves its arguments and every counter as they were. -/
theorem frame_k2 : Cert.quiescent_Kernel2 := fun m ρ _ => by
  have h := Cert.Kernel2Ideal.Gen.frame (F := Bits) m ρ
  rw [← table2] at h
  exact h

/-- So does the idealized kernel. -/
theorem frame_ki2 : Cert.quiescent_Kernel2Ideal := fun m ρ _ => Cert.Kernel2Ideal.Gen.frame m ρ

/-- And the reference. -/
theorem frame_ri2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The two results are one array. -/
theorem algebraic2 : Cert.algebraic_Kernel2Ideal_Reference2Ideal := by
  intro m g m' g' _ hagree
  refine ⟨fun c => Cert.Kernel2Ideal.Proj.G m c, (θ_run Cert.Kernel2Ideal.defs _ _).mono (fun r h c => ⟨(h c).1.trans (Cert.Kernel2Ideal.Proj.final m c), (h c).2⟩) (Cert.Kernel2Ideal.Value.run_blocks m g), ?_⟩
  refine (θ_run Cert.Reference2Ideal.defs _ _).mono (fun r h c => ⟨?_, (h c).2⟩) (Cert.Reference2Ideal.Value.run (F := Ideal) m' g')
  refine ((h c).1.trans (Cert.Reference2Ideal.Read.val_main_v6_eq _ _)).trans ?_
  rw [(hagree c).1, (hagree c).2]
  exact (Cert.Kernel2Ideal.Proj.result_eq m c).symm

/-! ## The gates' columns of the combined projection -/

/-- The two programs' bodies have one text. -/
theorem bodies3 : Cert.Kernel3.defs₀ (F := Bits) = Cert.Kernel3Ideal.defs₀ (F := Bits) := by
  refine congrArg Defs.onTc (funext fun l => ?_)
  match l with
  | 0 => rfl
  | ⟨_ + 1, h⟩ => exact absurd h (Nat.not_lt.2 (Nat.le_add_left _ _))

/-- So have their definitions. -/
theorem table3 : Cert.Kernel3.defs (F := Bits) = Cert.Kernel3Ideal.defs (F := Bits) :=
  congrArg (Pipeline.defs (Cert.Kernel3Ideal.pcfgs (F := Bits))) bodies3

/-- The kernel runs, leaves its arguments and every counter as they were. -/
theorem frame_k3 : Cert.quiescent_Kernel3 := fun m ρ _ => by
  have h := Cert.Kernel3Ideal.Gen.frame (F := Bits) m ρ
  rw [← table3] at h
  exact h

/-- So does the idealized kernel. -/
theorem frame_ki3 : Cert.quiescent_Kernel3Ideal := fun m ρ _ => Cert.Kernel3Ideal.Gen.frame m ρ

/-- And the reference. -/
theorem frame_ri3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The two results are one array. -/
theorem algebraic3 : Cert.algebraic_Kernel3Ideal_Reference3Ideal := by
  intro m g m' g' _ hagree
  refine ⟨fun c => Cert.Kernel3Ideal.Proj.G m c, (θ_run Cert.Kernel3Ideal.defs _ _).mono (fun r h c => ⟨(h c).1.trans (Cert.Kernel3Ideal.Proj.final m c), (h c).2⟩) (Cert.Kernel3Ideal.Value.run_blocks m g), ?_⟩
  refine (θ_run Cert.Reference3Ideal.defs _ _).mono (fun r h c => ⟨?_, (h c).2⟩) (Cert.Reference3Ideal.Value.run (F := Ideal) m' g')
  refine ((h c).1.trans (Cert.Reference3Ideal.Read.val_main_v3_eq _ _)).trans ?_
  rw [(hagree c).1, (hagree c).2]
  exact (Cert.Kernel3Ideal.Proj.result_eq m c).symm

/-! ## The indexer's columns of the combined projection -/

/-- The two programs' bodies have one text. -/
theorem bodies4 : Cert.Kernel4.defs₀ (F := Bits) = Cert.Kernel4Ideal.defs₀ (F := Bits) := by
  refine congrArg Defs.onTc (funext fun l => ?_)
  match l with
  | 0 => rfl
  | ⟨_ + 1, h⟩ => exact absurd h (Nat.not_lt.2 (Nat.le_add_left _ _))

/-- So have their definitions. -/
theorem table4 : Cert.Kernel4.defs (F := Bits) = Cert.Kernel4Ideal.defs (F := Bits) :=
  congrArg (Pipeline.defs (Cert.Kernel4Ideal.pcfgs (F := Bits))) bodies4

/-- The kernel runs, leaves its arguments and every counter as they were. -/
theorem frame_k4 : Cert.quiescent_Kernel4 := fun m ρ _ => by
  have h := Cert.Kernel4Ideal.Gen.frame (F := Bits) m ρ
  rw [← table4] at h
  exact h

/-- So does the idealized kernel. -/
theorem frame_ki4 : Cert.quiescent_Kernel4Ideal := fun m ρ _ => Cert.Kernel4Ideal.Gen.frame m ρ

/-- And the reference. -/
theorem frame_ri4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The two results are one array. -/
theorem algebraic4 : Cert.algebraic_Kernel4Ideal_Reference4Ideal := by
  intro m g m' g' _ hagree
  refine ⟨fun c => Cert.Kernel4Ideal.Proj.G m c, (θ_run Cert.Kernel4Ideal.defs _ _).mono (fun r h c => ⟨(h c).1.trans (Cert.Kernel4Ideal.Proj.final m c), (h c).2⟩) (Cert.Kernel4Ideal.Value.run_blocks m g), ?_⟩
  refine (θ_run Cert.Reference4Ideal.defs _ _).mono (fun r h c => ⟨?_, (h c).2⟩) (Cert.Reference4Ideal.Value.run (F := Ideal) m' g')
  refine ((h c).1.trans (Cert.Reference4Ideal.Read.val_main_v5_eq _ _)).trans ?_
  rw [(hagree c).1, (hagree c).2]
  exact (Cert.Kernel4Ideal.Proj.result_eq m c).symm

/-! ## The merge of the two branches -/

/-- The two programs' bodies have one text. -/
theorem bodies5 : Cert.Kernel5.defs₀ (F := Bits) = Cert.Kernel5Ideal.defs₀ (F := Bits) := by
  refine congrArg Defs.onTc (funext fun l => ?_)
  match l with
  | 0 => rfl
  | ⟨_ + 1, h⟩ => exact absurd h (Nat.not_lt.2 (Nat.le_add_left _ _))

/-- So have their definitions. -/
theorem table5 : Cert.Kernel5.defs (F := Bits) = Cert.Kernel5Ideal.defs (F := Bits) :=
  congrArg (Pipeline.defs (Cert.Kernel5Ideal.pcfgs (F := Bits))) bodies5

/-- The kernel runs, leaves its arguments and every counter as they were. -/
theorem frame_k5 : Cert.quiescent_Kernel5 := fun m ρ _ => by
  have h := Cert.Kernel5Ideal.Gen.frame (F := Bits) m ρ
  rw [← table5] at h
  exact h

/-- So does the idealized kernel. -/
theorem frame_ki5 : Cert.quiescent_Kernel5Ideal := fun m ρ _ => Cert.Kernel5Ideal.Gen.frame m ρ

/-- And the reference. -/
theorem frame_ri5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The two results are one array. -/
theorem algebraic5 : Cert.algebraic_Kernel5Ideal_Reference5Ideal := by
  intro m g m' g' _ hagree
  refine ⟨fun c => Cert.Kernel5Ideal.Merge.G m c, (θ_run Cert.Kernel5Ideal.defs _ _).mono (fun r h c => ⟨(h c).1.trans (Cert.Kernel5Ideal.Merge.final m c), (h c).2⟩) (Cert.Kernel5Ideal.Value.run_blocks m g), ?_⟩
  refine (θ_run Cert.Reference5Ideal.defs _ _).mono (fun r h c => ⟨?_, (h c).2⟩) (Cert.Reference5Ideal.Value.run (F := Ideal) m' g')
  refine ((h c).1.trans (Cert.Reference5Ideal.Read.val_main_v22_eq _ _ _ _ _)).trans ?_
  rw [(hagree c).1, (hagree c).2.1, (hagree c).2.2.1, (hagree c).2.2.2.1, (hagree c).2.2.2.2]
  exact (Cert.Kernel5Ideal.Merge.result_eq m c).symm

/-! ## The norm before the mixers -/

/-- The two programs' bodies have one text. -/
theorem bodies7 : Cert.Kernel7.defs₀ (F := Bits) = Cert.Kernel7Ideal.defs₀ (F := Bits) := by
  refine congrArg Defs.onTc (funext fun l => ?_)
  match l with
  | 0 => rfl
  | ⟨_ + 1, h⟩ => exact absurd h (Nat.not_lt.2 (Nat.le_add_left _ _))

/-- So have their definitions. -/
theorem table7 : Cert.Kernel7.defs (F := Bits) = Cert.Kernel7Ideal.defs (F := Bits) :=
  congrArg (Pipeline.defs (Cert.Kernel7Ideal.pcfgs (F := Bits))) bodies7

/-- The kernel runs, leaves its arguments and every counter as they were. -/
theorem frame_k7 : Cert.quiescent_Kernel7 := fun m ρ _ => by
  have h := Cert.Kernel7Ideal.Gen.frame (F := Bits) m ρ
  rw [← table7] at h
  exact h

/-- So does the idealized kernel. -/
theorem frame_ki7 : Cert.quiescent_Kernel7Ideal := fun m ρ _ => Cert.Kernel7Ideal.Gen.frame m ρ

/-- And the reference. -/
theorem frame_ri7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The two results are one array. -/
theorem algebraic7 : Cert.algebraic_Kernel7Ideal_Reference7Ideal := by
  intro m g m' g' _ hagree
  refine ⟨fun c => Cert.Kernel7Ideal.Norm.G m c, (θ_run Cert.Kernel7Ideal.defs _ _).mono (fun r h c => ⟨(h c).1.trans (Cert.Kernel7Ideal.Norm.final m c), (h c).2⟩) (Cert.Kernel7Ideal.Value.run_blocks m g), ?_⟩
  refine (θ_run Cert.Reference7Ideal.defs _ _).mono (fun r h c => ⟨?_, (h c).2⟩) (Cert.Reference7Ideal.Value.run (F := Ideal) m' g')
  refine ((h c).1.trans (Cert.Reference7Ideal.Read.val_main_v25_eq _ _ _)).trans ?_
  rw [(hagree c).1, (hagree c).2.1, (hagree c).2.2]
  exact (Cert.Kernel7Ideal.Norm.result_eq m c).symm

/-! ## The experts' rows joined, the last residual and the last norm -/

/-- The two programs' bodies have one text. -/
theorem bodies8 : Cert.Kernel8.defs₀ (F := Bits) = Cert.Kernel8Ideal.defs₀ (F := Bits) := by
  refine congrArg Defs.onTc (funext fun l => ?_)
  match l with
  | 0 => rfl
  | ⟨_ + 1, h⟩ => exact absurd h (Nat.not_lt.2 (Nat.le_add_left _ _))

/-- So have their definitions. -/
theorem table8 : Cert.Kernel8.defs (F := Bits) = Cert.Kernel8Ideal.defs (F := Bits) :=
  congrArg (Pipeline.defs (Cert.Kernel8Ideal.pcfgs (F := Bits))) bodies8

/-- The kernel runs, leaves its arguments and every counter as they were. -/
theorem frame_k8 : Cert.quiescent_Kernel8 := fun m ρ _ => by
  have h := Cert.Kernel8Ideal.Gen.frame (F := Bits) m ρ
  rw [← table8] at h
  exact h

/-- So does the idealized kernel. -/
theorem frame_ki8 : Cert.quiescent_Kernel8Ideal := fun m ρ _ => Cert.Kernel8Ideal.Gen.frame m ρ

/-- And the reference. -/
theorem frame_ri8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The two results are one array. -/
theorem algebraic8 : Cert.algebraic_Kernel8Ideal_Reference8Ideal := by
  intro m g m' g' _ hagree
  refine ⟨fun c => Cert.Kernel8Ideal.Final.G m c, (θ_run Cert.Kernel8Ideal.defs _ _).mono (fun r h c => ⟨(h c).1.trans (Cert.Kernel8Ideal.Final.final m c), (h c).2⟩) (Cert.Kernel8Ideal.Value.run_blocks m g), ?_⟩
  refine (θ_run Cert.Reference8Ideal.defs _ _).mono (fun r h c => ⟨?_, (h c).2⟩) (Cert.Reference8Ideal.Value.run (F := Ideal) m' g')
  refine ((h c).1.trans (Cert.Reference8Ideal.Read.val_main_v30_eq _ _ _ _ _)).trans ?_
  rw [(hagree c).1, (hagree c).2.1, (hagree c).2.2.1, (hagree c).2.2.2.1, (hagree c).2.2.2.2]
  exact (Cert.Kernel8Ideal.Final.result_eq m c).symm

/-! ## The router's logits -/

/-- The two programs' bodies have one text. -/
theorem bodies9 : Cert.Kernel9.defs₀ (F := Bits) = Cert.Kernel9Ideal.defs₀ (F := Bits) := by
  refine congrArg Defs.onTc (funext fun l => ?_)
  match l with
  | 0 => rfl
  | ⟨_ + 1, h⟩ => exact absurd h (Nat.not_lt.2 (Nat.le_add_left _ _))

/-- So have their definitions. -/
theorem table9 : Cert.Kernel9.defs (F := Bits) = Cert.Kernel9Ideal.defs (F := Bits) :=
  congrArg (Pipeline.defs (Cert.Kernel9Ideal.pcfgs (F := Bits))) bodies9

/-- The kernel runs, leaves its arguments and every counter as they were. -/
theorem frame_k9 : Cert.quiescent_Kernel9 := fun m ρ _ => by
  have h := Cert.Kernel9Ideal.Gen.frame (F := Bits) m ρ
  rw [← table9] at h
  exact h

/-- So does the idealized kernel. -/
theorem frame_ki9 : Cert.quiescent_Kernel9Ideal := fun m ρ _ => Cert.Kernel9Ideal.Gen.frame m ρ

/-- And the reference. -/
theorem frame_ri9 : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The two results are one array. -/
theorem algebraic9 : Cert.algebraic_Kernel9Ideal_Reference9Ideal := by
  intro m g m' g' _ hagree
  refine ⟨fun c => Cert.Kernel9Ideal.Router.G (Cert.Kernel9Ideal.Router.x m c) (Cert.Kernel9Ideal.Router.wg m c) (Cert.Kernel9Ideal.Router.bg m c) (Cert.Kernel9Ideal.Router.we m c) (Cert.Kernel9Ideal.Router.be m c), (θ_run Cert.Kernel9Ideal.defs _ _).mono (fun r h c => ⟨(h c).1.trans (Cert.Kernel9Ideal.Router.final m c), (h c).2⟩) (Cert.Kernel9Ideal.Value.run_blocks m g), ?_⟩
  refine (θ_run Cert.Reference9Ideal.defs _ _).mono (fun r h c => ⟨?_, (h c).2⟩) (Cert.Reference9Ideal.Value.run (F := Ideal) m' g')
  refine ((h c).1.trans (Cert.Reference9Ideal.Read.val_main_v14_eq _ _ _ _ _)).trans ?_
  rw [(hagree c).1, (hagree c).2.1, (hagree c).2.2.1, (hagree c).2.2.2.1, (hagree c).2.2.2.2]
  exact (Cert.Kernel9Ideal.Router.result_eq _ _ _ _ _).symm

/-! ## The output projection, its residual and the norm that follows -/

/-- The two programs' bodies have one text. -/
theorem bodies6 : Cert.Kernel6.defs₀ (F := Bits) = Cert.Kernel6Ideal.defs₀ (F := Bits) := by
  refine congrArg Defs.onTc (funext fun l => ?_)
  match l with
  | 0 => rfl
  | ⟨_ + 1, h⟩ => exact absurd h (Nat.not_lt.2 (Nat.le_add_left _ _))

/-- So have their definitions. -/
theorem table6 : Cert.Kernel6.defs (F := Bits) = Cert.Kernel6Ideal.defs (F := Bits) :=
  congrArg (Pipeline.defs (Cert.Kernel6Ideal.pcfgs (F := Bits))) bodies6

/-- The kernel runs, leaves its arguments and every counter as they were. -/
theorem frame_k6 : Cert.quiescent_Kernel6 := fun m ρ _ => by
  have h := Cert.Kernel6Ideal.Post.kept (F := Bits) m ρ
  rw [← table6] at h
  exact h

/-- So does the idealized kernel. -/
theorem frame_ki6 : Cert.quiescent_Kernel6Ideal := fun m ρ _ => Cert.Kernel6Ideal.Post.kept m ρ

/-- And the reference. -/
theorem frame_ri6 : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

/-- The two results are the reference's. -/
theorem algebraic6 : Cert.algebraic_Kernel6Ideal_Reference6Ideal := by
  intro m g m' g' _ hagree
  refine ⟨fun c => Cert.Kernel6Ideal.Post.G7 m c, fun c => Cert.Kernel6Ideal.Post.G8 m c, (θ_run Cert.Kernel6Ideal.defs _ _).mono
    (fun r h c => ⟨(h c).1.trans (Cert.Kernel6Ideal.Post.final7 m c), (h c).2.1.trans (Cert.Kernel6Ideal.Post.final8 m c), (h c).2.2⟩) (Cert.Kernel6Ideal.Post.results m g), ?_⟩
  refine (θ_run Cert.Reference6Ideal.defs _ _).mono (fun r h c => ⟨?_, ?_, (h c).2.2⟩) (Cert.Reference6Ideal.Value.run (F := Ideal) m' g')
  · refine ((h c).1.trans (Cert.Reference6Ideal.Read.val_main_v31_eq _ _ _ _)).trans ?_
    rw [(hagree c).1, (hagree c).2.1, (hagree c).2.2.1, (hagree c).2.2.2.1]
    exact (Cert.Kernel6Ideal.Post.result7_eq m c).symm
  · refine ((h c).2.1.trans (Cert.Reference6Ideal.Read.val_main_v33_eq _ _ _ _ _)).trans ?_
    rw [(hagree c).1, (hagree c).2.1, (hagree c).2.2.1, (hagree c).2.2.2.1, (hagree c).2.2.2.2]
    exact (Cert.Kernel6Ideal.Post.result8_eq m c).symm

/-! ## The modulation -/

/-- The two programs' bodies have one text. -/
theorem bodies10 : Cert.Kernel10.defs₀ (F := Bits) = Cert.Kernel10Ideal.defs₀ (F := Bits) := by
  refine congrArg Defs.onTc (funext fun l => ?_)
  match l with
  | 0 => rfl
  | ⟨_ + 1, h⟩ => exact absurd h (Nat.not_lt.2 (Nat.le_add_left _ _))

/-- So have their definitions. -/
theorem table10 : Cert.Kernel10.defs (F := Bits) = Cert.Kernel10Ideal.defs (F := Bits) :=
  congrArg (Pipeline.defs (Cert.Kernel10Ideal.pcfgs (F := Bits))) bodies10

/-- The kernel runs, leaves its arguments and every counter as they were. -/
theorem frame_k10 : Cert.quiescent_Kernel10 := fun m ρ _ => by
  have h := Cert.Kernel10Ideal.Gen.frame (F := Bits) m ρ
  rw [← table10] at h
  exact h

/-- So does the idealized kernel. -/
theorem frame_ki10 : Cert.quiescent_Kernel10Ideal := fun m ρ _ => Cert.Kernel10Ideal.Gen.frame m ρ

/-- And the reference. -/
theorem frame_ri10 : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The two results are one array. -/
theorem algebraic10 : Cert.algebraic_Kernel10Ideal_Reference10Ideal := by
  intro m g m' g' _ hagree
  refine ⟨fun c => Cert.Kernel10Ideal.Ada.G m c, (θ_run Cert.Kernel10Ideal.defs _ _).mono (fun r h c => ⟨(h c).1.trans (Cert.Kernel10Ideal.Ada.final m c), (h c).2⟩) (Cert.Kernel10Ideal.Value.run_blocks m g), ?_⟩
  refine (θ_run Cert.Reference10Ideal.defs _ _).mono (fun r h c => ⟨?_, (h c).2⟩) (Cert.Reference10Ideal.Value.run (F := Ideal) m' g')
  refine ((h c).1.trans (Cert.Reference10Ideal.Read.val_main_v5_eq _ _ _)).trans ?_
  rw [(hagree c).1, (hagree c).2.1, (hagree c).2.2]
  exact (Cert.Kernel10Ideal.Ada.result_eq m c).symm

/-! ## The router's logits, the choice of experts and their weights -/

/-- The two programs' bodies have one text. -/
theorem bodies11 : Cert.Kernel11.defs₀ (F := Bits) = Cert.Kernel11Ideal.defs₀ (F := Bits) := by
  refine congrArg Defs.onTc (funext fun l => ?_)
  match l with
  | 0 => rfl
  | ⟨_ + 1, h⟩ => exact absurd h (Nat.not_lt.2 (Nat.le_add_left _ _))

/-- So have their definitions. -/
theorem table11 : Cert.Kernel11.defs (F := Bits) = Cert.Kernel11Ideal.defs (F := Bits) :=
  congrArg (Pipeline.defs (Cert.Kernel11Ideal.pcfgs (F := Bits))) bodies11

set_option maxHeartbeats 4000000 in
/-- The kernel runs, leaves its arguments and every counter as they were. -/
theorem frame_k11 : Cert.quiescent_Kernel11 := fun m ρ _ => by
  have h := Cert.Kernel11Ideal.Gen.frame (F := Bits) m ρ
  rw [← table11] at h
  exact h

/-- So does the idealized kernel. -/
theorem frame_ki11 : Cert.quiescent_Kernel11Ideal := fun m ρ _ => Cert.Kernel11Ideal.Gen.frame m ρ

/-- And the reference. -/
theorem frame_ri11 : Cert.quiescent_Reference11Ideal := fun m ρ _ =>
  (θ_run Cert.Reference11Ideal.defs _ _).mono
    (fun r h => ⟨fun c => (h c).2.2, Idealize.ShloMosaic.sem_eq_zero_of_no_sems (by decide) r.2⟩)
    (Cert.Reference11Ideal.Choose.run (F := Ideal) m ρ)

/-- The two results are the reference's. -/
theorem algebraic11 : Cert.algebraic_Kernel11Ideal_Reference11Ideal := by
  intro m g m' g' _ hagree
  refine ⟨_, _, Cert.Kernel11Ideal.Choice.run m g, ?_⟩
  refine (θ_run Cert.Reference11Ideal.defs _ _).mono (fun r h c => ⟨(h c).1.trans ?_, (h c).2.1.trans ?_, (h c).2.2⟩) (Cert.Reference11Ideal.Choose.run (F := Ideal) m' g')
  · rw [(hagree c).1, (hagree c).2.1, (hagree c).2.2.1, (hagree c).2.2.2.1, (hagree c).2.2.2.2]
  · rw [(hagree c).1, (hagree c).2.1, (hagree c).2.2.1, (hagree c).2.2.2.1, (hagree c).2.2.2.2]

/-- The certificate's claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel7.Gen.facts, Cert.Kernel7Ideal.Gen.facts, Cert.Reference7Ideal.Gen.facts,
  Cert.Kernel6.Gen.facts, Cert.Kernel6Ideal.Gen.facts, Cert.Reference6Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Band.finiteFacts,
  frame_k, frame_ki, fun m g _ => frame_ki m g trivial, frame_ri, fun m g _ => frame_ri m g trivial,
  frame_k2, frame_ki2, frame_ri2,
  frame_k3, frame_ki3, frame_ri3,
  frame_k4, frame_ki4, frame_ri4,
  frame_k5, frame_ki5, frame_ri5,
  frame_k7, frame_ki7, frame_ri7,
  frame_k6, frame_ki6, frame_ri6,
  frame_k8, frame_ki8, frame_ri8,
  frame_k9, frame_ki9, frame_ri9,
  frame_k10, frame_ki10, frame_ri10,
  frame_k11, frame_ki11, frame_ri11,
  preserves, algebraic,
  trivial, algebraic2,
  trivial, algebraic3,
  trivial, algebraic4,
  trivial, algebraic5,
  trivial, algebraic7,
  trivial, algebraic6,
  trivial, algebraic8,
  trivial, algebraic9,
  trivial, algebraic10,
  trivial, algebraic11⟩

end Cert.Proof

end
